-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ssm [hPre_finite_ssm : Cert.Pre_finite_ssm.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ssm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ssm [hPre_finite_ssm : Cert.Pre_finite_ssm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ssm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_RestKernel (m : (ℓ : Loc Cert.RestKernel.nD Cert.RestKernel.τ Cert.RestKernel.sig) → Buf (Elt Bits) ℓ) : Prop :=
  True

def Pre_RestKernelIdeal (m : (ℓ : Loc Cert.RestKernelIdeal.nD Cert.RestKernelIdeal.τ Cert.RestKernelIdeal.sig) → Buf (Elt Ideal) ℓ) : Prop :=
  True

def Pre_RestReferenceIdeal (m : (ℓ : Loc Cert.RestReferenceIdeal.nD Cert.RestReferenceIdeal.τ Cert.RestReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_SampleKernel (m : (ℓ : Loc Cert.SampleKernel.nD Cert.SampleKernel.τ Cert.SampleKernel.sig) → Buf (Elt Bits) ℓ) : Prop :=
  True

def Pre_SampleKernelIdeal (m : (ℓ : Loc Cert.SampleKernelIdeal.nD Cert.SampleKernelIdeal.τ Cert.SampleKernelIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_ssm [hKernelIdeal : Cert.KernelIdeal.Facts] [hPre_finite_ssm : Cert.Pre_finite_ssm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ssm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_ssm [hReferenceIdeal : Cert.ReferenceIdeal.Facts] [hPre_finite_ssm : Cert.Pre_finite_ssm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ssm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_RestKernel [hRestKernel : Cert.RestKernel.Facts] : Prop :=
  ∀ (m : (ℓ : Loc Cert.RestKernel.nD Cert.RestKernel.τ Cert.RestKernel.sig) → Buf (Elt Bits) ℓ) (g : Dev Cert.RestKernel.nD → PrngReg), Pre_RestKernel m →
    θ_run (Cert.RestKernel.defs (F := Bits)) (onTc (τ := Cert.RestKernel.τ) (Cert.RestKernel.main (F := Bits))) ⟨m, fun _ => 0, g⟩ (fun r => (∀ c : Dev Cert.RestKernel.nD,
      r.2.mem ((c.tc : Thread Cert.RestKernel.nD Cert.RestKernel.τ).loc Cert.RestKernel.main_arg0) = m ((c.tc : Thread Cert.RestKernel.nD Cert.RestKernel.τ).loc Cert.RestKernel.main_arg0)
      ∧ r.2.mem ((c.tc : Thread Cert.RestKernel.nD Cert.RestKernel.τ).loc Cert.RestKernel.main_arg1) = m ((c.tc : Thread Cert.RestKernel.nD Cert.RestKernel.τ).loc Cert.RestKernel.main_arg1))
      ∧ r.2.sem = fun _ => 0)

def quiescent_RestKernelIdeal [hRestKernelIdeal : Cert.RestKernelIdeal.Facts] : Prop :=
  ∀ (m : (ℓ : Loc Cert.RestKernelIdeal.nD Cert.RestKernelIdeal.τ Cert.RestKernelIdeal.sig) → Buf (Elt Ideal) ℓ) (g : Dev Cert.RestKernelIdeal.nD → PrngReg), Pre_RestKernelIdeal m →
    θ_run (Cert.RestKernelIdeal.defs (F := Ideal)) (onTc (τ := Cert.RestKernelIdeal.τ) (Cert.RestKernelIdeal.main (F := Ideal))) ⟨m, fun _ => 0, g⟩ (fun r => (∀ c : Dev Cert.RestKernelIdeal.nD,
      r.2.mem ((c.tc : Thread Cert.RestKernelIdeal.nD Cert.RestKernelIdeal.τ).loc Cert.RestKernelIdeal.main_arg0) = m ((c.tc : Thread Cert.RestKernelIdeal.nD Cert.RestKernelIdeal.τ).loc Cert.RestKernelIdeal.main_arg0)
      ∧ r.2.mem ((c.tc : Thread Cert.RestKernelIdeal.nD Cert.RestKernelIdeal.τ).loc Cert.RestKernelIdeal.main_arg1) = m ((c.tc : Thread Cert.RestKernelIdeal.nD Cert.RestKernelIdeal.τ).loc Cert.RestKernelIdeal.main_arg1))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_SampleKernel [hSampleKernel : Cert.SampleKernel.Facts] : Prop :=
  ∀ (m : (ℓ : Loc Cert.SampleKernel.nD Cert.SampleKernel.τ Cert.SampleKernel.sig) → Buf (Elt Bits) ℓ) (g : Dev Cert.SampleKernel.nD → PrngReg), Pre_SampleKernel m →
    θ_run (Cert.SampleKernel.defs (F := Bits)) (onTc (τ := Cert.SampleKernel.τ) (Cert.SampleKernel.main (F := Bits))) ⟨m, fun _ => 0, g⟩ (fun r => (∀ c : Dev Cert.SampleKernel.nD,
      r.2.mem ((c.tc : Thread Cert.SampleKernel.nD Cert.SampleKernel.τ).loc Cert.SampleKernel.main_arg0) = m ((c.tc : Thread Cert.SampleKernel.nD Cert.SampleKernel.τ).loc Cert.SampleKernel.main_arg0)
      ∧ r.2.mem ((c.tc : Thread Cert.SampleKernel.nD Cert.SampleKernel.τ).loc Cert.SampleKernel.main_arg1) = m ((c.tc : Thread Cert.SampleKernel.nD Cert.SampleKernel.τ).loc Cert.SampleKernel.main_arg1)
      ∧ r.2.mem ((c.tc : Thread Cert.SampleKernel.nD Cert.SampleKernel.τ).loc Cert.SampleKernel.main_arg2) = m ((c.tc : Thread Cert.SampleKernel.nD Cert.SampleKernel.τ).loc Cert.SampleKernel.main_arg2))
      ∧ r.2.sem = fun _ => 0)

def quiescent_SampleKernelIdeal [hSampleKernelIdeal : Cert.SampleKernelIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg), Pre_SampleKernelIdeal m →
    θ_run (Cert.SampleKernelIdeal.defs (F := Ideal)) (onTc (τ := Cert.SampleKernelIdeal.τ) (Cert.SampleKernelIdeal.main (F := Ideal))) ⟨m, fun _ => 0, g⟩ (fun r => (∀ c : Dev Cert.SampleKernelIdeal.nD,
      r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
      ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
      ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2))
      ∧ r.2.sem = fun _ => 0)

def preserves_Kernel_KernelIdeal : Prop :=
  True

def algebraic_KernelIdeal_ReferenceIdeal_pre_finite_ssm [hKernelIdeal : Cert.KernelIdeal.Facts] [hReferenceIdeal : Cert.ReferenceIdeal.Facts] [hPre_finite_ssm : Cert.Pre_finite_ssm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ssm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_RestKernel_RestKernelIdeal : Prop :=
  True

def algebraic_RestKernelIdeal_RestReferenceIdeal [hRestKernelIdeal : Cert.RestKernelIdeal.Facts] [hRestReferenceIdeal : Cert.RestReferenceIdeal.Facts] : Prop :=
  ∀ (m : (ℓ : Loc Cert.RestKernelIdeal.nD Cert.RestKernelIdeal.τ Cert.RestKernelIdeal.sig) → Buf (Elt Ideal) ℓ) (g : Dev Cert.RestKernelIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestKernelIdeal m →
    (∀ c : Dev Cert.RestKernelIdeal.nD,
      m' ((c.tc : Thread Cert.RestReferenceIdeal.nD Cert.RestReferenceIdeal.τ).loc Cert.RestReferenceIdeal.main_arg0) = m ((c.tc : Thread Cert.RestKernelIdeal.nD Cert.RestKernelIdeal.τ).loc Cert.RestKernelIdeal.main_arg0)
      ∧ m' ((c.tc : Thread Cert.RestReferenceIdeal.nD Cert.RestReferenceIdeal.τ).loc Cert.RestReferenceIdeal.main_arg1) = m ((c.tc : Thread Cert.RestKernelIdeal.nD Cert.RestKernelIdeal.τ).loc Cert.RestKernelIdeal.main_arg1)) →
    ∃ (v0 : (c : Dev Cert.RestKernelIdeal.nD) → Buf (Elt Ideal) ((c.tc : Thread Cert.RestKernelIdeal.nD Cert.RestKernelIdeal.τ).loc Cert.RestKernelIdeal.main_v3)),
      θ_run (Cert.RestKernelIdeal.defs (F := Ideal)) (onTc (τ := Cert.RestKernelIdeal.τ) (Cert.RestKernelIdeal.main (F := Ideal))) ⟨m, fun _ => 0, g⟩ (fun r => ∀ c : Dev Cert.RestKernelIdeal.nD,
          r.2.mem ((c.tc : Thread Cert.RestKernelIdeal.nD Cert.RestKernelIdeal.τ).loc Cert.RestKernelIdeal.main_v3) = v0 c
          ∧ r.2.mem ((c.tc : Thread Cert.RestKernelIdeal.nD Cert.RestKernelIdeal.τ).loc Cert.RestKernelIdeal.main_arg0) = m ((c.tc : Thread Cert.RestKernelIdeal.nD Cert.RestKernelIdeal.τ).loc Cert.RestKernelIdeal.main_arg0)
          ∧ r.2.mem ((c.tc : Thread Cert.RestKernelIdeal.nD Cert.RestKernelIdeal.τ).loc Cert.RestKernelIdeal.main_arg1) = m ((c.tc : Thread Cert.RestKernelIdeal.nD Cert.RestKernelIdeal.τ).loc Cert.RestKernelIdeal.main_arg1))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v4) = v0 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v5) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)) →
    ∃ (v0 : (c : Dev Cert.GluKernelIdeal.nD) → Buf (Elt Ideal) ((c.tc : Thread Cert.GluKernelIdeal.nD Cert.GluKernelIdeal.τ).loc Cert.GluKernelIdeal.main_v2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v2) = v0 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v18) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v4) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v19) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v2)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)) →
    ∃ (v0 : (c : Dev Cert.PostKernelIdeal.nD) → Buf (Elt Ideal) ((c.tc : Thread Cert.PostKernelIdeal.nD Cert.PostKernelIdeal.τ).loc Cert.PostKernelIdeal.main_v4)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v4) = v0 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v18) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v16) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_SampleKernel_SampleKernelIdeal : Prop :=
  True

def algebraic_SampleKernelIdeal_SampleReferenceIdeal [hSampleKernelIdeal : Cert.SampleKernelIdeal.Facts] [hSampleReferenceIdeal : Cert.SampleReferenceIdeal.Facts] : Prop :=
  ∀ (m : (ℓ : Loc Cert.SampleKernelIdeal.nD Cert.SampleKernelIdeal.τ Cert.SampleKernelIdeal.sig) → Buf (Elt Ideal) ℓ) (g : Dev Cert.SampleKernelIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleKernelIdeal m →
    (∀ c : Dev Cert.SampleKernelIdeal.nD,
      m' ((c.tc : Thread Cert.SampleReferenceIdeal.nD Cert.SampleReferenceIdeal.τ).loc Cert.SampleReferenceIdeal.main_arg0) = m ((c.tc : Thread Cert.SampleKernelIdeal.nD Cert.SampleKernelIdeal.τ).loc Cert.SampleKernelIdeal.main_arg0)
      ∧ m' ((c.tc : Thread Cert.SampleReferenceIdeal.nD Cert.SampleReferenceIdeal.τ).loc Cert.SampleReferenceIdeal.main_arg1) = m ((c.tc : Thread Cert.SampleKernelIdeal.nD Cert.SampleKernelIdeal.τ).loc Cert.SampleKernelIdeal.main_arg1)
      ∧ m' ((c.tc : Thread Cert.SampleReferenceIdeal.nD Cert.SampleReferenceIdeal.τ).loc Cert.SampleReferenceIdeal.main_arg2) = m ((c.tc : Thread Cert.SampleKernelIdeal.nD Cert.SampleKernelIdeal.τ).loc Cert.SampleKernelIdeal.main_arg2)) →
    ∃ (v0 : (c : Dev Cert.SampleKernelIdeal.nD) → Buf (Elt Ideal) ((c.tc : Thread Cert.SampleKernelIdeal.nD Cert.SampleKernelIdeal.τ).loc Cert.SampleKernelIdeal.main_v4)),
      θ_run (Cert.SampleKernelIdeal.defs (F := Ideal)) (onTc (τ := Cert.SampleKernelIdeal.τ) (Cert.SampleKernelIdeal.main (F := Ideal))) ⟨m, fun _ => 0, g⟩ (fun r => ∀ c : Dev Cert.SampleKernelIdeal.nD,
          r.2.mem ((c.tc : Thread Cert.SampleKernelIdeal.nD Cert.SampleKernelIdeal.τ).loc Cert.SampleKernelIdeal.main_v4) = v0 c
          ∧ r.2.mem ((c.tc : Thread Cert.SampleKernelIdeal.nD Cert.SampleKernelIdeal.τ).loc Cert.SampleKernelIdeal.main_arg0) = m ((c.tc : Thread Cert.SampleKernelIdeal.nD Cert.SampleKernelIdeal.τ).loc Cert.SampleKernelIdeal.main_arg0)
          ∧ r.2.mem ((c.tc : Thread Cert.SampleKernelIdeal.nD Cert.SampleKernelIdeal.τ).loc Cert.SampleKernelIdeal.main_arg1) = m ((c.tc : Thread Cert.SampleKernelIdeal.nD Cert.SampleKernelIdeal.τ).loc Cert.SampleKernelIdeal.main_arg1)
          ∧ r.2.mem ((c.tc : Thread Cert.SampleKernelIdeal.nD Cert.SampleKernelIdeal.τ).loc Cert.SampleKernelIdeal.main_arg2) = m ((c.tc : Thread Cert.SampleKernelIdeal.nD Cert.SampleKernelIdeal.τ).loc Cert.SampleKernelIdeal.main_arg2))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v18) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2))

def Claim : Prop :=
  ∃ (hKernel : Cert.Kernel.Facts) (hKernelIdeal : Cert.KernelIdeal.Facts) (hReferenceIdeal : Cert.ReferenceIdeal.Facts) (hRestKernel : Cert.RestKernel.Facts) (hRestKernelIdeal : Cert.RestKernelIdeal.Facts) (hRestReferenceIdeal : Cert.RestReferenceIdeal.Facts) (hProjKernel : Cert.ProjKernel.Facts) (hProjKernelIdeal : Cert.ProjKernelIdeal.Facts) (hProjReferenceIdeal : Cert.ProjReferenceIdeal.Facts) (hGluKernel : Cert.GluKernel.Facts) (hGluKernelIdeal : Cert.GluKernelIdeal.Facts) (hGluReferenceIdeal : Cert.GluReferenceIdeal.Facts) (hMergeKernel : Cert.MergeKernel.Facts) (hMergeKernelIdeal : Cert.MergeKernelIdeal.Facts) (hMergeReferenceIdeal : Cert.MergeReferenceIdeal.Facts) (hOutKernel : Cert.OutKernel.Facts) (hOutKernelIdeal : Cert.OutKernelIdeal.Facts) (hOutReferenceIdeal : Cert.OutReferenceIdeal.Facts) (hPostKernel : Cert.PostKernel.Facts) (hPostKernelIdeal : Cert.PostKernelIdeal.Facts) (hPostReferenceIdeal : Cert.PostReferenceIdeal.Facts) (hNormKernel : Cert.NormKernel.Facts) (hNormKernelIdeal : Cert.NormKernelIdeal.Facts) (hNormReferenceIdeal : Cert.NormReferenceIdeal.Facts) (hSampleKernel : Cert.SampleKernel.Facts) (hSampleKernelIdeal : Cert.SampleKernelIdeal.Facts) (hSampleReferenceIdeal : Cert.SampleReferenceIdeal.Facts) (hPre_finite_ssm : Cert.Pre_finite_ssm.Facts),
    quiescent_Kernel (hKernel := hKernel)
    ∧ quiescent_KernelIdeal (hKernelIdeal := hKernelIdeal)
    ∧ quiescent_KernelIdeal_pre_finite_ssm (hKernelIdeal := hKernelIdeal) (hPre_finite_ssm := hPre_finite_ssm)
    ∧ quiescent_ReferenceIdeal (hReferenceIdeal := hReferenceIdeal)
    ∧ quiescent_ReferenceIdeal_pre_finite_ssm (hReferenceIdeal := hReferenceIdeal) (hPre_finite_ssm := hPre_finite_ssm)
    ∧ quiescent_RestKernel (hRestKernel := hRestKernel)
    ∧ quiescent_RestKernelIdeal (hRestKernelIdeal := hRestKernelIdeal)
    ∧ quiescent_RestReferenceIdeal (hRestReferenceIdeal := hRestReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_SampleKernel (hSampleKernel := hSampleKernel)
    ∧ quiescent_SampleKernelIdeal (hSampleKernelIdeal := hSampleKernelIdeal)
    ∧ quiescent_SampleReferenceIdeal (hSampleReferenceIdeal := hSampleReferenceIdeal)
    ∧ preserves_Kernel_KernelIdeal
    ∧ algebraic_KernelIdeal_ReferenceIdeal_pre_finite_ssm (hKernelIdeal := hKernelIdeal) (hReferenceIdeal := hReferenceIdeal) (hPre_finite_ssm := hPre_finite_ssm)
    ∧ preserves_RestKernel_RestKernelIdeal
    ∧ algebraic_RestKernelIdeal_RestReferenceIdeal (hRestKernelIdeal := hRestKernelIdeal) (hRestReferenceIdeal := hRestReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_GluKernel_GluKernelIdeal
    ∧ algebraic_GluKernelIdeal_GluReferenceIdeal (hGluKernelIdeal := hGluKernelIdeal) (hGluReferenceIdeal := hGluReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutKernel_OutKernelIdeal
    ∧ algebraic_OutKernelIdeal_OutReferenceIdeal (hOutKernelIdeal := hOutKernelIdeal) (hOutReferenceIdeal := hOutReferenceIdeal)
    ∧ preserves_PostKernel_PostKernelIdeal
    ∧ algebraic_PostKernelIdeal_PostReferenceIdeal (hPostKernelIdeal := hPostKernelIdeal) (hPostReferenceIdeal := hPostReferenceIdeal)
    ∧ preserves_NormKernel_NormKernelIdeal
    ∧ algebraic_NormKernelIdeal_NormReferenceIdeal (hNormKernelIdeal := hNormKernelIdeal) (hNormReferenceIdeal := hNormReferenceIdeal)
    ∧ preserves_SampleKernel_SampleKernelIdeal
    ∧ algebraic_SampleKernelIdeal_SampleReferenceIdeal (hSampleKernelIdeal := hSampleKernelIdeal) (hSampleReferenceIdeal := hSampleReferenceIdeal)
-- ==== Pre_finite_ssm.lean ====
abbrev S8x2048x2048 : Shape := ⟨3, ![8, 2048, 2048]⟩
abbrev S1x2x128x64 : Shape := ⟨4, ![1, 2, 128, 64]⟩
abbrev S1x2x128 : Shape := ⟨3, ![1, 2, 128]⟩
abbrev S1x2x128x64x16 : Shape := ⟨5, ![1, 2, 128, 64, 16]⟩
abbrev S1x2x128x16x64 : Shape := ⟨5, ![1, 2, 128, 16, 64]⟩
abbrev S1x2048 : Shape := ⟨2, ![1, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S1x2x128x64 : S_.BroadcastsInDim S1x2x128x64 (![] : Fin 0 → Fin S1x2x128x64.rank)
  reducesTo_S1x2x128x64_S_d0_1_2_3 : S1x2x128x64.ReducesTo [0, 1, 2, 3] S_
  bcast_S_S1x2x128 : S_.BroadcastsInDim S1x2x128 (![] : Fin 0 → Fin S1x2x128.rank)
  reducesTo_S1x2x128_S_d0_1_2 : S1x2x128.ReducesTo [0, 1, 2] S_
  bcast_S_S1x2x128x64x16 : S_.BroadcastsInDim S1x2x128x64x16 (![] : Fin 0 → Fin S1x2x128x64x16.rank)
  reducesTo_S1x2x128x64x16_S_d0_1_2_3_4 : S1x2x128x64x16.ReducesTo [0, 1, 2, 3, 4] S_
  bcast_S_S1x2x128x16x64 : S_.BroadcastsInDim S1x2x128x16x64 (![] : Fin 0 → Fin S1x2x128x16x64.rank)
  reducesTo_S1x2x128x16x64_S_d0_1_2_3_4 : S1x2x128x16x64.ReducesTo [0, 1, 2, 3, 4] S_

variable [Facts]

def fn_part2 {F : FTy → Type} [FloatOps F] (main_arg7 : FVec F S1x2x128x16x64 .f32) (main_v33 : IVec S_ 1) : IVec S_ 1 :=
  let main_v34 : FVec F S1x2x128x16x64 .f32 := Host.absf main_arg7
  let main_cst_12 : FVec F S_ .f32 := constant S_ .f32 0x7F800000#32
  let main_v35 : FVec F S1x2x128x16x64 .f32 := broadcastInDim S1x2x128x16x64 ![] bcast_S_S1x2x128x16x64 main_cst_12
  let main_v36 : IVec S1x2x128x16x64 1 := cmpf .olt main_v34 main_v35
  let main_c_13 : IVec S_ 1 := constantI S_ 1 1#1
  let main_v37 : IVec S_ 1 := (fun x v => Host.reduce IntOp.andi x v reducesTo_S1x2x128x16x64_S_d0_1_2_3_4 h_S_) main_v36 main_c_13
  let main_v38 : IVec S_ 1 := andi main_v33 main_v37
  main_v38

def fn_part1 {F : FTy → Type} [FloatOps F] (main_arg4 : FVec F S1x2x128x64x16 .f32) (main_arg5 : FVec F S1x2x128x64x16 .f32) (main_arg6 : FVec F S1x2x128x16x64 .f32) (main_arg7 : FVec F S1x2x128x16x64 .f32) (main_v13 : IVec S_ 1) (main_v16 : IVec S1x2x128 1) : IVec S_ 1 :=
  let main_c_5 : IVec S_ 1 := constantI S_ 1 1#1
  let main_v17 : IVec S_ 1 := (fun x v => Host.reduce IntOp.andi x v reducesTo_S1x2x128_S_d0_1_2 h_S_) main_v16 main_c_5
  let main_v18 : IVec S_ 1 := andi main_v13 main_v17
  let main_v19 : FVec F S1x2x128x64x16 .f32 := Host.absf main_arg4
  let main_cst_6 : FVec F S_ .f32 := constant S_ .f32 0x7F800000#32
  let main_v20 : FVec F S1x2x128x64x16 .f32 := broadcastInDim S1x2x128x64x16 ![] bcast_S_S1x2x128x64x16 main_cst_6
  let main_v21 : IVec S1x2x128x64x16 1 := cmpf .olt main_v19 main_v20
  let main_c_7 : IVec S_ 1 := constantI S_ 1 1#1
  let main_v22 : IVec S_ 1 := (fun x v => Host.reduce IntOp.andi x v reducesTo_S1x2x128x64x16_S_d0_1_2_3_4 h_S_) main_v21 main_c_7
  let main_v23 : IVec S_ 1 := andi main_v18 main_v22
  let main_v24 : FVec F S1x2x128x64x16 .f32 := Host.absf main_arg5
  let main_cst_8 : FVec F S_ .f32 := constant S_ .f32 0x7F800000#32
  let main_v25 : FVec F S1x2x128x64x16 .f32 := broadcastInDim S1x2x128x64x16 ![] bcast_S_S1x2x128x64x16 main_cst_8
  let main_v26 : IVec S1x2x128x64x16 1 := cmpf .olt main_v24 main_v25
  let main_c_9 : IVec S_ 1 := constantI S_ 1 1#1
  let main_v27 : IVec S_ 1 := (fun x v => Host.reduce IntOp.andi x v reducesTo_S1x2x128x64x16_S_d0_1_2_3_4 h_S_) main_v26 main_c_9
  let main_v28 : IVec S_ 1 := andi main_v23 main_v27
  let main_v29 : FVec F S1x2x128x16x64 .f32 := Host.absf main_arg6
  let main_cst_10 : FVec F S_ .f32 := constant S_ .f32 0x7F800000#32
  let main_v30 : FVec F S1x2x128x16x64 .f32 := broadcastInDim S1x2x128x16x64 ![] bcast_S_S1x2x128x16x64 main_cst_10
  let main_v31 : IVec S1x2x128x16x64 1 := cmpf .olt main_v29 main_v30
  let main_c_11 : IVec S_ 1 := constantI S_ 1 1#1
  let main_v32 : IVec S_ 1 := (fun x v => Host.reduce IntOp.andi x v reducesTo_S1x2x128x16x64_S_d0_1_2_3_4 h_S_) main_v31 main_c_11
  let main_v33 : IVec S_ 1 := andi main_v28 main_v32
  fn_part2 (F := F) main_arg7 main_v33

def fn {F : FTy → Type} [FloatOps F] (main_arg0 : FVec F S8x2048x2048 .f32) (main_arg1 : FVec F S1x2x128x64 .f32) (main_arg2 : FVec F S1x2x128x64 .f32) (main_arg3 : FVec F S1x2x128 .f32) (main_arg4 : FVec F S1x2x128x64x16 .f32) (main_arg5 : FVec F S1x2x128x64x16 .f32) (main_arg6 : FVec F S1x2x128x16x64 .f32) (main_arg7 : FVec F S1x2x128x16x64 .f32) (main_arg8 : FVec F S1x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S1x2x128x64 .f32 := Host.absf main_arg1
  let main_cst_0 : FVec F S_ .f32 := constant S_ .f32 0x7F800000#32
  let main_v5 : FVec F S1x2x128x64 .f32 := broadcastInDim S1x2x128x64 ![] bcast_S_S1x2x128x64 main_cst_0
  let main_v6 : IVec S1x2x128x64 1 := cmpf .olt main_v4 main_v5
  let main_c_1 : IVec S_ 1 := constantI S_ 1 1#1
  let main_v7 : IVec S_ 1 := (fun x v => Host.reduce IntOp.andi x v reducesTo_S1x2x128x64_S_d0_1_2_3 h_S_) main_v6 main_c_1
  let main_v8 : IVec S_ 1 := andi main_v3 main_v7
  let main_v9 : FVec F S1x2x128x64 .f32 := Host.absf main_arg2
  let main_cst_2 : FVec F S_ .f32 := constant S_ .f32 0x7F800000#32
  let main_v10 : FVec F S1x2x128x64 .f32 := broadcastInDim S1x2x128x64 ![] bcast_S_S1x2x128x64 main_cst_2
  let main_v11 : IVec S1x2x128x64 1 := cmpf .olt main_v9 main_v10
  let main_c_3 : IVec S_ 1 := constantI S_ 1 1#1
  let main_v12 : IVec S_ 1 := (fun x v => Host.reduce IntOp.andi x v reducesTo_S1x2x128x64_S_d0_1_2_3 h_S_) main_v11 main_c_3
  let main_v13 : IVec S_ 1 := andi main_v8 main_v12
  let main_v14 : FVec F S1x2x128 .f32 := Host.absf main_arg3
  let main_cst_4 : FVec F S_ .f32 := constant S_ .f32 0x7F800000#32
  let main_v15 : FVec F S1x2x128 .f32 := broadcastInDim S1x2x128 ![] bcast_S_S1x2x128 main_cst_4
  let main_v16 : IVec S1x2x128 1 := cmpf .olt main_v14 main_v15
  fn_part1 (F := F) main_arg4 main_arg5 main_arg6 main_arg7 main_v13 main_v16
-- ==== Kernel.lean ====
abbrev S8x2048x2048 : Shape := ⟨3, ![8, 2048, 2048]⟩
abbrev S1x2x128x64 : Shape := ⟨4, ![1, 2, 128, 64]⟩
abbrev S1x2x128 : Shape := ⟨3, ![1, 2, 128]⟩
abbrev S1x2x128x64x16 : Shape := ⟨5, ![1, 2, 128, 64, 16]⟩
abbrev S1x2x128x16x64 : Shape := ⟨5, ![1, 2, 128, 16, 64]⟩
abbrev S1x2048 : Shape := ⟨2, ![1, 2048]⟩
abbrev S128x256 : Shape := ⟨2, ![128, 256]⟩
abbrev S2x128x64 : Shape := ⟨3, ![2, 128, 64]⟩
abbrev S2x128 : Shape := ⟨2, ![2, 128]⟩
abbrev S2x128x64x16 : Shape := ⟨4, ![2, 128, 64, 16]⟩
abbrev S2x128x16x64 : Shape := ⟨4, ![2, 128, 16, 64]⟩
abbrev S2048 : Shape := ⟨1, ![2048]⟩
abbrev S1x128x64 : Shape := ⟨3, ![1, 128, 64]⟩
abbrev S128x64 : Shape := ⟨2, ![128, 64]⟩
abbrev S2x128x1 : Shape := ⟨3, ![2, 128, 1]⟩
abbrev S128x1x256 : Shape := ⟨3, ![128, 1, 256]⟩
abbrev S128x3x256 : Shape := ⟨3, ![128, 3, 256]⟩
abbrev S128x1x16 : Shape := ⟨3, ![128, 1, 16]⟩
abbrev S1x128x1x1x1x16 : Shape := ⟨6, ![1, 128, 1, 1, 1, 16]⟩
abbrev S1x128x16x1x1x16 : Shape := ⟨6, ![1, 128, 16, 1, 1, 16]⟩
abbrev S128x16x16 : Shape := ⟨3, ![128, 16, 16]⟩
abbrev S128x4x256 : Shape := ⟨3, ![128, 4, 256]⟩
abbrev S128x256x4 : Shape := ⟨3, ![128, 256, 4]⟩
abbrev S_ : Shape := ⟨0, ![]⟩
abbrev S128x5x256 : Shape := ⟨3, ![128, 5, 256]⟩
abbrev S128x8x256 : Shape := ⟨3, ![128, 8, 256]⟩
abbrev S1x128x64x16 : Shape := ⟨4, ![1, 128, 64, 16]⟩
abbrev S128x64x16 : Shape := ⟨3, ![128, 64, 16]⟩
abbrev S128x256x16 : Shape := ⟨3, ![128, 256, 16]⟩
abbrev S128x256x128 : Shape := ⟨3, ![128, 256, 128]⟩
abbrev S1x128x16x64 : Shape := ⟨4, ![1, 128, 16, 64]⟩
abbrev S128x16x64 : Shape := ⟨3, ![128, 16, 64]⟩
abbrev S128x16x256 : Shape := ⟨3, ![128, 16, 256]⟩
abbrev S128x256x256 : Shape := ⟨3, ![128, 256, 256]⟩
abbrev S1x256x4 : Shape := ⟨3, ![1, 256, 4]⟩
abbrev S1x8x256 : Shape := ⟨3, ![1, 8, 256]⟩
abbrev S1x256x128 : Shape := ⟨3, ![1, 256, 128]⟩
abbrev S1x16x256 : Shape := ⟨3, ![1, 16, 256]⟩
abbrev S1x256x256 : Shape := ⟨3, ![1, 256, 256]⟩
abbrev S256x1 : Shape := ⟨2, ![256, 1]⟩
abbrev S1x256 : Shape := ⟨2, ![1, 256]⟩
abbrev S256x4 : Shape := ⟨2, ![256, 4]⟩
abbrev S256x128 : Shape := ⟨2, ![256, 128]⟩
abbrev S64x128 : Shape := ⟨2, ![64, 128]⟩
abbrev S256x256 : Shape := ⟨2, ![256, 256]⟩
abbrev S64x256 : Shape := ⟨2, ![64, 256]⟩
abbrev S8x256 : Shape := ⟨2, ![8, 256]⟩
abbrev S16x256 : Shape := ⟨2, ![16, 256]⟩
abbrev S16x64 : Shape := ⟨2, ![16, 64]⟩
abbrev S128x128 : Shape := ⟨2, ![128, 128]⟩
abbrev S1x128 : Shape := ⟨2, ![1, 128]⟩
abbrev S64x1 : Shape := ⟨2, ![64, 1]⟩
abbrev S192x128 : Shape := ⟨2, ![192, 128]⟩
abbrev S1024x16x128x16 : Shape := ⟨4, ![1024, 16, 128, 16]⟩
abbrev S128x16x16x1024 : Shape := ⟨4, ![128, 16, 16, 1024]⟩
abbrev S128x256x1024 : Shape := ⟨3, ![128, 256, 1024]⟩
abbrev S1x256x1024 : Shape := ⟨3, ![1, 256, 1024]⟩
abbrev S256x1024 : Shape := ⟨2, ![256, 1024]⟩
abbrev S64x1024 : Shape := ⟨2, ![64, 1024]⟩
abbrev S1x1024 : Shape := ⟨2, ![1, 1024]⟩

abbrev nBuf : Space → Nat
  | .hbm => 90
  | .vmem => 29
  | .smem => 0
  | _ => 0

abbrev bufTy : (tb : Table) → Fin (tcTables nBuf tb) → BufTy
  | .hbm, ⟨0, _⟩ => ⟨S8x2048x2048, .f32⟩
  | .hbm, ⟨1, _⟩ => ⟨S1x2x128x64, .f32⟩
  | .hbm, ⟨2, _⟩ => ⟨S1x2x128x64, .f32⟩
  | .hbm, ⟨3, _⟩ => ⟨S1x2x128, .f32⟩
  | .hbm, ⟨4, _⟩ => ⟨S1x2x128x64x16, .f32⟩
  | .hbm, ⟨5, _⟩ => ⟨S1x2x128x64x16, .f32⟩
  | .hbm, ⟨6, _⟩ => ⟨S1x2x128x16x64, .f32⟩
  | .hbm, ⟨7, _⟩ => ⟨S1x2x128x16x64, .f32⟩
  | .hbm, ⟨8, _⟩ => ⟨S1x2048, .f32⟩
  | .hbm, ⟨9, _⟩ => ⟨S128x256, .f32⟩
  | .hbm, ⟨10, _⟩ => ⟨S2x128x64, .f32⟩
  | .hbm, ⟨11, _⟩ => ⟨S2x128x64, .f32⟩
  | .hbm, ⟨12, _⟩ => ⟨S2x128, .f32⟩
  | .hbm, ⟨13, _⟩ => ⟨S2x128x64x16, .f32⟩
  | .hbm, ⟨14, _⟩ => ⟨S2x128x64x16, .f32⟩
  | .hbm, ⟨15, _⟩ => ⟨S2x128x16x64, .f32⟩
  | .hbm, ⟨16, _⟩ => ⟨S2x128x16x64, .f32⟩
  | .hbm, ⟨17, _⟩ => ⟨S2048, .f32⟩
  | .hbm, ⟨18, _⟩ => ⟨S1x128x64, .f32⟩
  | .hbm, ⟨19, _⟩ => ⟨S128x64, .f32⟩
  | .hbm, ⟨20, _⟩ => ⟨S1x128x64, .f32⟩
  | .hbm, ⟨21, _⟩ => ⟨S128x64, .f32⟩
  | .hbm, ⟨22, _⟩ => ⟨S1x128x64, .f32⟩
  | .hbm, ⟨23, _⟩ => ⟨S128x64, .f32⟩
  | .hbm, ⟨24, _⟩ => ⟨S1x128x64, .f32⟩
  | .hbm, ⟨25, _⟩ => ⟨S128x64, .f32⟩
  | .hbm, ⟨26, _⟩ => ⟨S128x256, .f32⟩
  | .hbm, ⟨27, _⟩ => ⟨S1x128x64, .f32⟩
  | .hbm, ⟨28, _⟩ => ⟨S128x64, .f32⟩
  | .hbm, ⟨29, _⟩ => ⟨S1x128x64, .f32⟩
  | .hbm, ⟨30, _⟩ => ⟨S128x64, .f32⟩
  | .hbm, ⟨31, _⟩ => ⟨S1x128x64, .f32⟩
  | .hbm, ⟨32, _⟩ => ⟨S128x64, .f32⟩
  | .hbm, ⟨33, _⟩ => ⟨S1x128x64, .f32⟩
  | .hbm, ⟨34, _⟩ => ⟨S128x64, .f32⟩
  | .hbm, ⟨35, _⟩ => ⟨S128x256, .f32⟩
  | .hbm, ⟨36, _⟩ => ⟨S2x128x1, .f32⟩
  | .hbm, ⟨37, _⟩ => ⟨S2x128x64, .f32⟩
  | .hbm, ⟨38, _⟩ => ⟨S1x128x64, .f32⟩
  | .hbm, ⟨39, _⟩ => ⟨S128x64, .f32⟩
  | .hbm, ⟨40, _⟩ => ⟨S1x128x64, .f32⟩
  | .hbm, ⟨41, _⟩ => ⟨S128x64, .f32⟩
  | .hbm, ⟨42, _⟩ => ⟨S1x128x64, .f32⟩
  | .hbm, ⟨43, _⟩ => ⟨S128x64, .f32⟩
  | .hbm, ⟨44, _⟩ => ⟨S1x128x64, .f32⟩
  | .hbm, ⟨45, _⟩ => ⟨S128x64, .f32⟩
  | .hbm, ⟨46, _⟩ => ⟨S128x256, .f32⟩
  | .hbm, ⟨47, _⟩ => ⟨S128x1x256, .f32⟩
  | .hbm, ⟨48, _⟩ => ⟨S128x1x256, .f32⟩
  | .hbm, ⟨49, _⟩ => ⟨S128x1x256, .f32⟩
  | .hbm, ⟨50, _⟩ => ⟨S128x3x256, .f32⟩
  | .hbm, ⟨51, _⟩ => ⟨S128x1x16, .f32⟩
  | .hbm, ⟨52, _⟩ => ⟨S1x128x1x1x1x16, .f32⟩
  | .hbm, ⟨53, _⟩ => ⟨S1x128x16x1x1x16, .f32⟩
  | .hbm, ⟨54, _⟩ => ⟨S128x16x16, .f32⟩
  | .hbm, ⟨55, _⟩ => ⟨S128x1x256, .f32⟩
  | .hbm, ⟨56, _⟩ => ⟨S128x4x256, .f32⟩
  | .hbm, ⟨57, _⟩ => ⟨S128x256x4, .f32⟩
  | .hbm, ⟨58, _⟩ => ⟨S_, .f32⟩
  | .hbm, ⟨59, _⟩ => ⟨S128x5x256, .f32⟩
  | .hbm, ⟨60, _⟩ => ⟨S128x8x256, .f32⟩
  | .hbm, ⟨61, _⟩ => ⟨S1x128x64x16, .f32⟩
  | .hbm, ⟨62, _⟩ => ⟨S128x64x16, .f32⟩
  | .hbm, ⟨63, _⟩ => ⟨S1x128x64x16, .f32⟩
  | .hbm, ⟨64, _⟩ => ⟨S128x64x16, .f32⟩
  | .hbm, ⟨65, _⟩ => ⟨S1x128x64x16, .f32⟩
  | .hbm, ⟨66, _⟩ => ⟨S128x64x16, .f32⟩
  | .hbm, ⟨67, _⟩ => ⟨S1x128x64x16, .f32⟩
  | .hbm, ⟨68, _⟩ => ⟨S128x64x16, .f32⟩
  | .hbm, ⟨69, _⟩ => ⟨S128x256x16, .f32⟩
  | .hbm, ⟨70, _⟩ => ⟨S_, .i32⟩
  | .hbm, ⟨71, _⟩ => ⟨S_, .f32⟩
  | .hbm, ⟨72, _⟩ => ⟨S128x256x128, .f32⟩
  | .hbm, ⟨73, _⟩ => ⟨S1x128x16x64, .f32⟩
  | .hbm, ⟨74, _⟩ => ⟨S128x16x64, .f32⟩
  | .hbm, ⟨75, _⟩ => ⟨S1x128x16x64, .f32⟩
  | .hbm, ⟨76, _⟩ => ⟨S128x16x64, .f32⟩
  | .hbm, ⟨77, _⟩ => ⟨S1x128x16x64, .f32⟩
  | .hbm, ⟨78, _⟩ => ⟨S128x16x64, .f32⟩
  | .hbm, ⟨79, _⟩ => ⟨S1x128x16x64, .f32⟩
  | .hbm, ⟨80, _⟩ => ⟨S128x16x64, .f32⟩
  | .hbm, ⟨81, _⟩ => ⟨S128x16x256, .f32⟩
  | .hbm, ⟨82, _⟩ => ⟨S128x256x256, .bf16⟩
  | .hbm, ⟨83, _⟩ => ⟨S128x256x256, .bf16⟩
  | .hbm, ⟨84, _⟩ => ⟨S128x256x256, .bf16⟩
  | .hbm, ⟨85, _⟩ => ⟨S128x256x128, .f32⟩
  | .hbm, ⟨86, _⟩ => ⟨S1024x16x128x16, .f32⟩
  | .hbm, ⟨87, _⟩ => ⟨S128x16x16x1024, .f32⟩
  | .hbm, ⟨88, _⟩ => ⟨S128x256x1024, .f32⟩
  | .hbm, ⟨89, _⟩ => ⟨S128x256x1024, .bf16⟩
  | .local _ .vmem, ⟨0, _⟩ => ⟨S1x256x4, .f32⟩
  | .local _ .vmem, ⟨1, _⟩ => ⟨S1x256x4, .f32⟩
  | .local _ .vmem, ⟨2, _⟩ => ⟨S1x8x256, .f32⟩
  | .local _ .vmem, ⟨3, _⟩ => ⟨S1x8x256, .f32⟩
  | .local _ .vmem, ⟨4, _⟩ => ⟨S1x256x128, .f32⟩
  | .local _ .vmem, ⟨5, _⟩ => ⟨S1x256x128, .f32⟩
  | .local _ .vmem, ⟨6, _⟩ => ⟨S1x16x256, .f32⟩
  | .local _ .vmem, ⟨7, _⟩ => ⟨S1x16x256, .f32⟩
  | .local _ .vmem, ⟨8, _⟩ => ⟨S128x256, .f32⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x128, .f32⟩
  | .local _ .vmem, ⟨16, _⟩ => ⟨S1x256x128, .f32⟩
  | .local _ .vmem, ⟨17, _⟩ => ⟨S1x256x1024, .f32⟩
  | .local _ .vmem, ⟨18, _⟩ => ⟨S1x256x1024, .f32⟩
  | .local _ .vmem, ⟨19, _⟩ => ⟨S1x256x256, .bf16⟩
  | .local _ .vmem, ⟨20, _⟩ => ⟨S1x256x256, .bf16⟩
  | .local _ .vmem, ⟨21, _⟩ => ⟨S1x256x256, .bf16⟩
  | .local _ .vmem, ⟨22, _⟩ => ⟨S1x256x256, .bf16⟩
  | .local _ .vmem, ⟨23, _⟩ => ⟨S1x256x256, .bf16⟩
  | .local _ .vmem, ⟨24, _⟩ => ⟨S1x256x256, .bf16⟩
  | .local _ .vmem, ⟨25, _⟩ => ⟨S1x256x128, .f32⟩
  | .local _ .vmem, ⟨26, _⟩ => ⟨S1x256x128, .f32⟩
  | .local _ .vmem, ⟨27, _⟩ => ⟨S1x256x1024, .bf16⟩
  | .local _ .vmem, ⟨28, _⟩ => ⟨S1x256x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_0 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_c : Ref sig .tc := ⟨.hbm, 70, rfl⟩
abbrev main_call0_v0 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69_0 : Ref sig .tc := ⟨.hbm, 82, rfl⟩
abbrev main_v69_1 : Ref sig .tc := ⟨.hbm, 83, rfl⟩
abbrev main_v69_2 : Ref sig .tc := ⟨.hbm, 84, rfl⟩
abbrev main_v69_3 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x2048x2048 : Shape := ⟨3, ![8, 2048, 2048]⟩
abbrev S1x2x128x64 : Shape := ⟨4, ![1, 2, 128, 64]⟩
abbrev S1x2x128 : Shape := ⟨3, ![1, 2, 128]⟩
abbrev S1x2x128x64x16 : Shape := ⟨5, ![1, 2, 128, 64, 16]⟩
abbrev S1x2x128x16x64 : Shape := ⟨5, ![1, 2, 128, 16, 64]⟩
abbrev S1x2048 : Shape := ⟨2, ![1, 2048]⟩
abbrev S8x2048x128x16 : Shape := ⟨4, ![8, 2048, 128, 16]⟩
abbrev S2x128x64 : Shape := ⟨3, ![2, 128, 64]⟩
abbrev S_ : Shape := ⟨0, ![]⟩
abbrev S2x128 : Shape := ⟨2, ![2, 128]⟩
abbrev S2x128x1 : Shape := ⟨3, ![2, 128, 1]⟩
abbrev S2x128x64x1 : Shape := ⟨4, ![2, 128, 64, 1]⟩
abbrev S2x128x64x16 : Shape := ⟨4, ![2, 128, 64, 16]⟩
abbrev S1x128x64x16 : Shape := ⟨4, ![1, 128, 64, 16]⟩
abbrev S128x64x16 : Shape := ⟨3, ![128, 64, 16]⟩
abbrev S128x64x8x2048 : Shape := ⟨4, ![128, 64, 8, 2048]⟩
abbrev S2048x8x128x64 : Shape := ⟨4, ![2048, 8, 128, 64]⟩
abbrev S8x128x64 : Shape := ⟨3, ![8, 128, 64]⟩
abbrev S1x8x128x64 : Shape := ⟨4, ![1, 8, 128, 64]⟩
abbrev S1x128x64 : Shape := ⟨3, ![1, 128, 64]⟩
abbrev S128x64 : Shape := ⟨2, ![128, 64]⟩
abbrev S1x1x128x16x64 : Shape := ⟨5, ![1, 1, 128, 16, 64]⟩
abbrev S128x16x64 : Shape := ⟨3, ![128, 16, 64]⟩
abbrev S128x16x2048x8 : Shape := ⟨4, ![128, 16, 2048, 8]⟩
abbrev S2048 : Shape := ⟨1, ![2048]⟩
abbrev S128x16 : Shape := ⟨2, ![128, 16]⟩
abbrev S1x1x128x16 : Shape := ⟨4, ![1, 1, 128, 16]⟩
abbrev S1024x16x128x16 : Shape := ⟨4, ![1024, 16, 128, 16]⟩
abbrev S128x16x16x1024 : Shape := ⟨4, ![128, 16, 16, 1024]⟩
abbrev S128x256x1024 : Shape := ⟨3, ![128, 256, 1024]⟩

abbrev nBuf : Space → Nat
  | .hbm => 249
  | .vmem => 0
  | .smem => 0
  | _ => 0

abbrev hbmTy0_0 (i : Nat) : BufTy := match i % 128 with
  | 0 => ⟨S8x2048x2048, .f32⟩
  | 1 => ⟨S1x2x128x64, .f32⟩
  | 2 => ⟨S1x2x128x64, .f32⟩
  | 3 => ⟨S1x2x128, .f32⟩
  | 4 => ⟨S1x2x128x64x16, .f32⟩
  | 5 => ⟨S1x2x128x64x16, .f32⟩
  | 6 => ⟨S1x2x128x16x64, .f32⟩
  | 7 => ⟨S1x2x128x16x64, .f32⟩
  | 8 => ⟨S1x2048, .f32⟩
  | 9 => ⟨S8x2048x128x16, .f32⟩
  | 10 => ⟨S2x128x64, .f32⟩
  | 11 => ⟨S_, .f32⟩
  | 12 => ⟨S2x128x64, .f32⟩
  | 13 => ⟨S2x128x64, .f32⟩
  | 14 => ⟨S2x128x64, .f32⟩
  | 15 => ⟨S2x128, .f32⟩
  | 16 => ⟨S2x128, .f32⟩
  | 17 => ⟨S2x128x1, .f32⟩
  | 18 => ⟨S2x128x64, .f32⟩
  | 19 => ⟨S2x128x64, .f32⟩
  | 20 => ⟨S2x128x64, .f32⟩
  | 21 => ⟨S2x128x64, .f32⟩
  | 22 => ⟨S2x128x64, .f32⟩
  | 23 => ⟨S2x128x64, .f32⟩
  | 24 => ⟨S2x128x64, .f32⟩
  | 25 => ⟨S2x128x64, .f32⟩
  | 26 => ⟨S2x128x64, .f32⟩
  | 27 => ⟨S2x128x64, .f32⟩
  | 28 => ⟨S2x128x64, .f32⟩
  | 29 => ⟨S2x128x64, .f32⟩
  | 30 => ⟨S2x128x64, .f32⟩
  | 31 => ⟨S2x128x64, .f32⟩
  | 32 => ⟨S_, .f32⟩
  | 33 => ⟨S2x128x64, .f32⟩
  | 34 => ⟨S2x128x64, .f32⟩
  | 35 => ⟨S2x128x64, .f32⟩
  | 36 => ⟨S2x128x64, .f32⟩
  | 37 => ⟨S2x128x64, .f32⟩
  | 38 => ⟨S2x128x64, .f32⟩
  | 39 => ⟨S2x128x64, .f32⟩
  | 40 => ⟨S_, .f32⟩
  | 41 => ⟨S2x128x64, .f32⟩
  | 42 => ⟨S2x128x64, .f32⟩
  | 43 => ⟨S2x128x64, .f32⟩
  | 44 => ⟨S2x128x64, .f32⟩
  | 45 => ⟨S2x128x64, .f32⟩
  | 46 => ⟨S2x128x64x1, .f32⟩
  | 47 => ⟨S2x128x64x16, .f32⟩
  | 48 => ⟨S2x128x64x16, .f32⟩
  | 49 => ⟨S2x128x64x16, .f32⟩
  | 50 => ⟨S2x128x64x1, .f32⟩
  | 51 => ⟨S2x128x64x16, .f32⟩
  | 52 => ⟨S2x128x64x16, .f32⟩
  | 53 => ⟨S2x128x64x16, .f32⟩
  | 54 => ⟨S2x128x64x16, .f32⟩
  | 55 => ⟨S2x128x64x1, .f32⟩
  | 56 => ⟨S2x128x64x16, .f32⟩
  | 57 => ⟨S2x128x64x16, .f32⟩
  | 58 => ⟨S2x128x64x16, .f32⟩
  | 59 => ⟨S2x128x64x1, .f32⟩
  | 60 => ⟨S2x128x64x16, .f32⟩
  | 61 => ⟨S2x128x64x16, .f32⟩
  | 62 => ⟨S2x128x64x16, .f32⟩
  | 63 => ⟨S2x128x64x16, .f32⟩
  | 64 => ⟨S1x128x64x16, .f32⟩
  | 65 => ⟨S128x64x16, .f32⟩
  | 66 => ⟨S128x64x8x2048, .f32⟩
  | 67 => ⟨S2048x8x128x64, .f32⟩
  | 68 => ⟨S1x128x64x16, .f32⟩
  | 69 => ⟨S128x64x16, .f32⟩
  | 70 => ⟨S128x64x8x2048, .f32⟩
  | 71 => ⟨S2048x8x128x64, .f32⟩
  | 72 => ⟨S1x128x64x16, .f32⟩
  | 73 => ⟨S128x64x16, .f32⟩
  | 74 => ⟨S128x64x8x2048, .f32⟩
  | 75 => ⟨S2048x8x128x64, .f32⟩
  | 76 => ⟨S1x128x64x16, .f32⟩
  | 77 => ⟨S128x64x16, .f32⟩
  | 78 => ⟨S128x64x8x2048, .f32⟩
  | 79 => ⟨S2048x8x128x64, .f32⟩
  | 80 => ⟨S_, .f32⟩
  | 81 => ⟨S8x128x64, .f32⟩
  | 82 => ⟨S2048x8x128x64, .f32⟩
  | 83 => ⟨S2048x8x128x64, .f32⟩
  | 84 => ⟨S_, .f32⟩
  | 85 => ⟨S2048x8x128x64, .f32⟩
  | 86 => ⟨S_, .f32⟩
  | 87 => ⟨S2048x8x128x64, .f32⟩
  | 88 => ⟨S_, .f32⟩
  | 89 => ⟨S2048x8x128x64, .f32⟩
  | 90 => ⟨S_, .f32⟩
  | 91 => ⟨S2048x8x128x64, .f32⟩
  | 92 => ⟨S_, .i32⟩
  | 93 => ⟨S2048x8x128x64, .f32⟩
  | 94 => ⟨S2048x8x128x64, .f32⟩
  | 95 => ⟨S2048x8x128x64, .f32⟩
  | 96 => ⟨S2048x8x128x64, .f32⟩
  | 97 => ⟨S2x128x64, .f32⟩
  | 98 => ⟨S2x128x64, .f32⟩
  | 99 => ⟨S_, .i32⟩
  | 100 => ⟨S8x128x64, .f32⟩
  | 101 => ⟨S8x128x64, .f32⟩
  | 102 => ⟨S8x128x64, .f32⟩
  | 103 => ⟨S8x128x64, .f32⟩
  | 104 => ⟨S2048x8x128x64, .f32⟩
  | 105 => ⟨S2048x8x128x64, .f32⟩
  | 106 => ⟨S2048x8x128x64, .f32⟩
  | 107 => ⟨S2048x8x128x64, .f32⟩
  | 108 => ⟨S_, .i32⟩
  | 109 => ⟨S_, .i1⟩
  | 110 => ⟨S_, .i32⟩
  | 111 => ⟨S_, .i32⟩
  | 112 => ⟨S_, .i32⟩
  | 113 => ⟨S1x8x128x64, .f32⟩
  | 114 => ⟨S8x128x64, .f32⟩
  | 115 => ⟨S_, .i32⟩
  | 116 => ⟨S_, .i32⟩
  | 117 => ⟨S_, .i32⟩
  | 118 => ⟨S1x8x128x64, .f32⟩
  | 119 => ⟨S8x128x64, .f32⟩
  | 120 => ⟨S_, .i32⟩
  | 121 => ⟨S_, .i32⟩
  | 122 => ⟨S_, .i32⟩
  | 123 => ⟨S1x8x128x64, .f32⟩
  | 124 => ⟨S8x128x64, .f32⟩
  | 125 => ⟨S_, .i32⟩
  | 126 => ⟨S_, .i32⟩
  | 127 => ⟨S_, .i32⟩
  | _ => ⟨S8x2048x2048, .f32⟩

abbrev hbmTy0_1 (i : Nat) : BufTy := match i % 128 with
  | 0 => ⟨S1x8x128x64, .f32⟩
  | 1 => ⟨S8x128x64, .f32⟩
  | 2 => ⟨S1x128x64, .f32⟩
  | 3 => ⟨S128x64, .f32⟩
  | 4 => ⟨S1x128x64, .f32⟩
  | 5 => ⟨S8x128x64, .f32⟩
  | 6 => ⟨S8x128x64, .f32⟩
  | 7 => ⟨S1x128x64, .f32⟩
  | 8 => ⟨S128x64, .f32⟩
  | 9 => ⟨S1x128x64, .f32⟩
  | 10 => ⟨S8x128x64, .f32⟩
  | 11 => ⟨S8x128x64, .f32⟩
  | 12 => ⟨S8x128x64, .f32⟩
  | 13 => ⟨S8x128x64, .f32⟩
  | 14 => ⟨S1x128x64, .f32⟩
  | 15 => ⟨S128x64, .f32⟩
  | 16 => ⟨S1x128x64, .f32⟩
  | 17 => ⟨S8x128x64, .f32⟩
  | 18 => ⟨S8x128x64, .f32⟩
  | 19 => ⟨S1x128x64, .f32⟩
  | 20 => ⟨S128x64, .f32⟩
  | 21 => ⟨S1x128x64, .f32⟩
  | 22 => ⟨S8x128x64, .f32⟩
  | 23 => ⟨S8x128x64, .f32⟩
  | 24 => ⟨S8x128x64, .f32⟩
  | 25 => ⟨S8x128x64, .f32⟩
  | 26 => ⟨S1x128x64, .f32⟩
  | 27 => ⟨S128x64, .f32⟩
  | 28 => ⟨S1x128x64, .f32⟩
  | 29 => ⟨S8x128x64, .f32⟩
  | 30 => ⟨S8x128x64, .f32⟩
  | 31 => ⟨S1x128x64, .f32⟩
  | 32 => ⟨S128x64, .f32⟩
  | 33 => ⟨S1x128x64, .f32⟩
  | 34 => ⟨S8x128x64, .f32⟩
  | 35 => ⟨S8x128x64, .f32⟩
  | 36 => ⟨S8x128x64, .f32⟩
  | 37 => ⟨S8x128x64, .f32⟩
  | 38 => ⟨S1x128x64, .f32⟩
  | 39 => ⟨S128x64, .f32⟩
  | 40 => ⟨S1x128x64, .f32⟩
  | 41 => ⟨S8x128x64, .f32⟩
  | 42 => ⟨S8x128x64, .f32⟩
  | 43 => ⟨S1x128x64, .f32⟩
  | 44 => ⟨S128x64, .f32⟩
  | 45 => ⟨S1x128x64, .f32⟩
  | 46 => ⟨S8x128x64, .f32⟩
  | 47 => ⟨S8x128x64, .f32⟩
  | 48 => ⟨S8x128x64, .f32⟩
  | 49 => ⟨S8x128x64, .f32⟩
  | 50 => ⟨S1x8x128x64, .f32⟩
  | 51 => ⟨S_, .i32⟩
  | 52 => ⟨S_, .i32⟩
  | 53 => ⟨S_, .i32⟩
  | 54 => ⟨S2048x8x128x64, .f32⟩
  | 55 => ⟨S1x8x128x64, .f32⟩
  | 56 => ⟨S_, .i32⟩
  | 57 => ⟨S_, .i32⟩
  | 58 => ⟨S_, .i32⟩
  | 59 => ⟨S2048x8x128x64, .f32⟩
  | 60 => ⟨S1x8x128x64, .f32⟩
  | 61 => ⟨S_, .i32⟩
  | 62 => ⟨S_, .i32⟩
  | 63 => ⟨S_, .i32⟩
  | 64 => ⟨S2048x8x128x64, .f32⟩
  | 65 => ⟨S1x8x128x64, .f32⟩
  | 66 => ⟨S_, .i32⟩
  | 67 => ⟨S_, .i32⟩
  | 68 => ⟨S_, .i32⟩
  | 69 => ⟨S2048x8x128x64, .f32⟩
  | 70 => ⟨S_, .i32⟩
  | 71 => ⟨S_, .i32⟩
  | 72 => ⟨S2048x8x128x64, .f32⟩
  | 73 => ⟨S2048x8x128x64, .f32⟩
  | 74 => ⟨S1x1x128x16x64, .f32⟩
  | 75 => ⟨S128x16x64, .f32⟩
  | 76 => ⟨S128x16x2048x8, .f32⟩
  | 77 => ⟨S8x2048x128x16, .f32⟩
  | 78 => ⟨S1x1x128x16x64, .f32⟩
  | 79 => ⟨S128x16x64, .f32⟩
  | 80 => ⟨S128x16x2048x8, .f32⟩
  | 81 => ⟨S8x2048x128x16, .f32⟩
  | 82 => ⟨S8x2048x128x16, .f32⟩
  | 83 => ⟨S1x1x128x16x64, .f32⟩
  | 84 => ⟨S128x16x64, .f32⟩
  | 85 => ⟨S128x16x2048x8, .f32⟩
  | 86 => ⟨S8x2048x128x16, .f32⟩
  | 87 => ⟨S1x1x128x16x64, .f32⟩
  | 88 => ⟨S128x16x64, .f32⟩
  | 89 => ⟨S128x16x2048x8, .f32⟩
  | 90 => ⟨S8x2048x128x16, .f32⟩
  | 91 => ⟨S8x2048x128x16, .f32⟩
  | 92 => ⟨S8x2048x128x16, .f32⟩
  | 93 => ⟨S2048, .f32⟩
  | 94 => ⟨S128x16, .f32⟩
  | 95 => ⟨S8x2048x128x16, .f32⟩
  | 96 => ⟨S1x1x128x16, .f32⟩
  | 97 => ⟨S8x2048x128x16, .f32⟩
  | 98 => ⟨S8x2048x128x16, .f32⟩
  | 99 => ⟨S8x2048x128x16, .f32⟩
  | 100 => ⟨S8x2048x128x16, .f32⟩
  | 101 => ⟨S8x2048x128x16, .f32⟩
  | 102 => ⟨S_, .f32⟩
  | 103 => ⟨S8x2048x128x16, .f32⟩
  | 104 => ⟨S8x2048x128x16, .f32⟩
  | 105 => ⟨S8x2048x128x16, .f32⟩
  | 106 => ⟨S_, .f32⟩
  | 107 => ⟨S8x2048x128x16, .f32⟩
  | 108 => ⟨S8x2048x128x16, .f32⟩
  | 109 => ⟨S8x2048x128x16, .f32⟩
  | 110 => ⟨S_, .f32⟩
  | 111 => ⟨S8x2048x128x16, .f32⟩
  | 112 => ⟨S8x2048x128x16, .f32⟩
  | 113 => ⟨S_, .f32⟩
  | 114 => ⟨S8x2048x128x16, .f32⟩
  | 115 => ⟨S8x2048x128x16, .f32⟩
  | 116 => ⟨S8x2048x128x16, .f32⟩
  | 117 => ⟨S1024x16x128x16, .f32⟩
  | 118 => ⟨S128x16x16x1024, .f32⟩
  | 119 => ⟨S128x256x1024, .f32⟩
  | 120 => ⟨S128x256x1024, .bf16⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_2 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_3 : Ref sig .tc := ⟨.hbm, 84, rfl⟩
abbrev main_v71 : Ref sig .tc := ⟨.hbm, 85, rfl⟩
abbrev main_cst_4 : Ref sig .tc := ⟨.hbm, 86, rfl⟩
abbrev main_v72 : Ref sig .tc := ⟨.hbm, 87, rfl⟩
abbrev main_cst_5 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_c : Ref sig .tc := ⟨.hbm, 92, rfl⟩
abbrev main_v75_0 : Ref sig .tc := ⟨.hbm, 93, rfl⟩
abbrev main_v75_1 : Ref sig .tc := ⟨.hbm, 94, rfl⟩
abbrev main_v75_2 : Ref sig .tc := ⟨.hbm, 95, rfl⟩
abbrev main_v75_3 : Ref sig .tc := ⟨.hbm, 96, rfl⟩
abbrev main_v75_4 : Ref sig .tc := ⟨.hbm, 97, rfl⟩
abbrev main_v75_5 : Ref sig .tc := ⟨.hbm, 98, rfl⟩
abbrev main_v75_6 : Ref sig .tc := ⟨.hbm, 99, rfl⟩
abbrev main_v75_7 : Ref sig .tc := ⟨.hbm, 100, rfl⟩
abbrev main_v75_8 : Ref sig .tc := ⟨.hbm, 101, rfl⟩
abbrev main_v75_9 : Ref sig .tc := ⟨.hbm, 102, rfl⟩
abbrev main_v75_10 : Ref sig .tc := ⟨.hbm, 103, rfl⟩
abbrev main_v75_11 : Ref sig .tc := ⟨.hbm, 104, rfl⟩
abbrev main_v75_12 : Ref sig .tc := ⟨.hbm, 105, rfl⟩
abbrev main_v75_13 : Ref sig .tc := ⟨.hbm, 106, rfl⟩
abbrev main_v75_14 : Ref sig .tc := ⟨.hbm, 107, rfl⟩
abbrev main_while0c_c_25 : Ref sig .tc := ⟨.hbm, 108, rfl⟩
abbrev main_while0c_v121 : Ref sig .tc := ⟨.hbm, 109, rfl⟩
abbrev main_while0b_call0_c : Ref sig .tc := ⟨.hbm, 110, rfl⟩
abbrev main_while0b_call0_c_0 : Ref sig .tc := ⟨.hbm, 111, rfl⟩
abbrev main_while0b_call0_c_1 : Ref sig .tc := ⟨.hbm, 112, rfl⟩
abbrev main_while0b_call0_v0 : Ref sig .tc := ⟨.hbm, 113, rfl⟩
abbrev main_while0b_v121 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_c_1 : Ref sig .tc := ⟨.hbm, 117, rfl⟩
abbrev main_while0b_call1_v0 : Ref sig .tc := ⟨.hbm, 118, rfl⟩
abbrev main_while0b_v122 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_c_1 : Ref sig .tc := ⟨.hbm, 122, rfl⟩
abbrev main_while0b_call2_v0 : Ref sig .tc := ⟨.hbm, 123, rfl⟩
abbrev main_while0b_v123 : Ref sig .tc := ⟨.hbm, 124, rfl⟩
abbrev main_while0b_call3_c : Ref sig .tc := ⟨.hbm, 125, rfl⟩
abbrev main_while0b_call3_c_0 : Ref sig .tc := ⟨.hbm, 126, rfl⟩
abbrev main_while0b_call3_c_1 : Ref sig .tc := ⟨.hbm, 127, rfl⟩
abbrev main_while0b_call3_v0 : Ref sig .tc := ⟨.hbm, 128, rfl⟩
abbrev main_while0b_v124 : Ref sig .tc := ⟨.hbm, 129, rfl⟩
abbrev main_while0b_v125 : Ref sig .tc := ⟨.hbm, 130, rfl⟩
abbrev main_while0b_v126 : Ref sig .tc := ⟨.hbm, 131, rfl⟩
abbrev main_while0b_v127 : Ref sig .tc := ⟨.hbm, 132, rfl⟩
abbrev main_while0b_v128 : Ref sig .tc := ⟨.hbm, 133, rfl⟩
abbrev main_while0b_v129 : Ref sig .tc := ⟨.hbm, 134, rfl⟩
abbrev main_while0b_v130 : Ref sig .tc := ⟨.hbm, 135, rfl⟩
abbrev main_while0b_v131 : Ref sig .tc := ⟨.hbm, 136, rfl⟩
abbrev main_while0b_v132 : Ref sig .tc := ⟨.hbm, 137, rfl⟩
abbrev main_while0b_v133 : Ref sig .tc := ⟨.hbm, 138, rfl⟩
abbrev main_while0b_v134 : Ref sig .tc := ⟨.hbm, 139, rfl⟩
abbrev main_while0b_v135 : Ref sig .tc := ⟨.hbm, 140, rfl⟩
abbrev main_while0b_v136 : Ref sig .tc := ⟨.hbm, 141, rfl⟩
abbrev main_while0b_v137 : Ref sig .tc := ⟨.hbm, 142, rfl⟩
abbrev main_while0b_v138 : Ref sig .tc := ⟨.hbm, 143, rfl⟩
abbrev main_while0b_v139 : Ref sig .tc := ⟨.hbm, 144, rfl⟩
abbrev main_while0b_v140 : Ref sig .tc := ⟨.hbm, 145, rfl⟩
abbrev main_while0b_v141 : Ref sig .tc := ⟨.hbm, 146, rfl⟩
abbrev main_while0b_v142 : Ref sig .tc := ⟨.hbm, 147, rfl⟩
abbrev main_while0b_v143 : Ref sig .tc := ⟨.hbm, 148, rfl⟩
abbrev main_while0b_v144 : Ref sig .tc := ⟨.hbm, 149, rfl⟩
abbrev main_while0b_v145 : Ref sig .tc := ⟨.hbm, 150, rfl⟩
abbrev main_while0b_v146 : Ref sig .tc := ⟨.hbm, 151, rfl⟩
abbrev main_while0b_v147 : Ref sig .tc := ⟨.hbm, 152, rfl⟩
abbrev main_while0b_v148 : Ref sig .tc := ⟨.hbm, 153, rfl⟩
abbrev main_while0b_v149 : Ref sig .tc := ⟨.hbm, 154, rfl⟩
abbrev main_while0b_v150 : Ref sig .tc := ⟨.hbm, 155, rfl⟩
abbrev main_while0b_v151 : Ref sig .tc := ⟨.hbm, 156, rfl⟩
abbrev main_while0b_v152 : Ref sig .tc := ⟨.hbm, 157, rfl⟩
abbrev main_while0b_v153 : Ref sig .tc := ⟨.hbm, 158, rfl⟩
abbrev main_while0b_v154 : Ref sig .tc := ⟨.hbm, 159, rfl⟩
abbrev main_while0b_v155 : Ref sig .tc := ⟨.hbm, 160, rfl⟩
abbrev main_while0b_v156 : Ref sig .tc := ⟨.hbm, 161, rfl⟩
abbrev main_while0b_v157 : Ref sig .tc := ⟨.hbm, 162, rfl⟩
abbrev main_while0b_v158 : Ref sig .tc := ⟨.hbm, 163, rfl⟩
abbrev main_while0b_v159 : Ref sig .tc := ⟨.hbm, 164, rfl⟩
abbrev main_while0b_v160 : Ref sig .tc := ⟨.hbm, 165, rfl⟩
abbrev main_while0b_v161 : Ref sig .tc := ⟨.hbm, 166, rfl⟩
abbrev main_while0b_v162 : Ref sig .tc := ⟨.hbm, 167, rfl⟩
abbrev main_while0b_v163 : Ref sig .tc := ⟨.hbm, 168, rfl⟩
abbrev main_while0b_v164 : Ref sig .tc := ⟨.hbm, 169, rfl⟩
abbrev main_while0b_v165 : Ref sig .tc := ⟨.hbm, 170, rfl⟩
abbrev main_while0b_v166 : Ref sig .tc := ⟨.hbm, 171, rfl⟩
abbrev main_while0b_v167 : Ref sig .tc := ⟨.hbm, 172, rfl⟩
abbrev main_while0b_v168 : Ref sig .tc := ⟨.hbm, 173, rfl⟩
abbrev main_while0b_v169 : Ref sig .tc := ⟨.hbm, 174, rfl⟩
abbrev main_while0b_v170 : Ref sig .tc := ⟨.hbm, 175, rfl⟩
abbrev main_while0b_v171 : Ref sig .tc := ⟨.hbm, 176, rfl⟩
abbrev main_while0b_v172 : Ref sig .tc := ⟨.hbm, 177, rfl⟩
abbrev main_while0b_call4_v0 : Ref sig .tc := ⟨.hbm, 178, rfl⟩
abbrev main_while0b_call4_c : Ref sig .tc := ⟨.hbm, 179, rfl⟩
abbrev main_while0b_call4_c_0 : Ref sig .tc := ⟨.hbm, 180, rfl⟩
abbrev main_while0b_call4_c_1 : Ref sig .tc := ⟨.hbm, 181, rfl⟩
abbrev main_while0b_v173 : Ref sig .tc := ⟨.hbm, 182, rfl⟩
abbrev main_while0b_call5_v0 : Ref sig .tc := ⟨.hbm, 183, rfl⟩
abbrev main_while0b_call5_c : Ref sig .tc := ⟨.hbm, 184, rfl⟩
abbrev main_while0b_call5_c_0 : Ref sig .tc := ⟨.hbm, 185, rfl⟩
abbrev main_while0b_call5_c_1 : Ref sig .tc := ⟨.hbm, 186, rfl⟩
abbrev main_while0b_v174 : Ref sig .tc := ⟨.hbm, 187, rfl⟩
abbrev main_while0b_call6_v0 : Ref sig .tc := ⟨.hbm, 188, rfl⟩
abbrev main_while0b_call6_c : Ref sig .tc := ⟨.hbm, 189, rfl⟩
abbrev main_while0b_call6_c_0 : Ref sig .tc := ⟨.hbm, 190, rfl⟩
abbrev main_while0b_call6_c_1 : Ref sig .tc := ⟨.hbm, 191, rfl⟩
abbrev main_while0b_v175 : Ref sig .tc := ⟨.hbm, 192, rfl⟩
abbrev main_while0b_call7_v0 : Ref sig .tc := ⟨.hbm, 193, rfl⟩
abbrev main_while0b_call7_c : Ref sig .tc := ⟨.hbm, 194, rfl⟩
abbrev main_while0b_call7_c_0 : Ref sig .tc := ⟨.hbm, 195, rfl⟩
abbrev main_while0b_call7_c_1 : Ref sig .tc := ⟨.hbm, 196, rfl⟩
abbrev main_while0b_v176 : Ref sig .tc := ⟨.hbm, 197, rfl⟩
abbrev main_while0b_c_25 : Ref sig .tc := ⟨.hbm, 198, rfl⟩
abbrev main_while0b_v177 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_v103 : Ref sig .tc := ⟨.hbm, 227, rfl⟩
abbrev main_v104 : Ref sig .tc := ⟨.hbm, 228, rfl⟩
abbrev main_v105 : Ref sig .tc := ⟨.hbm, 229, rfl⟩
abbrev main_cst_7 : Ref sig .tc := ⟨.hbm, 230, rfl⟩
abbrev main_v106 : Ref sig .tc := ⟨.hbm, 231, rfl⟩
abbrev main_v107 : Ref sig .tc := ⟨.hbm, 232, rfl⟩
abbrev main_v108 : Ref sig .tc := ⟨.hbm, 233, rfl⟩
abbrev main_cst_8 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩
abbrev main_cst_9 : Ref sig .tc := ⟨.hbm, 238, rfl⟩
abbrev main_v112 : Ref sig .tc := ⟨.hbm, 239, rfl⟩
abbrev main_v113 : Ref sig .tc := ⟨.hbm, 240, rfl⟩
abbrev main_cst_10 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_v119 : Ref sig .tc := ⟨.hbm, 247, rfl⟩
abbrev main_v120 : Ref sig .tc := ⟨.hbm, 248, rfl⟩

abbrev nD : Nat := 1
abbrev τ : Topo := Topo.v7x

variable {F : FTy → Type} [FloatOps F]

abbrev main_while0_count : Scf.Loop 32 := ⟨0#32, 2048#32, 1#32⟩
-- ==== RestKernel.lean ====
abbrev S16384x4096 : Shape := ⟨2, ![16384, 4096]⟩
abbrev S1x4096x16384 : Shape := ⟨3, ![1, 4096, 16384]⟩
abbrev S4096x16384 : Shape := ⟨2, ![4096, 16384]⟩
abbrev S4096x14336 : Shape := ⟨2, ![4096, 14336]⟩
abbrev S16384x14336 : Shape := ⟨2, ![16384, 14336]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .f32⟩
  | .hbm, ⟨2, _⟩ => ⟨S4096x16384, .f32⟩
  | .hbm, ⟨3, _⟩ => ⟨S4096x14336, .f32⟩
  | .hbm, ⟨4, _⟩ => ⟨S4096x14336, .bf16⟩
  | .hbm, ⟨5, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RestReferenceIdeal.lean ====
abbrev S16384x4096 : Shape := ⟨2, ![16384, 4096]⟩
abbrev S1x4096x16384 : Shape := ⟨3, ![1, 4096, 16384]⟩
abbrev S4096x16384 : Shape := ⟨2, ![4096, 16384]⟩
abbrev S4096x14336 : Shape := ⟨2, ![4096, 14336]⟩
abbrev S16384x14336 : Shape := ⟨2, ![16384, 14336]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .f32⟩
  | .hbm, ⟨2, _⟩ => ⟨S4096x16384, .f32⟩
  | .hbm, ⟨3, _⟩ => ⟨S4096x14336, .f32⟩
  | .hbm, ⟨4, _⟩ => ⟨S4096x14336, .bf16⟩
  | .hbm, ⟨5, _⟩ => ⟨S16384x14336, .f32⟩
  | .hbm, ⟨6, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjKernel.lean ====
abbrev S16384x4096 : Shape := ⟨2, ![16384, 4096]⟩
abbrev S1x4096x16384 : Shape := ⟨3, ![1, 4096, 16384]⟩
abbrev S4096x16384 : Shape := ⟨2, ![4096, 16384]⟩
abbrev S4096x2048 : Shape := ⟨2, ![4096, 2048]⟩
abbrev S2048x4096 : Shape := ⟨2, ![2048, 4096]⟩
abbrev S128x16x16x1024 : Shape := ⟨4, ![128, 16, 16, 1024]⟩
abbrev S1024x4096 : Shape := ⟨2, ![1024, 4096]⟩
abbrev S512x4096 : Shape := ⟨2, ![512, 4096]⟩
abbrev S64x1x16x512 : Shape := ⟨4, ![64, 1, 16, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .f32⟩
  | .hbm, ⟨2, _⟩ => ⟨S4096x16384, .f32⟩
  | .hbm, ⟨3, _⟩ => ⟨S4096x2048, .f32⟩
  | .hbm, ⟨4, _⟩ => ⟨S2048x4096, .f32⟩
  | .hbm, ⟨5, _⟩ => ⟨S2048x4096, .bf16⟩
  | .hbm, ⟨6, _⟩ => ⟨S128x16x16x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S64x1x16x512, .f32⟩
  | .local _ .vmem, ⟨5, _⟩ => ⟨S64x1x16x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S64x1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ProjReferenceIdeal.lean ====
abbrev S16384x4096 : Shape := ⟨2, ![16384, 4096]⟩
abbrev S1x4096x16384 : Shape := ⟨3, ![1, 4096, 16384]⟩
abbrev S4096x16384 : Shape := ⟨2, ![4096, 16384]⟩
abbrev S4096x2048 : Shape := ⟨2, ![4096, 2048]⟩
abbrev S16384x2048 : Shape := ⟨2, ![16384, 2048]⟩
abbrev S16x1024x128x16 : Shape := ⟨4, ![16, 1024, 128, 16]⟩
abbrev S128x16x16x1024 : Shape := ⟨4, ![128, 16, 16, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x16384, .f32⟩
  | .hbm, ⟨2, _⟩ => ⟨S4096x16384, .f32⟩
  | .hbm, ⟨3, _⟩ => ⟨S4096x2048, .f32⟩
  | .hbm, ⟨4, _⟩ => ⟨S4096x2048, .bf16⟩
  | .hbm, ⟨5, _⟩ => ⟨S16384x2048, .f32⟩
  | .hbm, ⟨6, _⟩ => ⟨S16x1024x128x16, .f32⟩
  | .hbm, ⟨7, _⟩ => ⟨S128x16x16x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GluKernel.lean ====
abbrev S128x16x16x1024 : Shape := ⟨4, ![128, 16, 16, 1024]⟩
abbrev S1x2048x4096 : Shape := ⟨3, ![1, 2048, 4096]⟩
abbrev S16384x14336 : Shape := ⟨2, ![16384, 14336]⟩
abbrev S2048x4096 : Shape := ⟨2, ![2048, 4096]⟩
abbrev S16384x2048 : Shape := ⟨2, ![16384, 2048]⟩
abbrev S128x1x16x512 : Shape := ⟨4, ![128, 1, 16, 512]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S128x16x16x1024, .bf16⟩
  | .hbm, ⟨1, _⟩ => ⟨S1x2048x4096, .f32⟩
  | .hbm, ⟨2, _⟩ => ⟨S16384x14336, .bf16⟩
  | .hbm, ⟨3, _⟩ => ⟨S2048x4096, .f32⟩
  | .hbm, ⟨4, _⟩ => ⟨S2048x4096, .bf16⟩
  | .hbm, ⟨5, _⟩ => ⟨S16384x2048, .bf16⟩
  | .local _ .vmem, ⟨0, _⟩ => ⟨S128x1x16x512, .bf16⟩
  | .local _ .vmem, ⟨1, _⟩ => ⟨S128x1x16x512, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S128x16x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg0
  let c0_i32 : BitVec 32 := 0#32
  let v2 : BitVec 32 := Scalar.addi c0_i32 arg2
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg0
  let c0_i32 : BitVec 32 := 0#32
  ![v1.toNat, arg2.toNat]

abbrev stage0_0 : Fin 2 → Memref sig .tc .vmem S128x1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== GluReferenceIdeal.lean ====
abbrev S128x16x16x1024 : Shape := ⟨4, ![128, 16, 16, 1024]⟩
abbrev S1x2048x4096 : Shape := ⟨3, ![1, 2048, 4096]⟩
abbrev S16384x14336 : Shape := ⟨2, ![16384, 14336]⟩
abbrev S16x1024x128x16 : Shape := ⟨4, ![16, 1024, 128, 16]⟩
abbrev S16384x2048 : Shape := ⟨2, ![16384, 2048]⟩
abbrev S2048x4096 : Shape := ⟨2, ![2048, 4096]⟩
abbrev S16384x4096 : Shape := ⟨2, ![16384, 4096]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S128x16x16x1024, .bf16⟩
  | .hbm, ⟨1, _⟩ => ⟨S1x2048x4096, .f32⟩
  | .hbm, ⟨2, _⟩ => ⟨S16384x14336, .bf16⟩
  | .hbm, ⟨3, _⟩ => ⟨S16x1024x128x16, .bf16⟩
  | .hbm, ⟨4, _⟩ => ⟨S16384x2048, .bf16⟩
  | .hbm, ⟨5, _⟩ => ⟨S2048x4096, .f32⟩
  | .hbm, ⟨6, _⟩ => ⟨S2048x4096, .bf16⟩
  | .hbm, ⟨7, _⟩ => ⟨S16384x4096, .f32⟩
  | .hbm, ⟨8, _⟩ => ⟨S16384x2048, .bf16⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .bf16⟩
  | _, _ => ⟨S128x16x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== MergeKernel.lean ====
abbrev S16384x2048 : Shape := ⟨2, ![16384, 2048]⟩
abbrev S1x2048x4096 : Shape := ⟨3, ![1, 2048, 4096]⟩
abbrev S16384x14336 : Shape := ⟨2, ![16384, 14336]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x4096, .f32⟩
  | .hbm, ⟨3, _⟩ => ⟨S1x2048x4096, .f32⟩
  | .hbm, ⟨4, _⟩ => ⟨S16384x14336, .bf16⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x2048 : Shape := ⟨2, ![16384, 2048]⟩
abbrev S1x2048x4096 : Shape := ⟨3, ![1, 2048, 4096]⟩
abbrev S16384x14336 : Shape := ⟨2, ![16384, 14336]⟩
abbrev S2048x4096 : Shape := ⟨2, ![2048, 4096]⟩
abbrev S16384x4096 : Shape := ⟨2, ![16384, 4096]⟩
abbrev S16384x8192 : Shape := ⟨2, ![16384, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S1x2048x4096, .f32⟩
  | .hbm, ⟨3, _⟩ => ⟨S1x2048x4096, .f32⟩
  | .hbm, ⟨4, _⟩ => ⟨S16384x14336, .bf16⟩
  | .hbm, ⟨5, _⟩ => ⟨S2048x4096, .f32⟩
  | .hbm, ⟨6, _⟩ => ⟨S2048x4096, .bf16⟩
  | .hbm, ⟨7, _⟩ => ⟨S16384x4096, .f32⟩
  | .hbm, ⟨8, _⟩ => ⟨S2048x4096, .f32⟩
  | .hbm, ⟨9, _⟩ => ⟨S2048x4096, .bf16⟩
  | .hbm, ⟨10, _⟩ => ⟨S16384x4096, .f32⟩
  | .hbm, ⟨11, _⟩ => ⟨S16384x8192, .bf16⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S_, .f32⟩
  | .hbm, ⟨19, _⟩ => ⟨S16384x8192, .f32⟩
  | .hbm, ⟨20, _⟩ => ⟨S16384x8192, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutKernel.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S4096x4096, .f32⟩
  | .hbm, ⟨3, _⟩ => ⟨S4096x4096, .bf16⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PostKernel.lean ====
abbrev S16384x4096 : Shape := ⟨2, ![16384, 4096]⟩
abbrev S8x2048x4096 : Shape := ⟨3, ![8, 2048, 4096]⟩
abbrev S1x4096 : Shape := ⟨2, ![1, 4096]⟩
abbrev S1024x16x4096 : Shape := ⟨3, ![1024, 16, 4096]⟩
abbrev S4096 : Shape := ⟨1, ![4096]⟩
abbrev S16x1024x4096 : Shape := ⟨3, ![16, 1024, 4096]⟩
abbrev S16x16x4096 : Shape := ⟨3, ![16, 16, 4096]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩
abbrev S16x1x4096 : Shape := ⟨3, ![16, 1, 4096]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S8x2048x4096, .f32⟩
  | .hbm, ⟨2, _⟩ => ⟨S1x4096, .f32⟩
  | .hbm, ⟨3, _⟩ => ⟨S1024x16x4096, .f32⟩
  | .hbm, ⟨4, _⟩ => ⟨S4096, .f32⟩
  | .hbm, ⟨5, _⟩ => ⟨S16x1024x4096, .f32⟩
  | .hbm, ⟨6, _⟩ => ⟨S1x4096, .f32⟩
  | .hbm, ⟨7, _⟩ => ⟨S1024x16x4096, .f32⟩
  | .local _ .vmem, ⟨0, _⟩ => ⟨S16x16x4096, .f32⟩
  | .local _ .vmem, ⟨1, _⟩ => ⟨S16x16x4096, .f32⟩
  | .local _ .vmem, ⟨2, _⟩ => ⟨S16x16x4096, .f32⟩
  | .local _ .vmem, ⟨3, _⟩ => ⟨S16x16x4096, .f32⟩
  | .local _ .vmem, ⟨4, _⟩ => ⟨S1x4096, .f32⟩
  | .local _ .vmem, ⟨5, _⟩ => ⟨S16x16x4096, .f32⟩
  | .local _ .vmem, ⟨6, _⟩ => ⟨S16x16x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostKernelIdeal.lean ====
abbrev S16384x4096 : Shape := ⟨2, ![16384, 4096]⟩
abbrev S8x2048x4096 : Shape := ⟨3, ![8, 2048, 4096]⟩
abbrev S1x4096 : Shape := ⟨2, ![1, 4096]⟩
abbrev S1024x16x4096 : Shape := ⟨3, ![1024, 16, 4096]⟩
abbrev S4096 : Shape := ⟨1, ![4096]⟩
abbrev S16x1024x4096 : Shape := ⟨3, ![16, 1024, 4096]⟩
abbrev S16x16x4096 : Shape := ⟨3, ![16, 16, 4096]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩
abbrev S16x1x4096 : Shape := ⟨3, ![16, 1, 4096]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S8x2048x4096, .f32⟩
  | .hbm, ⟨2, _⟩ => ⟨S1x4096, .f32⟩
  | .hbm, ⟨3, _⟩ => ⟨S1024x16x4096, .f32⟩
  | .hbm, ⟨4, _⟩ => ⟨S4096, .f32⟩
  | .hbm, ⟨5, _⟩ => ⟨S16x1024x4096, .f32⟩
  | .hbm, ⟨6, _⟩ => ⟨S1x4096, .f32⟩
  | .hbm, ⟨7, _⟩ => ⟨S1024x16x4096, .f32⟩
  | .local _ .vmem, ⟨0, _⟩ => ⟨S16x16x4096, .f32⟩
  | .local _ .vmem, ⟨1, _⟩ => ⟨S16x16x4096, .f32⟩
  | .local _ .vmem, ⟨2, _⟩ => ⟨S16x16x4096, .f32⟩
  | .local _ .vmem, ⟨3, _⟩ => ⟨S16x16x4096, .f32⟩
  | .local _ .vmem, ⟨4, _⟩ => ⟨S1x4096, .f32⟩
  | .local _ .vmem, ⟨5, _⟩ => ⟨S16x16x4096, .f32⟩
  | .local _ .vmem, ⟨6, _⟩ => ⟨S16x16x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostReferenceIdeal.lean ====
abbrev S16384x4096 : Shape := ⟨2, ![16384, 4096]⟩
abbrev S8x2048x4096 : Shape := ⟨3, ![8, 2048, 4096]⟩
abbrev S1x4096 : Shape := ⟨2, ![1, 4096]⟩
abbrev S16x1024x4096 : Shape := ⟨3, ![16, 1024, 4096]⟩
abbrev S1024x16x4096 : Shape := ⟨3, ![1024, 16, 4096]⟩
abbrev S_ : Shape := ⟨0, ![]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x2048x4096, .f32⟩
  | .hbm, ⟨2, _⟩ => ⟨S1x4096, .f32⟩
  | .hbm, ⟨3, _⟩ => ⟨S16x1024x4096, .f32⟩
  | .hbm, ⟨4, _⟩ => ⟨S1024x16x4096, .f32⟩
  | .hbm, ⟨5, _⟩ => ⟨S8x2048x4096, .f32⟩
  | .hbm, ⟨6, _⟩ => ⟨S8x2048x4096, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x4096, .f32⟩
  | .hbm, ⟨18, _⟩ => ⟨S8x2048x4096, .f32⟩
  | .hbm, ⟨19, _⟩ => ⟨S4096, .f32⟩
  | .hbm, ⟨20, _⟩ => ⟨S1x1x4096, .f32⟩
  | .hbm, ⟨21, _⟩ => ⟨S8x2048x4096, .f32⟩
  | .hbm, ⟨22, _⟩ => ⟨S8x2048x4096, .f32⟩
  | .hbm, ⟨23, _⟩ => ⟨S8x2048x4096, .f32⟩
  | .hbm, ⟨24, _⟩ => ⟨S1024x16x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== NormKernel.lean ====
abbrev S8x2048x4096 : Shape := ⟨3, ![8, 2048, 4096]⟩
abbrev S1x4096 : Shape := ⟨2, ![1, 4096]⟩
abbrev S1024x16x4096 : Shape := ⟨3, ![1024, 16, 4096]⟩
abbrev S4096 : Shape := ⟨1, ![4096]⟩
abbrev S16x1024x4096 : Shape := ⟨3, ![16, 1024, 4096]⟩
abbrev S32x16x4096 : Shape := ⟨3, ![32, 16, 4096]⟩
abbrev S16x32x4096 : Shape := ⟨3, ![16, 32, 4096]⟩
abbrev S32x1x4096 : Shape := ⟨3, ![32, 1, 4096]⟩
abbrev S32x4096 : Shape := ⟨2, ![32, 4096]⟩
abbrev S32 : Shape := ⟨1, ![32]⟩
abbrev S32x1 : Shape := ⟨2, ![32, 1]⟩
abbrev S1x32x4096 : Shape := ⟨3, ![1, 32, 4096]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1024x16x4096, .f32⟩
  | .hbm, ⟨3, _⟩ => ⟨S4096, .f32⟩
  | .hbm, ⟨4, _⟩ => ⟨S1x4096, .f32⟩
  | .hbm, ⟨5, _⟩ => ⟨S16x1024x4096, .bf16⟩
  | .local _ .vmem, ⟨0, _⟩ => ⟨S32x16x4096, .f32⟩
  | .local _ .vmem, ⟨1, _⟩ => ⟨S32x16x4096, .f32⟩
  | .local _ .vmem, ⟨2, _⟩ => ⟨S1x4096, .f32⟩
  | .local _ .vmem, ⟨3, _⟩ => ⟨S16x32x4096, .bf16⟩
  | .local _ .vmem, ⟨4, _⟩ => ⟨S16x32x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S8x2048x4096 : Shape := ⟨3, ![8, 2048, 4096]⟩
abbrev S1x4096 : Shape := ⟨2, ![1, 4096]⟩
abbrev S_ : Shape := ⟨0, ![]⟩
abbrev S8x2048 : Shape := ⟨2, ![8, 2048]⟩
abbrev S8x2048x1 : Shape := ⟨3, ![8, 2048, 1]⟩
abbrev S4096 : Shape := ⟨1, ![4096]⟩
abbrev S1x1x4096 : Shape := ⟨3, ![1, 1, 4096]⟩
abbrev S1024x16x4096 : Shape := ⟨3, ![1024, 16, 4096]⟩
abbrev S16x1024x4096 : Shape := ⟨3, ![16, 1024, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S8x2048x4096, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x4096, .f32⟩
  | .hbm, ⟨14, _⟩ => ⟨S8x2048x4096, .f32⟩
  | .hbm, ⟨15, _⟩ => ⟨S4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S8x2048x4096, .bf16⟩
  | .hbm, ⟨20, _⟩ => ⟨S1024x16x4096, .bf16⟩
  | .hbm, ⟨21, _⟩ => ⟨S16x1024x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== SampleKernel.lean ====
abbrev S8192x4096 : Shape := ⟨2, ![8192, 4096]⟩
abbrev S2x4096x4096 : Shape := ⟨3, ![2, 4096, 4096]⟩
abbrev S1x4096 : Shape := ⟨2, ![1, 4096]⟩
abbrev S512x16x4096 : Shape := ⟨3, ![512, 16, 4096]⟩
abbrev S4096 : Shape := ⟨1, ![4096]⟩
abbrev S16x512x4096 : Shape := ⟨3, ![16, 512, 4096]⟩
abbrev S16x16x4096 : Shape := ⟨3, ![16, 16, 4096]⟩
abbrev S1x16x4096 : Shape := ⟨3, ![1, 16, 4096]⟩
abbrev S16x4096 : Shape := ⟨2, ![16, 4096]⟩
abbrev S16 : Shape := ⟨1, ![16]⟩
abbrev S16x1 : Shape := ⟨2, ![16, 1]⟩
abbrev S16x1x4096 : Shape := ⟨3, ![16, 1, 4096]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S1x4096, .f32⟩
  | .hbm, ⟨3, _⟩ => ⟨S512x16x4096, .f32⟩
  | .hbm, ⟨4, _⟩ => ⟨S4096, .f32⟩
  | .hbm, ⟨5, _⟩ => ⟨S16x512x4096, .f32⟩
  | .hbm, ⟨6, _⟩ => ⟨S1x4096, .f32⟩
  | .hbm, ⟨7, _⟩ => ⟨S512x16x4096, .f32⟩
  | .local _ .vmem, ⟨0, _⟩ => ⟨S16x16x4096, .f32⟩
  | .local _ .vmem, ⟨1, _⟩ => ⟨S16x16x4096, .f32⟩
  | .local _ .vmem, ⟨2, _⟩ => ⟨S16x16x4096, .f32⟩
  | .local _ .vmem, ⟨3, _⟩ => ⟨S16x16x4096, .f32⟩
  | .local _ .vmem, ⟨4, _⟩ => ⟨S1x4096, .f32⟩
  | .local _ .vmem, ⟨5, _⟩ => ⟨S16x16x4096, .f32⟩
  | .local _ .vmem, ⟨6, _⟩ => ⟨S16x16x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SampleReferenceIdeal.lean ====
abbrev S8192x4096 : Shape := ⟨2, ![8192, 4096]⟩
abbrev S2x4096x4096 : Shape := ⟨3, ![2, 4096, 4096]⟩
abbrev S1x4096 : Shape := ⟨2, ![1, 4096]⟩
abbrev S16x512x4096 : Shape := ⟨3, ![16, 512, 4096]⟩
abbrev S512x16x4096 : Shape := ⟨3, ![512, 16, 4096]⟩
abbrev S_ : Shape := ⟨0, ![]⟩
abbrev S2x4096 : Shape := ⟨2, ![2, 4096]⟩
abbrev S2x4096x1 : Shape := ⟨3, ![2, 4096, 1]⟩
abbrev S4096 : Shape := ⟨1, ![4096]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x4096, .f32⟩
  | .hbm, ⟨2, _⟩ => ⟨S1x4096, .f32⟩
  | .hbm, ⟨3, _⟩ => ⟨S16x512x4096, .f32⟩
  | .hbm, ⟨4, _⟩ => ⟨S512x16x4096, .f32⟩
  | .hbm, ⟨5, _⟩ => ⟨S2x4096x4096, .f32⟩
  | .hbm, ⟨6, _⟩ => ⟨S2x4096x4096, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S4096, .f32⟩
  | .hbm, ⟨20, _⟩ => ⟨S1x1x4096, .f32⟩
  | .hbm, ⟨21, _⟩ => ⟨S2x4096x4096, .f32⟩
  | .hbm, ⟨22, _⟩ => ⟨S2x4096x4096, .f32⟩
  | .hbm, ⟨23, _⟩ => ⟨S2x4096x4096, .f32⟩
  | .hbm, ⟨24, _⟩ => ⟨S512x16x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Proof.Rest.lean ====
/- The input projection onto the gates and the Fourier branch: the kernel's result array is the reference's. -/
module

public import proofs.«01_k».proof.Defs
public import proofs.«01_k».proof.Proof.Gen.RestKernelIdeal.Value
public import proofs.«01_k».proof.Proof.Gen.RestReferenceIdeal.Run
public import proofs.«01_k».proof.Proof.Gen.RestReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RestKernelIdeal.Value

open Cert.RestKernelIdeal Cert.RestKernelIdeal.Gen
open Cert.RestReferenceIdeal.Read

variable (m : (ℓ : Loc nD τ sig) → Buf (Elt Ideal) ℓ)

/-- Every window's block index at grid point `t`. -/
theorem idx : ∀ t : Fin cfg0.N, win0_0.index t = ![t.val / 14, 0] ∧ win0_1.index t = ![0, t.val % 14] ∧ win0_2.index t = ![t.val / 14, t.val % 14] :=
  (by decide +kernel : ∀ t : Fin grid0.N, _)

/-- What the body stores at index `y` of point `t`'s block is the reference's value at the place of `y` in the array. -/
theorem point (c : Dev nD) (t : Fin cfg0.N) (y) : k0_pay1 (iblk m c 0 t) (iblk m c 1 t) y
    = val_main_v4 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4]
  blk_point [iblk, V, idx t]

/-- The result array after the run is the reference's term of the arguments. -/
theorem final (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RestKernelIdeal.Value

namespace Cert.Proof

/-- Over the reals the kernel and the reference end with the same result. -/
theorem algebraic_Rest : Cert.algebraic_RestKernelIdeal_RestReferenceIdeal := by
  pair_intro
  · run_from Cert.RestKernelIdeal.Value.run_blocks m g
  · run_from Cert.RestReferenceIdeal.Value.run m' g'
    rw [Cert.RestKernelIdeal.Value.final m c]
    rfl

end Cert.Proof

end
-- ==== Proof.Proj.lean ====
/- The input projection onto the recurrence's inputs: the kernel's result array is the reference's. -/
module

public import proofs.«01_k».proof.Defs
public import proofs.«01_k».proof.Proof.Gen.ProjKernelIdeal.Value
public import proofs.«01_k».proof.Proof.Gen.ProjReferenceIdeal.Run
public import proofs.«01_k».proof.Proof.Gen.ProjReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjKernelIdeal.Value

open Cert.ProjKernelIdeal Cert.ProjKernelIdeal.Gen
open Cert.ProjReferenceIdeal.Read

variable (m : (ℓ : Loc nD τ sig) → Buf (Elt Ideal) ℓ)

/-- Every window's block index at grid point `t`. -/
theorem idx : ∀ t : Fin cfg0.N, win0_0.index t = ![t.val % 2, 0] ∧ win0_1.index t = ![t.val / 2 % 16 * 2 + t.val / 32, 0] ∧ win0_2.index t = ![t.val % 2, t.val / 2 % 16, 0, t.val / 32] :=
  (by decide +kernel : ∀ t : Fin grid0.N, _)

/-- What the body stores at index `y` of point `t`'s block is the reference's value at the place `j` of `y` in the array. -/
theorem core (c : Dev nD) (t : Fin cfg0.N) (y : S64x1x16x512.Idx) (j : S128x16x16x1024.Idx) (hj0 : (j 0 : ℕ) = t.val % 2 * 64 + y 0) (hj1 : (j 1 : ℕ) = t.val / 2 % 16 + y 1) (hj2 : (j 2 : ℕ) = y 2) (hj3 : (j 3 : ℕ) = t.val / 32 * 512 + y 3) : k0_pay1 (iblk m c 0 t) (iblk m c 1 t) y
    = val_main_v5 (F := Ideal) (m ((c : Thread nD τ).loc main_arg0)) (m ((c : Thread nD τ).loc main_arg1)) j := by
  have ht : t.val < 64 := t.isLt
  pointwise [k0_pay1, val_main_v0, val_main_v1, val_main_v2, val_main_v3, val_main_v4, val_main_v5]
  refine Finset.sum_congr rfl fun k _ => ?_
  rw [mul_comm]
  blk_point [iblk, V, idx t]

/-- The same at the place the output window gives. -/
theorem point (c : Dev nD) (t : Fin cfg0.N) (y) : k0_pay1 (iblk m c 0 t) (iblk m c 1 t) y
    = val_main_v5 (F := Ideal) (m ((c : Thread nD τ).loc main_arg0)) (m ((c : Thread nD τ).loc main_arg1)) (((cfg0.win 2).blk t).view.emb y) := by
  refine core m c t y _ ?_ ?_ ?_ ?_ <;> (blk_simp [idx t] <;> try omega)

/-- The result array after the run is the reference's term of the arguments. -/
theorem final (c : Dev nD) : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjKernelIdeal.Value

namespace Cert.Proof

/-- Over the reals the kernel and the reference end with the same result. -/
theorem algebraic_Proj : Cert.algebraic_ProjKernelIdeal_ProjReferenceIdeal := by
  pair_intro
  · run_from Cert.ProjKernelIdeal.Value.run_blocks m g
  · run_from Cert.ProjReferenceIdeal.Value.run m' g'
    rw [Cert.ProjKernelIdeal.Value.final m c]
    rfl

end Cert.Proof

end
-- ==== Proof.Glu.lean ====
/- The gated linear unit of the recurrence's branch: the kernel's result array is the reference's. -/
module

public import proofs.«01_k».proof.Defs
public import proofs.«01_k».proof.Proof.Gen.GluKernelIdeal.Value
public import proofs.«01_k».proof.Proof.Gen.GluReferenceIdeal.Run
public import proofs.«01_k».proof.Proof.Gen.GluReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluKernelIdeal.Value

open Cert.GluKernelIdeal Cert.GluKernelIdeal.Gen
open Cert.GluReferenceIdeal.Read

variable (m : (ℓ : Loc nD τ sig) → Buf (Elt Ideal) ℓ)

/-- Every window's block index at grid point `t`. -/
theorem idx : ∀ t : Fin cfg0.N, win0_0.index t = ![0, t.val / 2 % 16, 0, t.val / 32] ∧ win0_1.index t = ![0, t.val % 2] ∧ win0_2.index t = ![0, 2 + t.val % 2] ∧ win0_3.index t = ![t.val / 2 % 16 * 2 + t.val / 32, t.val % 2] ∧ win0_4.index t = ![t.val / 2 % 16 * 2 + t.val / 32, t.val % 2] :=
  (by decide +kernel : ∀ t : Fin grid0.N, _)

/-- What the body stores at index `y` of point `t`'s block is the reference's value at the place `j` of `y` in the array. -/
theorem core (c : Dev nD) (t : Fin cfg0.N) (y : S512x1024.Idx) (j : S16384x2048.Idx) (hj0 : (j 0 : ℕ) = (t.val / 2 % 16 * 2 + t.val / 32) * 512 + y 0) (hj1 : (j 1 : ℕ) = t.val % 2 * 1024 + y 1) : k0_pay1 (iblk m c 0 t) (iblk m c 1 t) (iblk m c 2 t) (iblk m c 3 t) y
    = val_main_v18 (F := Ideal) (m ((c : Thread nD τ).loc main_arg0)) (m ((c : Thread nD τ).loc main_arg1)) (m ((c : Thread nD τ).loc main_arg2)) j := by
  have ht : t.val < 64 := t.isLt
  pointwise [k0_pay1, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_v15, val_main_call0_v0, val_main_call0_v1, val_main_call0_cst, val_main_call0_v2, val_main_call0_v3, val_main_call0_cst_0, val_main_call0_v4, val_main_call0_v5, val_main_v16, val_main_v17, val_main_v18]
  simp only [sub_eq_add_neg, zero_add]
  blk_point [iblk, V, idx t]

/-- The same at the place the output window gives. -/
theorem point (c : Dev nD) (t : Fin cfg0.N) (y) : k0_pay1 (iblk m c 0 t) (iblk m c 1 t) (iblk m c 2 t) (iblk m c 3 t) y
    = val_main_v18 (F := Ideal) (m ((c : Thread nD τ).loc main_arg0)) (m ((c : Thread nD τ).loc main_arg1)) (m ((c : Thread nD τ).loc main_arg2)) (((cfg0.win 4).blk t).view.emb y) := by
  refine core m c t y _ ?_ ?_ <;> (blk_simp [idx t] <;> try omega)

/-- The result array after the run is the reference's term of the arguments. -/
theorem final (c : Dev nD) : (dats m 0 c).arrAt 4 cfg0.N
    = val_main_v18 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.GluKernelIdeal.Value

namespace Cert.Proof

/-- Over the reals the kernel and the reference end with the same result. -/
theorem algebraic_Glu : Cert.algebraic_GluKernelIdeal_GluReferenceIdeal := by
  pair_intro
  · run_from Cert.GluKernelIdeal.Value.run_blocks m g
  · run_from Cert.GluReferenceIdeal.Value.run m' g'
    rw [Cert.GluKernelIdeal.Value.final m c]
    rfl

end Cert.Proof

end
-- ==== Proof.Merge.lean ====
/- The gated merge of the two branches: the kernel's result array is the reference's. -/
module

public import proofs.«01_k».proof.Defs
public import proofs.«01_k».proof.Proof.Gen.MergeKernelIdeal.Value
public import proofs.«01_k».proof.Proof.Gen.MergeReferenceIdeal.Run
public import proofs.«01_k».proof.Proof.Gen.MergeReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeKernelIdeal.Value

open Cert.MergeKernelIdeal Cert.MergeKernelIdeal.Gen
open Cert.MergeReferenceIdeal.Read

variable (m : (ℓ : Loc nD τ sig) → Buf (Elt Ideal) ℓ)

/-- Every window's block index at grid point `t`. -/
theorem idx : ∀ t : Fin cfg0.N, win0_0.index t = ![t.val / 4, 0] ∧ win0_1.index t = ![t.val / 4, 0] ∧ win0_2.index t = ![0, t.val % 4] ∧ win0_3.index t = ![0, t.val % 4] ∧ win0_4.index t = ![t.val / 4, 6 + t.val % 4] ∧ win0_5.index t = ![t.val / 4, 10 + t.val % 4] ∧ win0_6.index t = ![t.val / 4, t.val % 4] :=
  (by decide +kernel : ∀ t : Fin grid0.N, _)

/-- What the body stores at index `y` of point `t`'s block is the reference's value at the place `j` of `y` in the array. -/
theorem core (c : Dev nD) (t : Fin cfg0.N) (y : S1024x1024.Idx) (j : S16384x4096.Idx) (hj0 : (j 0 : ℕ) = t.val / 4 * 1024 + y 0) (hj1 : (j 1 : ℕ) = t.val % 4 * 1024 + y 1) : k0_pay1 (iblk m c 0 t) (iblk m c 2 t) (iblk m c 1 t) (iblk m c 3 t) (iblk m c 4 t) (iblk m c 5 t) y
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  have ht : t.val < 64 := t.isLt
  pointwise [k0_pay1, val_main_v0, val_main_v1, val_main_v2, val_main_v3, val_main_v4, val_main_v5, val_main_v6, val_main_v7, val_main_v8, val_main_v9, val_main_cst, val_main_v10, val_main_v11, val_main_cst_0, val_main_v12, val_main_v13, val_main_v14, val_main_v15, val_main_v16, val_main_v17, val_main_v18, val_main_v19]
  simp only [sub_eq_add_neg, zero_add]
  blk_point [iblk, V, idx t]

/-- The same at the place the output window gives. -/
theorem point (c : Dev nD) (t : Fin cfg0.N) (y) : k0_pay1 (iblk m c 0 t) (iblk m c 2 t) (iblk m c 1 t) (iblk m c 3 t) (iblk m c 4 t) (iblk m c 5 t) y
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  refine core m c t y _ ?_ ?_ <;> (blk_simp [idx t] <;> try omega)

/-- The result array after the run is the reference's term of the arguments. -/
theorem final (c : Dev nD) : (dats m 0 c).arrAt 6 cfg0.N
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.MergeKernelIdeal.Value

namespace Cert.Proof

/-- Over the reals the kernel and the reference end with the same result. -/
theorem algebraic_Merge : Cert.algebraic_MergeKernelIdeal_MergeReferenceIdeal := by
  pair_intro
  · run_from Cert.MergeKernelIdeal.Value.run_blocks m g
  · run_from Cert.MergeReferenceIdeal.Value.run m' g'
    rw [Cert.MergeKernelIdeal.Value.final m c]
    rfl

end Cert.Proof

end
-- ==== Proof.Out.lean ====
/- The output projection: the kernel's result array is the reference's. -/
module

public import proofs.«01_k».proof.Defs
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutKernelIdeal.Value

open Cert.OutKernelIdeal Cert.OutKernelIdeal.Gen
open Cert.OutReferenceIdeal.Read

variable (m : (ℓ : Loc nD τ sig) → Buf (Elt Ideal) ℓ)

/-- Every window's block index at grid point `t`. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- What the body stores at index `y` of point `t`'s block is the reference's value at the place of `y` in the array. -/
theorem point (c : Dev nD) (t : Fin cfg0.N) (y) : k0_pay1 (iblk m c 0 t) (iblk m c 1 t) y
    = val_main_v2 (F := Ideal) (m ((c : Thread nD τ).loc main_arg0)) (m ((c : Thread nD τ).loc main_arg1)) (((cfg0.win 2).blk t).view.emb y) := by
  pointwise [k0_pay1, val_main_v0, val_main_v1, val_main_v2]
  blk_point [iblk, V, idx t]

/-- The result array after the run is the reference's term of the arguments. -/
theorem final (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OutKernelIdeal.Value

namespace Cert.Proof

/-- Over the reals the kernel and the reference end with the same result. -/
theorem algebraic_Out : Cert.algebraic_OutKernelIdeal_OutReferenceIdeal := by
  pair_intro
  · run_from Cert.OutKernelIdeal.Value.run_blocks m g
  · run_from Cert.OutReferenceIdeal.Value.run m' g'
    rw [Cert.OutKernelIdeal.Value.final m c]
    rfl

end Cert.Proof

end
-- ==== Proof.Post.lean ====
/- The residual and the norm of the output, first batch: the kernel's result array is the reference's.
   The body stores sixteen tiles, one per place in a chunk; each is the same function `k0_pay2` of the tiles it loads. -/
module

public import proofs.«01_k».proof.Defs
public import proofs.«01_k».proof.Proof.Gen.PostKernelIdeal.Value
public import proofs.«01_k».proof.Proof.Gen.PostReferenceIdeal.Run
public import proofs.«01_k».proof.Proof.Gen.PostReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostKernelIdeal.Value

open Cert.PostKernelIdeal Cert.PostKernelIdeal.Gen
open Cert.PostReferenceIdeal.Read

variable (m : (ℓ : Loc nD τ sig) → Buf (Elt Ideal) ℓ)

/-- One row's result at lane `d`: the residual plus the row over its root mean square, times the weight. -/
def rowOut (o : Fin 4096 → EReal) (x g : EReal) (d : Fin 4096) : EReal :=
  x + o d * Ideal.rsqrt (Ideal.div (∑ k : Fin 4096, o k * o k) (Ideal.ofBits .f32 0x45800000#32)
    + Ideal.ofBits .f32 0x358637BD#32) * g

/-- A row's result depends on the row, the residual, the weight and the lane alone. -/
theorem rowOut_congr {o o' : Fin 4096 → EReal} {x x' g g' : EReal} {d d' : Fin 4096} (ho : ∀ k, o k = o' k) (hx : x = x')
    (hg : g = g') (hd : d = d') : rowOut o x g d = rowOut o' x' g' d' := by
  rw [show o = o' from funext ho, hx, hg, hd]

/-- A stored tile at its index `x`: `rowOut` of the loaded row. -/
theorem tile_at (v0 : Vec Ideal S1x16x4096 .f32) (v7 : Vec Ideal S16x1x4096 .f32) (v14 : Vec Ideal S1x4096 .f32) (x : S16x1x4096.Idx) :
    k0_pay2 v0 v7 v14 x = rowOut (fun k => v0 (ix3 0 (x 0) k)) (v7 x) (v14 (ix2 0 (x 2))) (x 2) := by
  pointwise [k0_pay2, rowOut]

/-- The block the body leaves, index by index. -/
theorem out_at (x0 : Vec Ideal S16x16x4096 .f32) (x1 : Vec Ideal S16x16x4096 .f32) (x2 : Vec Ideal S1x4096 .f32) (y : S16x16x4096.Idx) :
    out0_3 x0 x1 x2 y = rowOut (fun k => x0 (ix3 (y 1) (y 0) k)) (x1 y) (x2 (ix2 0 (y 2))) (y 2) := by
  canon_tiles x h
  all_goals (refine (tile_at _ _ _ x).trans (rowOut_congr (fun k => ?_) ?_ ?_ (Fin.ext h2.symm)) <;> (pointwise; blk_ext))

/-- Every window's block index at grid point `t`. -/
theorem idx : ∀ t : Fin cfg0.N, win0_0.index t = ![0, t.val, 0] ∧ win0_1.index t = ![t.val, 0, 0] ∧ win0_2.index t = ![0, 0]
    ∧ win0_3.index t = ![t.val, 0, 0] :=
  (by decide +kernel : ∀ t : Fin grid0.N, _)

/-- The reference's result at an index of the array. -/
theorem ref_at (X0 : (⟨S16384x4096, .f32⟩ : BufTy).Contents (Elt Ideal)) (X1 : (⟨S8x2048x4096, .f32⟩ : BufTy).Contents (Elt Ideal))
    (X2 : (⟨S1x4096, .f32⟩ : BufTy).Contents (Elt Ideal)) (j : S1024x16x4096.Idx) : val_main_v18 (F := Ideal) X0 X1 X2 j
    = rowOut (fun k => X0 (ix2 ⟨j 1 * 1024 + j 0, by have h0 : (j 0 : ℕ) < 1024 := (j 0).isLt; have h1 : (j 1 : ℕ) < 16 := (j 1).isLt; omega⟩ k)) (X1 (ix3 ⟨(j 0 * 16 + j 1) / 2048, by have h0 : (j 0 : ℕ) < 1024 := (j 0).isLt; have h1 : (j 1 : ℕ) < 16 := (j 1).isLt; omega⟩ ⟨(j 0 * 16 + j 1) % 2048, by omega⟩ (j 2)))
      (X2 (ix2 0 (j 2))) (j 2) := by
  pointwise [rowOut, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18]
  refine congrArg₂ _ (congrArg X1 ?_) rfl
  have h0 : (j 0 : ℕ) < 1024 := (j 0).isLt
  have h1 : (j 1 : ℕ) < 16 := (j 1).isLt
  refine congrArg₂ (fun a b => ix3 a b (j 2)) (Fin.ext ?_) (Fin.ext ?_)
  · show (j 0 : ℕ) / 128 = ((j 0 : ℕ) * 16 + j 1) / 2048
    omega
  · show (j 0 : ℕ) % 128 * 16 + (j 1 : ℕ) = ((j 0 : ℕ) * 16 + j 1) % 2048
    omega

/-- What the body stores at index `y` of point `t`'s block is the reference's value at the place `j` of `y` in the array. -/
theorem core (c : Dev nD) (t : Fin cfg0.N) (y : S16x16x4096.Idx) (j : S1024x16x4096.Idx) (hj0 : (j 0 : ℕ) = t.val * 16 + y 0)
    (hj1 : (j 1 : ℕ) = y 1) (hj2 : (j 2 : ℕ) = y 2) : out0_3 (iblk m c 0 t) (iblk m c 1 t) (iblk m c 2 t) y
    = val_main_v18 (F := Ideal) (m ((c : Thread nD τ).loc main_arg0)) (m ((c : Thread nD τ).loc main_arg1)) (m ((c : Thread nD τ).loc main_arg2)) j := by
  rw [out_at, ref_at]
  have ht : t.val < 64 := t.isLt
  refine rowOut_congr (fun k => ?_) ?_ ?_ (Fin.ext hj2.symm)
  all_goals blk_point [iblk, V, idx t]

/-- The same at the place the output window gives. -/
theorem point (c : Dev nD) (t : Fin cfg0.N) (y) : out0_3 (iblk m c 0 t) (iblk m c 1 t) (iblk m c 2 t) y
    = val_main_v18 (F := Ideal) (m ((c : Thread nD τ).loc main_arg0)) (m ((c : Thread nD τ).loc main_arg1)) (m ((c : Thread nD τ).loc main_arg2)) (((cfg0.win 3).blk t).view.emb y) := by
  refine core m c t y _ ?_ ?_ ?_ <;> (blk_simp [idx t] <;> try omega)

/-- The result array after the run is the reference's term of the arguments. -/
theorem final (c : Dev nD) : (dats m 0 c).arrAt 3 cfg0.N
    = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.PostKernelIdeal.Value

namespace Cert.Proof

/-- Over the reals the kernel and the reference end with the same result. -/
theorem algebraic_Post : Cert.algebraic_PostKernelIdeal_PostReferenceIdeal := by
  pair_intro
  · run_from Cert.PostKernelIdeal.Value.run_blocks m g
  · run_from Cert.PostReferenceIdeal.Value.run m' g'
    rw [Cert.PostKernelIdeal.Value.final m c]
    rfl

end Cert.Proof

end
-- ==== Proof.Norm.lean ====
/- The norm of the input: the kernel's result array is the reference's.
   The body stores sixteen tiles, one per place in a chunk; each is the same function `k0_pay2` of the tiles it loads. -/
module

public import proofs.«01_k».proof.Defs
public import proofs.«01_k».proof.Proof.Gen.NormKernelIdeal.Value
public import proofs.«01_k».proof.Proof.Gen.NormReferenceIdeal.Run
public import proofs.«01_k».proof.Proof.Gen.NormReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormKernelIdeal.Value

open Cert.NormKernelIdeal Cert.NormKernelIdeal.Gen
open Cert.NormReferenceIdeal.Read

variable (m : (ℓ : Loc nD τ sig) → Buf (Elt Ideal) ℓ)

/-- One row's result at lane `d`: the row over its root mean square, times the weight. -/
def rowOut (o : Fin 4096 → EReal) (g : EReal) (d : Fin 4096) : EReal :=
  o d * Ideal.rsqrt (Ideal.div (∑ k : Fin 4096, o k * o k) (Ideal.ofBits .f32 0x45800000#32)
    + Ideal.ofBits .f32 0x358637BD#32) * g

/-- A row's result depends on the row, the weight and the lane alone. -/
theorem rowOut_congr {o o' : Fin 4096 → EReal} {g g' : EReal} {d d' : Fin 4096} (ho : ∀ k, o k = o' k) (hg : g = g')
    (hd : d = d') : rowOut o g d = rowOut o' g' d' := by
  rw [show o = o' from funext ho, hg, hd]

/-- A stored tile at its index `x`: `rowOut` of the loaded row. -/
theorem tile_at (v0 : Vec Ideal S32x1x4096 .f32) (v1 : Vec Ideal S1x4096 .f32) (x : S1x32x4096.Idx) :
    k0_pay2 v0 v1 x = rowOut (fun k => v0 (ix3 (x 1) 0 k)) (v1 (ix2 0 (x 2))) (x 2) := by
  pointwise [k0_pay2, rowOut]

/-- The block the body leaves, index by index. -/
theorem out_at (x0 : Vec Ideal S32x16x4096 .f32) (x1 : Vec Ideal S1x4096 .f32) (y : S16x32x4096.Idx) :
    out0_2 x0 x1 y = rowOut (fun k => x0 (ix3 (y 1) (y 0) k)) (x1 (ix2 0 (y 2))) (y 2) := by
  canon_tiles x h
  all_goals (refine (tile_at _ _ x).trans (rowOut_congr (fun k => ?_) ?_ (Fin.ext h2.symm)) <;> (pointwise; blk_ext))

/-- Every window's block index at grid point `t`. -/
theorem idx : ∀ t : Fin cfg0.N, win0_0.index t = ![t.val, 0, 0] ∧ win0_1.index t = ![0, 0] ∧ win0_2.index t = ![0, t.val, 0] :=
  (by decide +kernel : ∀ t : Fin grid0.N, _)

/-- The reference's result at an index of the array. -/
theorem ref_at (X0 : (⟨S8x2048x4096, .f32⟩ : BufTy).Contents (Elt Ideal)) (X1 : (⟨S1x4096, .f32⟩ : BufTy).Contents (Elt Ideal))
    (j : S16x1024x4096.Idx) : val_main_v16 (F := Ideal) X0 X1 j
    = rowOut (fun k => X0 (ix3 ⟨(j 1 * 16 + j 0) / 2048, by have h0 : (j 0 : ℕ) < 16 := (j 0).isLt; have h1 : (j 1 : ℕ) < 1024 := (j 1).isLt; omega⟩
        ⟨(j 1 * 16 + j 0) % 2048, Nat.mod_lt _ (by decide)⟩ k)) (X1 (ix2 0 (j 2))) (j 2) := by
  have h0 : (j 0 : ℕ) < 16 := (j 0).isLt
  have h1 : (j 1 : ℕ) < 1024 := (j 1).isLt
  pointwise [rowOut, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16]
  refine rowOut_congr (o := fun k => X0 (ix3 (⟨(j 1 : ℕ) / 128, by omega⟩ : Fin 8) (⟨(j 1 : ℕ) % 128 * 16 + j 0, by omega⟩ : Fin 2048) k))
    (fun k => congrArg₂ (fun a b => X0 (ix3 a b k)) (Fin.ext ?_) (Fin.ext ?_)) rfl rfl
  · show (j 1 : ℕ) / 128 = ((j 1 : ℕ) * 16 + j 0) / 2048
    omega
  · show (j 1 : ℕ) % 128 * 16 + (j 0 : ℕ) = ((j 1 : ℕ) * 16 + j 0) % 2048
    omega

/-- What the body stores at index `y` of point `t`'s block is the reference's value at the place `j` of `y` in the array. -/
theorem core (c : Dev nD) (t : Fin cfg0.N) (y : S16x32x4096.Idx) (j : S16x1024x4096.Idx) (hj0 : (j 0 : ℕ) = y 0)
    (hj1 : (j 1 : ℕ) = t.val * 32 + y 1) (hj2 : (j 2 : ℕ) = y 2) : out0_2 (iblk m c 0 t) (iblk m c 1 t) y
    = val_main_v16 (F := Ideal) (m ((c : Thread nD τ).loc main_arg0)) (m ((c : Thread nD τ).loc main_arg1)) j := by
  rw [out_at, ref_at]
  have ht : t.val < 32 := t.isLt
  refine rowOut_congr (fun k => ?_) ?_ (Fin.ext hj2.symm)
  all_goals blk_point [iblk, V, idx t]

/-- The same at the place the output window gives. -/
theorem point (c : Dev nD) (t : Fin cfg0.N) (y) : out0_2 (iblk m c 0 t) (iblk m c 1 t) y
    = val_main_v16 (F := Ideal) (m ((c : Thread nD τ).loc main_arg0)) (m ((c : Thread nD τ).loc main_arg1)) (((cfg0.win 2).blk t).view.emb y) := by
  refine core m c t y _ ?_ ?_ ?_ <;> (blk_simp [idx t] <;> try omega)

/-- The result array after the run is the reference's term of the arguments. -/
theorem final (c : Dev nD) : (dats m 0 c).arrAt 2 cfg0.N
    = val_main_v16 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.NormKernelIdeal.Value

namespace Cert.Proof

/-- Over the reals the kernel and the reference end with the same result. -/
theorem algebraic_Norm : Cert.algebraic_NormKernelIdeal_NormReferenceIdeal := by
  pair_intro
  · run_from Cert.NormKernelIdeal.Value.run_blocks m g
  · run_from Cert.NormReferenceIdeal.Value.run m' g'
    rw [Cert.NormKernelIdeal.Value.final m c]
    rfl

end Cert.Proof

end
-- ==== Proof.Sample.lean ====
/- The residual and the norm of the output, second batch: the kernel's result array is the reference's.
   The body stores sixteen tiles, one per place in a chunk; each is the same function `k0_pay2` of the tiles it loads. -/
module

public import proofs.«01_k».proof.Defs
public import proofs.«01_k».proof.Proof.Gen.SampleKernelIdeal.Value
public import proofs.«01_k».proof.Proof.Gen.SampleReferenceIdeal.Run
public import proofs.«01_k».proof.Proof.Gen.SampleReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleKernelIdeal.Value

open Cert.SampleKernelIdeal Cert.SampleKernelIdeal.Gen
open Cert.SampleReferenceIdeal.Read

variable (m : (ℓ : Loc nD τ sig) → Buf (Elt Ideal) ℓ)

/-- One row's result at lane `d`: the residual plus the row over its root mean square, times the weight. -/
def rowOut (o : Fin 4096 → EReal) (x g : EReal) (d : Fin 4096) : EReal :=
  x + o d * Ideal.rsqrt (Ideal.div (∑ k : Fin 4096, o k * o k) (Ideal.ofBits .f32 0x45800000#32)
    + Ideal.ofBits .f32 0x358637BD#32) * g

/-- A row's result depends on the row, the residual, the weight and the lane alone. -/
theorem rowOut_congr {o o' : Fin 4096 → EReal} {x x' g g' : EReal} {d d' : Fin 4096} (ho : ∀ k, o k = o' k) (hx : x = x')
    (hg : g = g') (hd : d = d') : rowOut o x g d = rowOut o' x' g' d' := by
  rw [show o = o' from funext ho, hx, hg, hd]

/-- A stored tile at its index `x`: `rowOut` of the loaded row. -/
theorem tile_at (v0 : Vec Ideal S1x16x4096 .f32) (v7 : Vec Ideal S16x1x4096 .f32) (v14 : Vec Ideal S1x4096 .f32) (x : S16x1x4096.Idx) :
    k0_pay2 v0 v7 v14 x = rowOut (fun k => v0 (ix3 0 (x 0) k)) (v7 x) (v14 (ix2 0 (x 2))) (x 2) := by
  pointwise [k0_pay2, rowOut]

/-- The block the body leaves, index by index. -/
theorem out_at (x0 : Vec Ideal S16x16x4096 .f32) (x1 : Vec Ideal S16x16x4096 .f32) (x2 : Vec Ideal S1x4096 .f32) (y : S16x16x4096.Idx) :
    out0_3 x0 x1 x2 y = rowOut (fun k => x0 (ix3 (y 1) (y 0) k)) (x1 y) (x2 (ix2 0 (y 2))) (y 2) := by
  canon_tiles x h
  all_goals (refine (tile_at _ _ _ x).trans (rowOut_congr (fun k => ?_) ?_ ?_ (Fin.ext h2.symm)) <;> (pointwise; blk_ext))

/-- Every window's block index at grid point `t`. -/
theorem idx : ∀ t : Fin cfg0.N, win0_0.index t = ![0, t.val, 0] ∧ win0_1.index t = ![t.val, 0, 0] ∧ win0_2.index t = ![0, 0]
    ∧ win0_3.index t = ![t.val, 0, 0] :=
  (by decide +kernel : ∀ t : Fin grid0.N, _)

/-- The reference's result at an index of the array. -/
theorem ref_at (X0 : (⟨S8192x4096, .f32⟩ : BufTy).Contents (Elt Ideal)) (X1 : (⟨S2x4096x4096, .f32⟩ : BufTy).Contents (Elt Ideal))
    (X2 : (⟨S1x4096, .f32⟩ : BufTy).Contents (Elt Ideal)) (j : S512x16x4096.Idx) : val_main_v18 (F := Ideal) X0 X1 X2 j
    = rowOut (fun k => X0 (ix2 ⟨j 1 * 512 + j 0, by have h0 : (j 0 : ℕ) < 512 := (j 0).isLt; have h1 : (j 1 : ℕ) < 16 := (j 1).isLt; omega⟩ k)) (X1 (ix3 ⟨(j 0 * 16 + j 1) / 4096, by have h0 : (j 0 : ℕ) < 512 := (j 0).isLt; have h1 : (j 1 : ℕ) < 16 := (j 1).isLt; omega⟩ ⟨(j 0 * 16 + j 1) % 4096, by omega⟩ (j 2)))
      (X2 (ix2 0 (j 2))) (j 2) := by
  pointwise [rowOut, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_v18]
  refine congrArg₂ _ (congrArg X1 ?_) rfl
  have h0 : (j 0 : ℕ) < 512 := (j 0).isLt
  have h1 : (j 1 : ℕ) < 16 := (j 1).isLt
  refine congrArg₂ (fun a b => ix3 a b (j 2)) (Fin.ext ?_) (Fin.ext ?_)
  · show (j 0 : ℕ) / 256 = ((j 0 : ℕ) * 16 + j 1) / 4096
    omega
  · show (j 0 : ℕ) % 256 * 16 + (j 1 : ℕ) = ((j 0 : ℕ) * 16 + j 1) % 4096
    omega

/-- What the body stores at index `y` of point `t`'s block is the reference's value at the place `j` of `y` in the array. -/
theorem core (c : Dev nD) (t : Fin cfg0.N) (y : S16x16x4096.Idx) (j : S512x16x4096.Idx) (hj0 : (j 0 : ℕ) = t.val * 16 + y 0)
    (hj1 : (j 1 : ℕ) = y 1) (hj2 : (j 2 : ℕ) = y 2) : out0_3 (iblk m c 0 t) (iblk m c 1 t) (iblk m c 2 t) y
    = val_main_v18 (F := Ideal) (m ((c : Thread nD τ).loc main_arg0)) (m ((c : Thread nD τ).loc main_arg1)) (m ((c : Thread nD τ).loc main_arg2)) j := by
  rw [out_at, ref_at]
  have ht : t.val < 32 := t.isLt
  refine rowOut_congr (fun k => ?_) ?_ ?_ (Fin.ext hj2.symm)
  all_goals blk_point [iblk, V, idx t]

/-- The same at the place the output window gives. -/
theorem point (c : Dev nD) (t : Fin cfg0.N) (y) : out0_3 (iblk m c 0 t) (iblk m c 1 t) (iblk m c 2 t) y
    = val_main_v18 (F := Ideal) (m ((c : Thread nD τ).loc main_arg0)) (m ((c : Thread nD τ).loc main_arg1)) (m ((c : Thread nD τ).loc main_arg2)) (((cfg0.win 3).blk t).view.emb y) := by
  refine core m c t y _ ?_ ?_ ?_ <;> (blk_simp [idx t] <;> try omega)

/-- The result array after the run is the reference's term of the arguments. -/
theorem final (c : Dev nD) : (dats m 0 c).arrAt 3 cfg0.N
    = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.SampleKernelIdeal.Value

namespace Cert.Proof

/-- Over the reals the kernel and the reference end with the same result. -/
theorem algebraic_Sample : Cert.algebraic_SampleKernelIdeal_SampleReferenceIdeal := by
  pair_intro
  · run_from Cert.SampleKernelIdeal.Value.run_blocks m g
  · run_from Cert.SampleReferenceIdeal.Value.run m' g'
    rw [Cert.SampleKernelIdeal.Value.final m c]
    rfl

end Cert.Proof

end
-- ==== Proof.Lit.lean ====
module

public import proofs.«01_k».proof.KernelIdeal
public import Idealize.ShloMosaic.Lib.Decide
public import Idealize.ShloMosaic.Lib.Pointwise

/-! # The tile constant's words -/

@[expose] public section

set_option maxRecDepth 16384

namespace Cert.KernelIdeal.Lay

open Idealize.ShloMosaic Cert.KernelIdeal

/-- The words of the tile constant's first sixteen rows: a one where the row is the column's channel. -/
theorem words : ∀ (c : Fin 16) (r : Fin 256), lit0 ⟨c.val * 256 + r.val, by have := c.isLt; have := r.isLt; show _ < 32768; omega⟩
    = if c.val = r.val % 16 then 0x3F800000#32 else 0#32 := by
  decide +kernel

end Cert.KernelIdeal.Lay
-- ==== Proof.RefTrip.lean ====
module

public import proofs.«01_k».proof.Proof.Gen.ReferenceIdeal.Run
public import proofs.«01_k».proof.Proof.Gen.ReferenceIdeal.Step

/-! # The reference's run over the steps of its loop

    The generated statements, with the four written-back arrays' steps closed by the equation itself. -/

@[expose] public section

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v75_7) = s.main_v75_7
  f_8 : V0 (Proc.devRef .tc main_v75_8) = s.main_v75_8
  f_9 : V0 (Proc.devRef .tc main_v75_9) = s.main_v75_9
  f_10 : V0 (Proc.devRef .tc main_v75_10) = s.main_v75_10
  f_11 : V0 (Proc.devRef .tc main_v75_11) = s.main_v75_11
  f_12 : V0 (Proc.devRef .tc main_v75_12) = s.main_v75_12
  f_13 : V0 (Proc.devRef .tc main_v75_13) = s.main_v75_13
  f_14 : V0 (Proc.devRef .tc main_v75_14) = s.main_v75_14
  f_0 : V0 (Proc.devRef .tc main_v75_0) = s.main_v75_0
  f_1 : V0 (Proc.devRef .tc main_v75_1) = s.main_v75_1
  f_2 : V0 (Proc.devRef .tc main_v75_2) = s.main_v75_2
  f_3 : V0 (Proc.devRef .tc main_v75_3) = s.main_v75_3
  f_4 : V0 (Proc.devRef .tc main_v75_4) = s.main_v75_4
  f_5 : V0 (Proc.devRef .tc main_v75_5) = s.main_v75_5
  n_6 : V0 (Proc.devRef .tc main_v75_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x8x128x64 (V0 (Proc.devRef .tc main_v75_0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S8x128x64 (Host.dynamicSlice S1x8x128x64 (V0 (Proc.devRef .tc main_v75_0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64) shapeCasts_S1x8x128x64_S8x128x64 : (Proc.devRef .tc main_while0b_v121 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x8x128x64 (V0 (Proc.devRef .tc main_v75_1)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S8x128x64 (Host.dynamicSlice S1x8x128x64 (V0 (Proc.devRef .tc main_v75_1)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64) shapeCasts_S1x8x128x64_S8x128x64 : (Proc.devRef .tc main_while0b_v122 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x8x128x64 (V0 (Proc.devRef .tc main_v75_2)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S8x128x64 (Host.dynamicSlice S1x8x128x64 (V0 (Proc.devRef .tc main_v75_2)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64) shapeCasts_S1x8x128x64_S8x128x64 : (Proc.devRef .tc main_while0b_v123 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x8x128x64 (V0 (Proc.devRef .tc main_v75_3)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S8x128x64 (Host.dynamicSlice S1x8x128x64 (V0 (Proc.devRef .tc main_v75_3)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) sliceFits_S2048x8x128x64_S1x8x128x64) shapeCasts_S1x8x128x64_S8x128x64 : (Proc.devRef .tc main_while0b_v124 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (extractStridedSlice S1x128x64 ![0, 0, 0] (V0 (Proc.devRef .tc main_v75_4)) slices_S2x128x64_S1x128x64_0_0_0 : (Proc.devRef .tc main_while0b_v125 : DevRef τ sig).ty.Contents (Elt F)) = Cert.ReferenceIdeal.Step.b20 j s := by
  unfold Cert.ReferenceIdeal.Step.b20
  rw [h.f_4]
  try rfl
set_option maxRecDepth 8192 in
theorem al_21 (h : Holds V0 s j) : (shapeCast S128x64 (extractStridedSlice S1x128x64 ![0, 0, 0] (V0 (Proc.devRef .tc main_v75_4)) slices_S2x128x64_S1x128x64_0_0_0) shapeCasts_S1x128x64_S128x64 : (Proc.devRef .tc main_while0b_v126 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64) : (Proc.devRef .tc main_while0b_v127 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64)) : (Proc.devRef .tc main_while0b_v128 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64))) (V0 (Proc.devRef .tc main_v75_7)) : (Proc.devRef .tc main_while0b_v129 : DevRef τ sig).ty.Contents (Elt F)) = Cert.ReferenceIdeal.Step.b24 j s := by
  unfold Cert.ReferenceIdeal.Step.b24
  rw [← al_23 h, h.f_7]
  try rfl
set_option maxRecDepth 8192 in
theorem al_25 (h : Holds V0 s j) : (extractStridedSlice S1x128x64 ![0, 0, 0] (V0 (Proc.devRef .tc main_v75_5)) slices_S2x128x64_S1x128x64_0_0_0 : (Proc.devRef .tc main_while0b_v130 : DevRef τ sig).ty.Contents (Elt F)) = Cert.ReferenceIdeal.Step.b25 j s := by
  unfold Cert.ReferenceIdeal.Step.b25
  rw [h.f_5]
  try rfl
set_option maxRecDepth 8192 in
theorem al_26 (h : Holds V0 s j) : (shapeCast S128x64 (extractStridedSlice S1x128x64 ![0, 0, 0] (V0 (Proc.devRef .tc main_v75_5)) slices_S2x128x64_S1x128x64_0_0_0) shapeCasts_S1x128x64_S128x64 : (Proc.devRef .tc main_while0b_v131 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64) : (Proc.devRef .tc main_while0b_v132 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64)) : (Proc.devRef .tc main_while0b_v133 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64))) (V0 (Proc.devRef .tc main_v75_8)) : (Proc.devRef .tc main_while0b_v134 : DevRef τ sig).ty.Contents (Elt F)) = Cert.ReferenceIdeal.Step.b29 j s := by
  unfold Cert.ReferenceIdeal.Step.b29
  rw [← al_28 h, h.f_8]
  try rfl
set_option maxRecDepth 8192 in
theorem al_30 (h : Holds V0 s j) : (subf (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64))) (V0 (Proc.devRef .tc main_v75_7))) (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64))) (V0 (Proc.devRef .tc main_v75_8))) : (Proc.devRef .tc main_while0b_v135 : DevRef τ sig).ty.Contents (Elt F)) = Cert.ReferenceIdeal.Step.b30 j s := by
  unfold Cert.ReferenceIdeal.Step.b30
  rw [← al_24 h, ← al_29 h]
  try rfl
set_option maxRecDepth 8192 in
theorem al_31 (h : Holds V0 s j) : (res_main_while0b_v136 V0 : (Proc.devRef .tc main_while0b_v136 : DevRef τ sig).ty.Contents (Elt F)) = Cert.ReferenceIdeal.Step.b31 j s := by
  unfold res_main_while0b_v136 Cert.ReferenceIdeal.Step.b31
  rw [← al_30 h, ← al_4 h]
  try rfl
set_option maxRecDepth 8192 in
theorem al_32 (h : Holds V0 s j) : (extractStridedSlice S1x128x64 ![0, 0, 0] (V0 (Proc.devRef .tc main_v75_4)) slices_S2x128x64_S1x128x64_0_0_0 : (Proc.devRef .tc main_while0b_v137 : DevRef τ sig).ty.Contents (Elt F)) = Cert.ReferenceIdeal.Step.b32 j s := by
  unfold Cert.ReferenceIdeal.Step.b32
  rw [h.f_4]
  try rfl
set_option maxRecDepth 8192 in
theorem al_33 (h : Holds V0 s j) : (shapeCast S128x64 (extractStridedSlice S1x128x64 ![0, 0, 0] (V0 (Proc.devRef .tc main_v75_4)) slices_S2x128x64_S1x128x64_0_0_0) shapeCasts_S1x128x64_S128x64 : (Proc.devRef .tc main_while0b_v138 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64) : (Proc.devRef .tc main_while0b_v139 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64)) : (Proc.devRef .tc main_while0b_v140 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64))) (V0 (Proc.devRef .tc main_v75_8)) : (Proc.devRef .tc main_while0b_v141 : DevRef τ sig).ty.Contents (Elt F)) = Cert.ReferenceIdeal.Step.b36 j s := by
  unfold Cert.ReferenceIdeal.Step.b36
  rw [← al_35 h, h.f_8]
  try rfl
set_option maxRecDepth 8192 in
theorem al_37 (h : Holds V0 s j) : (extractStridedSlice S1x128x64 ![0, 0, 0] (V0 (Proc.devRef .tc main_v75_5)) slices_S2x128x64_S1x128x64_0_0_0 : (Proc.devRef .tc main_while0b_v142 : DevRef τ sig).ty.Contents (Elt F)) = Cert.ReferenceIdeal.Step.b37 j s := by
  unfold Cert.ReferenceIdeal.Step.b37
  rw [h.f_5]
  try rfl
set_option maxRecDepth 8192 in
theorem al_38 (h : Holds V0 s j) : (shapeCast S128x64 (extractStridedSlice S1x128x64 ![0, 0, 0] (V0 (Proc.devRef .tc main_v75_5)) slices_S2x128x64_S1x128x64_0_0_0) shapeCasts_S1x128x64_S128x64 : (Proc.devRef .tc main_while0b_v143 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64) : (Proc.devRef .tc main_while0b_v144 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64)) : (Proc.devRef .tc main_while0b_v145 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64))) (V0 (Proc.devRef .tc main_v75_7)) : (Proc.devRef .tc main_while0b_v146 : DevRef τ sig).ty.Contents (Elt F)) = Cert.ReferenceIdeal.Step.b41 j s := by
  unfold Cert.ReferenceIdeal.Step.b41
  rw [← al_40 h, h.f_7]
  try rfl
set_option maxRecDepth 8192 in
theorem al_42 (h : Holds V0 s j) : (addf (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_4)) slices_S2x128x64_S1x128x64_0_0_0) shapeCasts_S1x128x64_S128x64))) (V0 (Proc.devRef .tc main_v75_8))) (mulf (broadcastInDim S8x128x64 ![0, 1, 2] bcast_S1x128x64_S8x128x64_0_1_2 (broadcastInDim S1x128x64 ![1, 2] bcast_S128x64_S1x128x64_1_2 (shapeCast S128x64 (extractStridedSlice S1x128x64 ![0, 0, 0] (V0 (Proc.devRef .tc main_v75_5)) slices_S2x128x64_S1x128x64_0_0_0) shapeCasts_S1x128x64_S128x64))) (V0 (Proc.devRef .tc main_v75_7))) : (Proc.devRef .tc main_while0b_v147 : DevRef τ sig).ty.Contents (Elt F)) = Cert.ReferenceIdeal.Step.b42 j s := by
  unfold Cert.ReferenceIdeal.Step.b42
  rw [← al_36 h, ← al_41 h]
  try rfl
set_option maxRecDepth 8192 in
theorem al_43 (h : Holds V0 s j) : (res_main_while0b_v148 V0 : (Proc.devRef .tc main_while0b_v148 : DevRef τ sig).ty.Contents (Elt F)) = Cert.ReferenceIdeal.Step.b43 j s := by
  unfold res_main_while0b_v148 Cert.ReferenceIdeal.Step.b43
  rw [← al_42 h, ← al_9 h]
  try rfl
set_option maxRecDepth 8192 in
theorem al_44 (h : Holds V0 s j) : (extractStridedSlice S1x128x64 ![1, 0, 0] (V0 (Proc.devRef .tc main_v75_4)) slices_S2x128x64_S1x128x64_1_0_0 : (Proc.devRef .tc main_while0b_v149 : DevRef τ sig).ty.Contents (Elt F)) = Cert.ReferenceIdeal.Step.b44 j s := by
  unfold Cert.ReferenceIdeal.Step.b44
  rw [h.f_4]
  try rfl
set_option maxRecDepth 8192 in
theorem al_45 (h : Holds V0 s j) : (shapeCast S128x64 (extractStridedSlice S1x128x64 ![1, 0, 0] (V0 (Proc.devRef .tc main_v75_4)) slices_S2x128x64_S1x128x64_1_0_0) shapeCasts_S1x128x64_S128x64 : (Proc.devRef .tc main_while0b_v150 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64) : (Proc.devRef .tc main_while0b_v151 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64)) : (Proc.devRef .tc main_while0b_v152 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64))) (V0 (Proc.devRef .tc main_v75_9)) : (Proc.devRef .tc main_while0b_v153 : DevRef τ sig).ty.Contents (Elt F)) = Cert.ReferenceIdeal.Step.b48 j s := by
  unfold Cert.ReferenceIdeal.Step.b48
  rw [← al_47 h, h.f_9]
  try rfl
set_option maxRecDepth 8192 in
theorem al_49 (h : Holds V0 s j) : (extractStridedSlice S1x128x64 ![1, 0, 0] (V0 (Proc.devRef .tc main_v75_5)) slices_S2x128x64_S1x128x64_1_0_0 : (Proc.devRef .tc main_while0b_v154 : DevRef τ sig).ty.Contents (Elt F)) = Cert.ReferenceIdeal.Step.b49 j s := by
  unfold Cert.ReferenceIdeal.Step.b49
  rw [h.f_5]
  try rfl
set_option maxRecDepth 8192 in
theorem al_50 (h : Holds V0 s j) : (shapeCast S128x64 (extractStridedSlice S1x128x64 ![1, 0, 0] (V0 (Proc.devRef .tc main_v75_5)) slices_S2x128x64_S1x128x64_1_0_0) shapeCasts_S1x128x64_S128x64 : (Proc.devRef .tc main_while0b_v155 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64) : (Proc.devRef .tc main_while0b_v156 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64)) : (Proc.devRef .tc main_while0b_v157 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64))) (V0 (Proc.devRef .tc main_v75_10)) : (Proc.devRef .tc main_while0b_v158 : DevRef τ sig).ty.Contents (Elt F)) = Cert.ReferenceIdeal.Step.b53 j s := by
  unfold Cert.ReferenceIdeal.Step.b53
  rw [← al_52 h, h.f_10]
  try rfl
set_option maxRecDepth 8192 in
theorem al_54 (h : Holds V0 s j) : (subf (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64))) (V0 (Proc.devRef .tc main_v75_9))) (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64))) (V0 (Proc.devRef .tc main_v75_10))) : (Proc.devRef .tc main_while0b_v159 : DevRef τ sig).ty.Contents (Elt F)) = Cert.ReferenceIdeal.Step.b54 j s := by
  unfold Cert.ReferenceIdeal.Step.b54
  rw [← al_48 h, ← al_53 h]
  try rfl
set_option maxRecDepth 8192 in
theorem al_55 (h : Holds V0 s j) : (res_main_while0b_v160 V0 : (Proc.devRef .tc main_while0b_v160 : DevRef τ sig).ty.Contents (Elt F)) = Cert.ReferenceIdeal.Step.b55 j s := by
  unfold res_main_while0b_v160 Cert.ReferenceIdeal.Step.b55
  rw [← al_54 h, ← al_14 h]
  try rfl
set_option maxRecDepth 8192 in
theorem al_56 (h : Holds V0 s j) : (extractStridedSlice S1x128x64 ![1, 0, 0] (V0 (Proc.devRef .tc main_v75_4)) slices_S2x128x64_S1x128x64_1_0_0 : (Proc.devRef .tc main_while0b_v161 : DevRef τ sig).ty.Contents (Elt F)) = Cert.ReferenceIdeal.Step.b56 j s := by
  unfold Cert.ReferenceIdeal.Step.b56
  rw [h.f_4]
  try rfl
set_option maxRecDepth 8192 in
theorem al_57 (h : Holds V0 s j) : (shapeCast S128x64 (extractStridedSlice S1x128x64 ![1, 0, 0] (V0 (Proc.devRef .tc main_v75_4)) slices_S2x128x64_S1x128x64_1_0_0) shapeCasts_S1x128x64_S128x64 : (Proc.devRef .tc main_while0b_v162 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64) : (Proc.devRef .tc main_while0b_v163 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64)) : (Proc.devRef .tc main_while0b_v164 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64))) (V0 (Proc.devRef .tc main_v75_10)) : (Proc.devRef .tc main_while0b_v165 : DevRef τ sig).ty.Contents (Elt F)) = Cert.ReferenceIdeal.Step.b60 j s := by
  unfold Cert.ReferenceIdeal.Step.b60
  rw [← al_59 h, h.f_10]
  try rfl
set_option maxRecDepth 8192 in
theorem al_61 (h : Holds V0 s j) : (extractStridedSlice S1x128x64 ![1, 0, 0] (V0 (Proc.devRef .tc main_v75_5)) slices_S2x128x64_S1x128x64_1_0_0 : (Proc.devRef .tc main_while0b_v166 : DevRef τ sig).ty.Contents (Elt F)) = Cert.ReferenceIdeal.Step.b61 j s := by
  unfold Cert.ReferenceIdeal.Step.b61
  rw [h.f_5]
  try rfl
set_option maxRecDepth 8192 in
theorem al_62 (h : Holds V0 s j) : (shapeCast S128x64 (extractStridedSlice S1x128x64 ![1, 0, 0] (V0 (Proc.devRef .tc main_v75_5)) slices_S2x128x64_S1x128x64_1_0_0) shapeCasts_S1x128x64_S128x64 : (Proc.devRef .tc main_while0b_v167 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64) : (Proc.devRef .tc main_while0b_v168 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64)) : (Proc.devRef .tc main_while0b_v169 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64))) (V0 (Proc.devRef .tc main_v75_9)) : (Proc.devRef .tc main_while0b_v170 : DevRef τ sig).ty.Contents (Elt F)) = Cert.ReferenceIdeal.Step.b65 j s := by
  unfold Cert.ReferenceIdeal.Step.b65
  rw [← al_64 h, h.f_9]
  try rfl
set_option maxRecDepth 8192 in
theorem al_66 (h : Holds V0 s j) : (addf (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_4)) slices_S2x128x64_S1x128x64_1_0_0) shapeCasts_S1x128x64_S128x64))) (V0 (Proc.devRef .tc main_v75_10))) (mulf (broadcastInDim S8x128x64 ![0, 1, 2] bcast_S1x128x64_S8x128x64_0_1_2 (broadcastInDim S1x128x64 ![1, 2] bcast_S128x64_S1x128x64_1_2 (shapeCast S128x64 (extractStridedSlice S1x128x64 ![1, 0, 0] (V0 (Proc.devRef .tc main_v75_5)) slices_S2x128x64_S1x128x64_1_0_0) shapeCasts_S1x128x64_S128x64))) (V0 (Proc.devRef .tc main_v75_9))) : (Proc.devRef .tc main_while0b_v171 : DevRef τ sig).ty.Contents (Elt F)) = Cert.ReferenceIdeal.Step.b66 j s := by
  unfold Cert.ReferenceIdeal.Step.b66
  rw [← al_60 h, ← al_65 h]
  try rfl
set_option maxRecDepth 8192 in
theorem al_67 (h : Holds V0 s j) : (res_main_while0b_v172 V0 : (Proc.devRef .tc main_while0b_v172 : DevRef τ sig).ty.Contents (Elt F)) = Cert.ReferenceIdeal.Step.b67 j s := by
  unfold res_main_while0b_v172 Cert.ReferenceIdeal.Step.b67
  rw [← al_66 h, ← al_19 h]
  try rfl
set_option maxRecDepth 8192 in
theorem al_68 (h : Holds V0 s j) : (broadcastInDim S1x8x128x64 ![1, 2, 3] bcast_S8x128x64_S1x8x128x64_1_2_3 (res_main_while0b_v136 V0) : (Proc.devRef .tc main_while0b_call4_v0 : DevRef τ sig).ty.Contents (Elt F)) = Cert.ReferenceIdeal.Step.b68 j s := by
  unfold Cert.ReferenceIdeal.Step.b68
  rw [← al_31 h]
  try rfl
set_option maxRecDepth 8192 in
theorem al_69 (h : Holds V0 s j) : (constantI S_ 32 0#32 : (Proc.devRef .tc main_while0b_call4_c : DevRef τ sig).ty.Contents (Elt F)) = Cert.ReferenceIdeal.Step.b69 j s := by
  unfold Cert.ReferenceIdeal.Step.b69
  rfl
set_option maxRecDepth 8192 in
theorem al_70 (h : Holds V0 s j) : (constantI S_ 32 0#32 : (Proc.devRef .tc main_while0b_call4_c_0 : DevRef τ sig).ty.Contents (Elt F)) = Cert.ReferenceIdeal.Step.b70 j s := by
  unfold Cert.ReferenceIdeal.Step.b70
  rfl
set_option maxRecDepth 8192 in
theorem al_71 (h : Holds V0 s j) : (constantI S_ 32 0#32 : (Proc.devRef .tc main_while0b_call4_c_1 : DevRef τ sig).ty.Contents (Elt F)) = Cert.ReferenceIdeal.Step.b71 j s := by
  unfold Cert.ReferenceIdeal.Step.b71
  rfl
set_option maxRecDepth 8192 in
theorem al_72 (h : Holds V0 s j) : (Host.dynamicUpdateSlice (V0 (Proc.devRef .tc main_v75_11)) (broadcastInDim S1x8x128x64 ![1, 2, 3] bcast_S8x128x64_S1x8x128x64_1_2_3 (res_main_while0b_v136 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64 : (Proc.devRef .tc main_while0b_v173 : DevRef τ sig).ty.Contents (Elt F)) = Cert.ReferenceIdeal.Step.b72 j s := by
  unfold Cert.ReferenceIdeal.Step.b72
  rw [← al_68 h, ← al_69 h, ← al_70 h, ← al_71 h, h.f_11, h.n_6]
  try rfl
set_option maxRecDepth 8192 in
theorem al_73 (h : Holds V0 s j) : (broadcastInDim S1x8x128x64 ![1, 2, 3] bcast_S8x128x64_S1x8x128x64_1_2_3 (res_main_while0b_v148 V0) : (Proc.devRef .tc main_while0b_call5_v0 : DevRef τ sig).ty.Contents (Elt F)) = Cert.ReferenceIdeal.Step.b73 j s := by
  unfold Cert.ReferenceIdeal.Step.b73
  rw [← al_43 h]
  try rfl
set_option maxRecDepth 8192 in
theorem al_74 (h : Holds V0 s j) : (constantI S_ 32 0#32 : (Proc.devRef .tc main_while0b_call5_c : DevRef τ sig).ty.Contents (Elt F)) = Cert.ReferenceIdeal.Step.b74 j s := by
  unfold Cert.ReferenceIdeal.Step.b74
  rfl
set_option maxRecDepth 8192 in
theorem al_75 (h : Holds V0 s j) : (constantI S_ 32 0#32 : (Proc.devRef .tc main_while0b_call5_c_0 : DevRef τ sig).ty.Contents (Elt F)) = Cert.ReferenceIdeal.Step.b75 j s := by
  unfold Cert.ReferenceIdeal.Step.b75
  rfl
set_option maxRecDepth 8192 in
theorem al_76 (h : Holds V0 s j) : (constantI S_ 32 0#32 : (Proc.devRef .tc main_while0b_call5_c_1 : DevRef τ sig).ty.Contents (Elt F)) = Cert.ReferenceIdeal.Step.b76 j s := by
  unfold Cert.ReferenceIdeal.Step.b76
  rfl
set_option maxRecDepth 8192 in
theorem al_77 (h : Holds V0 s j) : (Host.dynamicUpdateSlice (V0 (Proc.devRef .tc main_v75_12)) (broadcastInDim S1x8x128x64 ![1, 2, 3] bcast_S8x128x64_S1x8x128x64_1_2_3 (res_main_while0b_v148 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64 : (Proc.devRef .tc main_while0b_v174 : DevRef τ sig).ty.Contents (Elt F)) = Cert.ReferenceIdeal.Step.b77 j s := by
  unfold Cert.ReferenceIdeal.Step.b77
  rw [← al_73 h, ← al_74 h, ← al_75 h, ← al_76 h, h.f_12, h.n_6]
  try rfl
set_option maxRecDepth 8192 in
theorem al_78 (h : Holds V0 s j) : (broadcastInDim S1x8x128x64 ![1, 2, 3] bcast_S8x128x64_S1x8x128x64_1_2_3 (res_main_while0b_v160 V0) : (Proc.devRef .tc main_while0b_call6_v0 : DevRef τ sig).ty.Contents (Elt F)) = Cert.ReferenceIdeal.Step.b78 j s := by
  unfold Cert.ReferenceIdeal.Step.b78
  rw [← al_55 h]
  try rfl
set_option maxRecDepth 8192 in
theorem al_79 (h : Holds V0 s j) : (constantI S_ 32 0#32 : (Proc.devRef .tc main_while0b_call6_c : DevRef τ sig).ty.Contents (Elt F)) = Cert.ReferenceIdeal.Step.b79 j s := by
  unfold Cert.ReferenceIdeal.Step.b79
  rfl
set_option maxRecDepth 8192 in
theorem al_80 (h : Holds V0 s j) : (constantI S_ 32 0#32 : (Proc.devRef .tc main_while0b_call6_c_0 : DevRef τ sig).ty.Contents (Elt F)) = Cert.ReferenceIdeal.Step.b80 j s := by
  unfold Cert.ReferenceIdeal.Step.b80
  rfl
set_option maxRecDepth 8192 in
theorem al_81 (h : Holds V0 s j) : (constantI S_ 32 0#32 : (Proc.devRef .tc main_while0b_call6_c_1 : DevRef τ sig).ty.Contents (Elt F)) = Cert.ReferenceIdeal.Step.b81 j s := by
  unfold Cert.ReferenceIdeal.Step.b81
  rfl
set_option maxRecDepth 8192 in
theorem al_82 (h : Holds V0 s j) : (Host.dynamicUpdateSlice (V0 (Proc.devRef .tc main_v75_13)) (broadcastInDim S1x8x128x64 ![1, 2, 3] bcast_S8x128x64_S1x8x128x64_1_2_3 (res_main_while0b_v160 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64 : (Proc.devRef .tc main_while0b_v175 : DevRef τ sig).ty.Contents (Elt F)) = Cert.ReferenceIdeal.Step.b82 j s := by
  unfold Cert.ReferenceIdeal.Step.b82
  rw [← al_78 h, ← al_79 h, ← al_80 h, ← al_81 h, h.f_13, h.n_6]
  try rfl
set_option maxRecDepth 8192 in
theorem al_83 (h : Holds V0 s j) : (broadcastInDim S1x8x128x64 ![1, 2, 3] bcast_S8x128x64_S1x8x128x64_1_2_3 (res_main_while0b_v172 V0) : (Proc.devRef .tc main_while0b_call7_v0 : DevRef τ sig).ty.Contents (Elt F)) = Cert.ReferenceIdeal.Step.b83 j s := by
  unfold Cert.ReferenceIdeal.Step.b83
  rw [← al_67 h]
  try rfl
set_option maxRecDepth 8192 in
theorem al_84 (h : Holds V0 s j) : (constantI S_ 32 0#32 : (Proc.devRef .tc main_while0b_call7_c : DevRef τ sig).ty.Contents (Elt F)) = Cert.ReferenceIdeal.Step.b84 j s := by
  unfold Cert.ReferenceIdeal.Step.b84
  rfl
set_option maxRecDepth 8192 in
theorem al_85 (h : Holds V0 s j) : (constantI S_ 32 0#32 : (Proc.devRef .tc main_while0b_call7_c_0 : DevRef τ sig).ty.Contents (Elt F)) = Cert.ReferenceIdeal.Step.b85 j s := by
  unfold Cert.ReferenceIdeal.Step.b85
  rfl
set_option maxRecDepth 8192 in
theorem al_86 (h : Holds V0 s j) : (constantI S_ 32 0#32 : (Proc.devRef .tc main_while0b_call7_c_1 : DevRef τ sig).ty.Contents (Elt F)) = Cert.ReferenceIdeal.Step.b86 j s := by
  unfold Cert.ReferenceIdeal.Step.b86
  rfl
set_option maxRecDepth 8192 in
theorem al_87 (h : Holds V0 s j) : (Host.dynamicUpdateSlice (V0 (Proc.devRef .tc main_v75_14)) (broadcastInDim S1x8x128x64 ![1, 2, 3] bcast_S8x128x64_S1x8x128x64_1_2_3 (res_main_while0b_v172 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64 : (Proc.devRef .tc main_while0b_v176 : DevRef τ sig).ty.Contents (Elt F)) = Cert.ReferenceIdeal.Step.b87 j s := by
  unfold Cert.ReferenceIdeal.Step.b87
  rw [← al_83 h, ← al_84 h, ← al_85 h, ← al_86 h, h.f_14, h.n_6]
  try rfl

/-! One trip's step of the carried values is `step`, field by field; a counter steps to the next number. -/

/-- The carried value 7 after a trip. -/
theorem step_7 (h : Holds V0 s j) : step_main_v75_7 V0 = (step j s).main_v75_7 := by
  unfold step_main_v75_7 Cert.ReferenceIdeal.Step.step
  show id (res_main_while0b_v136 V0) = _
  rw [al_31 h]
  try rfl
/-- The carried value 8 after a trip. -/
theorem step_8 (h : Holds V0 s j) : step_main_v75_8 V0 = (step j s).main_v75_8 := by
  unfold step_main_v75_8 Cert.ReferenceIdeal.Step.step
  show id (res_main_while0b_v148 V0) = _
  rw [al_43 h]
  try rfl
/-- The carried value 9 after a trip. -/
theorem step_9 (h : Holds V0 s j) : step_main_v75_9 V0 = (step j s).main_v75_9 := by
  unfold step_main_v75_9 Cert.ReferenceIdeal.Step.step
  show id (res_main_while0b_v160 V0) = _
  rw [al_55 h]
  try rfl
/-- The carried value 10 after a trip. -/
theorem step_10 (h : Holds V0 s j) : step_main_v75_10 V0 = (step j s).main_v75_10 := by
  unfold step_main_v75_10 Cert.ReferenceIdeal.Step.step
  show id (res_main_while0b_v172 V0) = _
  rw [al_67 h]
  try rfl
/-- The carried value 11 after a trip. -/
theorem step_11 (h : Holds V0 s j) : step_main_v75_11 V0 = (step j s).main_v75_11 := by
  unfold step_main_v75_11 Cert.ReferenceIdeal.Step.step
  show id (Host.dynamicUpdateSlice (V0 (Proc.devRef .tc main_v75_11)) (broadcastInDim S1x8x128x64 ![1, 2, 3] bcast_S8x128x64_S1x8x128x64_1_2_3 (res_main_while0b_v136 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64) = _
  exact al_72 h
/-- The carried value 12 after a trip. -/
theorem step_12 (h : Holds V0 s j) : step_main_v75_12 V0 = (step j s).main_v75_12 := by
  unfold step_main_v75_12 Cert.ReferenceIdeal.Step.step
  show id (Host.dynamicUpdateSlice (V0 (Proc.devRef .tc main_v75_12)) (broadcastInDim S1x8x128x64 ![1, 2, 3] bcast_S8x128x64_S1x8x128x64_1_2_3 (res_main_while0b_v148 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64) = _
  exact al_77 h
/-- The carried value 13 after a trip. -/
theorem step_13 (h : Holds V0 s j) : step_main_v75_13 V0 = (step j s).main_v75_13 := by
  unfold step_main_v75_13 Cert.ReferenceIdeal.Step.step
  show id (Host.dynamicUpdateSlice (V0 (Proc.devRef .tc main_v75_13)) (broadcastInDim S1x8x128x64 ![1, 2, 3] bcast_S8x128x64_S1x8x128x64_1_2_3 (res_main_while0b_v160 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64) = _
  exact al_82 h
/-- The carried value 14 after a trip. -/
theorem step_14 (h : Holds V0 s j) : step_main_v75_14 V0 = (step j s).main_v75_14 := by
  unfold step_main_v75_14 Cert.ReferenceIdeal.Step.step
  show id (Host.dynamicUpdateSlice (V0 (Proc.devRef .tc main_v75_14)) (broadcastInDim S1x8x128x64 ![1, 2, 3] bcast_S8x128x64_S1x8x128x64_1_2_3 (res_main_while0b_v172 V0)) (fun k => (((![V0 (Proc.devRef .tc main_v75_6), constantI S_ 32 0#32, constantI S_ 32 0#32, constantI S_ 32 0#32] : Fin 4 → (⟨S_, .i32⟩ : BufTy).Contents (Elt F))) k (Shape.Idx.first h_S_)).toInt) updateFits_S2048x8x128x64_S1x8x128x64) = _
  exact al_87 h
/-- The counter after a trip. -/
theorem step_6 (h : Holds V0 s j) : step_main_v75_6 V0 = constantI S_ 32 (BitVec.ofNat 32 (j + 1)) := by
  unfold step_main_v75_6
  rw [h.n_6]
  funext i
  show BitVec.ofNat 32 j + 1#32 = BitVec.ofNat 32 (j + 1)
  simp only [BitVec.ofNat_add]

set_option maxRecDepth 8192 in
theorem out_main_v120_holds (h : Holds V0 s j) {x_main_arg0 : (⟨S8x2048x2048, .f32⟩ : BufTy).Contents (Elt F)} (h_main_arg0 : V0 (Proc.devRef .tc main_arg0) = x_main_arg0) {x_main_arg6 : (⟨S1x2x128x16x64, .f32⟩ : BufTy).Contents (Elt F)} (h_main_arg6 : V0 (Proc.devRef .tc main_arg6) = x_main_arg6) {x_main_arg7 : (⟨S1x2x128x16x64, .f32⟩ : BufTy).Contents (Elt F)} (h_main_arg7 : V0 (Proc.devRef .tc main_arg7) = x_main_arg7) {x_main_arg8 : (⟨S1x2048, .f32⟩ : BufTy).Contents (Elt F)} (h_main_arg8 : V0 (Proc.devRef .tc main_arg8) = x_main_arg8) : out_main_v120 V0 = Cert.ReferenceIdeal.Step.R_main_v120 s x_main_arg0 x_main_arg6 x_main_arg7 x_main_arg8 := by
  unfold out_main_v120 Cert.ReferenceIdeal.Step.R_main_v120
  rw [h.f_11, h.f_12, h.f_13, h.f_14, h_main_arg0, h_main_arg6, h_main_arg7, h_main_arg8]
  try rfl

/-- One trip keeps the valuation holding: `step` of the state, the same set-up values, the next number. -/
theorem holds_step (h : Holds V0 s j) : Holds (STEP V0) (step j s) (j + 1) where
  f_7 := (STEP_main_v75_7 V0).trans (step_7 h)
  f_8 := (STEP_main_v75_8 V0).trans (step_8 h)
  f_9 := (STEP_main_v75_9 V0).trans (step_9 h)
  f_10 := (STEP_main_v75_10 V0).trans (step_10 h)
  f_11 := (STEP_main_v75_11 V0).trans (step_11 h)
  f_12 := (STEP_main_v75_12 V0).trans (step_12 h)
  f_13 := (STEP_main_v75_13 V0).trans (step_13 h)
  f_14 := (STEP_main_v75_14 V0).trans (step_14 h)
  n_6 := (STEP_main_v75_6 V0).trans (step_6 h)
  f_0 := (STEP_main_v75_0 V0).trans h.f_0
  f_1 := (STEP_main_v75_1 V0).trans h.f_1
  f_2 := (STEP_main_v75_2 V0).trans h.f_2
  f_3 := (STEP_main_v75_3 V0).trans h.f_3
  f_4 := (STEP_main_v75_4 V0).trans h.f_4
  f_5 := (STEP_main_v75_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 1000000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v120) = Cert.ReferenceIdeal.Step.R_main_v120 (it c 2048) (m ((c.tc : Thread nD τ).loc main_arg0)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 2048
    ⟨(h c).1.trans (out_main_v120_holds hk (iter_main_arg0 m c 2048) (iter_main_arg6 m c 2048) (iter_main_arg7 m c 2048) (iter_main_arg8 m c 2048)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.Trip

end
-- ==== Proof.Model.lean ====
module

public import Mathlib.Analysis.Complex.Basic
public import Mathlib.Analysis.SpecialFunctions.Trigonometric.Basic
public import Mathlib.Data.EReal.Operations

/-! # One group of the S5 layer over the reals, and the chunked form of its recurrence -/

@[expose] public section

noncomputable section

namespace Cert.Model

/-- One group's parameters and inputs: per direction the eigenvalues' parts, the step's logarithm, the input and output
    maps' parts; the skip weights; the inputs by position. -/
structure Grp where
  re : Fin 2 → Fin 64 → ℝ
  im : Fin 2 → Fin 64 → ℝ
  ld : Fin 2 → ℝ
  br : Fin 2 → Fin 64 → Fin 16 → ℝ
  bi : Fin 2 → Fin 64 → Fin 16 → ℝ
  cr : Fin 2 → Fin 16 → Fin 64 → ℝ
  ci : Fin 2 → Fin 16 → Fin 64 → ℝ
  ds : Fin 16 → EReal
  u : ℕ → Fin 16 → ℝ
  lmax : ℝ

namespace Grp
variable (G : Grp)

/-- The clamped eigenvalue. -/
def lam (e : Fin 2) (p : Fin 64) : ℂ := ⟨min (G.re e p) G.lmax, G.im e p⟩

/-- The eigenvalue times the step. -/
def ldt (e : Fin 2) (p : Fin 64) : ℂ :=
  ⟨min (G.re e p) G.lmax * Real.exp (G.ld e), G.im e p * Real.exp (G.ld e)⟩

/-- The state's decay over one position. -/
def A (e : Fin 2) (p : Fin 64) : ℂ := Complex.exp (G.ldt e p)

/-- The input map of the discretised system. -/
def B (e : Fin 2) (p : Fin 64) (c : Fin 16) : ℂ := (G.A e p - 1) / G.lam e p * ⟨G.br e p c, G.bi e p c⟩

/-- The output map. -/
def C (e : Fin 2) (o : Fin 16) (p : Fin 64) : ℂ := ⟨G.cr e o p, G.ci e o p⟩

/-- The response at lag `m`. -/
def K (e : Fin 2) (m : ℕ) (o c : Fin 16) : ℝ := ∑ p, (G.C e o p * G.A e p ^ m * G.B e p c).re

/-- The input of a state at a position. -/
def bu (e : Fin 2) (p : Fin 64) (i : ℕ) : ℂ := ∑ c, G.B e p c * (G.u i c : ℂ)

/-- A power of the decay, its real part. -/
theorem A_pow_re (e : Fin 2) (p : Fin 64) (k : ℕ) :
    (G.A e p ^ k).re = Real.exp (k * (G.ldt e p).re) * Real.cos (k * (G.ldt e p).im) := by
  rw [A, ← Complex.exp_nat_mul, Complex.exp_re]
  simp

/-- A power of the decay, its imaginary part. -/
theorem A_pow_im (e : Fin 2) (p : Fin 64) (k : ℕ) :
    (G.A e p ^ k).im = Real.exp (k * (G.ldt e p).re) * Real.sin (k * (G.ldt e p).im) := by
  rw [A, ← Complex.exp_nat_mul, Complex.exp_im]
  simp

end Grp

/-- The recurrence from zero. -/
def run (a : ℂ) (b : ℕ → ℂ) : ℕ → ℂ
  | 0 => 0
  | n + 1 => a * run a b n + b n

/-- Several steps of the recurrence at once. -/
theorem run_add (a : ℂ) (b : ℕ → ℂ) (l m : ℕ) :
    run a b (l + m) = a ^ m * run a b l + ∑ s ∈ Finset.range m, a ^ (m - 1 - s) * b (l + s) := by
  induction m with
  | zero => simp
  | succ m ih =>
    rw [← add_assoc, run, ih, Finset.sum_range_succ, mul_add, Finset.mul_sum, pow_succ', mul_assoc, add_assoc]
    have : ∀ s ∈ Finset.range m, a * (a ^ (m - 1 - s) * b (l + s)) = a ^ (m + 1 - 1 - s) * b (l + s) := by
      intro s hs
      have hs := Finset.mem_range.1 hs
      rw [← mul_assoc, ← pow_succ']
      congr 2
      omega
    rw [Finset.sum_congr rfl this]
    simp

/-- The recurrence after whole chunks of sixteen, as a sum over the chunks. -/
theorem run_chunks (a : ℂ) (b : ℕ → ℂ) (q : ℕ) :
    run a b (16 * q) = ∑ j ∈ Finset.range q, (a ^ 16) ^ j * ∑ s ∈ Finset.range 16, a ^ (15 - s) * b (16 * (q - 1 - j) + s) := by
  induction q with
  | zero => simp [run]
  | succ q ih =>
    rw [show 16 * (q + 1) = 16 * q + 16 by ring, run_add, ih, Finset.sum_range_succ' _ q,
      Finset.mul_sum (Finset.range q)]
    congr 1
    · refine Finset.sum_congr rfl fun j _ => ?_
      rw [← mul_assoc, ← pow_succ', show q + 1 - 1 - (j + 1) = q - 1 - j by omega]
    · simp

variable (a : ℂ) (b : ℕ → ℂ)

/-- The forward chunks' parts. -/
def zF (n : ℕ) : ℂ := ∑ s ∈ Finset.range 16, a ^ (15 - s) * b (16 * n + s)

/-- The backward chunks' parts. -/
def zB (n : ℕ) : ℂ := ∑ s ∈ Finset.range 16, a ^ s * b (16 * n + s)

/-- The forward state at place `t` of chunk `n`: what the chunks before carry in, and the chunk's own part. -/
theorem run_fwd (n t : ℕ) (ht : t < 16) :
    run a (fun k => b (2048 * (n / 128) + k)) (16 * (n % 128) + t + 1)
      = a ^ (t + 1) * (if 1 ≤ n % 128 then
          ∑ j ∈ Finset.range 128, (if j ≤ (n - 1) % 128 then (a ^ 16) ^ j * zF a b (n - 1 - j) else 0) else 0)
        + ∑ s ∈ Finset.range (t + 1), a ^ (t - s) * b (16 * n + s) := by
  rw [add_assoc, run_add, run_chunks]
  congr 1
  · congr 1
    by_cases h : 1 ≤ n % 128
    · rw [if_pos h, ← Finset.sum_filter]
      have : Finset.filter (fun j => j ≤ (n - 1) % 128) (Finset.range 128) = Finset.range (n % 128) := by
        ext j; simp only [Finset.mem_filter, Finset.mem_range]; omega
      rw [this]
      refine Finset.sum_congr rfl fun j hj => ?_
      have hj := Finset.mem_range.1 hj
      rw [zF]
      congr 1
      refine Finset.sum_congr rfl fun s _ => ?_
      congr 2
      omega
    · rw [if_neg h, show n % 128 = 0 by omega]; simp
  · refine Finset.sum_congr rfl fun s _ => ?_
    congr 2
    omega

/-- The backward state at place `t` of chunk `n`. -/
theorem run_bwd (n t : ℕ) (ht : t < 16) :
    run a (fun k => b (2048 * (n / 128) + (2047 - k))) (2048 - (16 * (n % 128) + t))
      = a ^ (16 - t) * (if n % 128 + 1 < 128 then
          ∑ j ∈ Finset.range 128, (if (n + 1) % 128 + j < 128 then (a ^ 16) ^ j * zB a b (n + 1 + j) else 0) else 0)
        + ∑ s ∈ Finset.range 16, (if t ≤ s then a ^ (s - t) * b (16 * n + s) else 0) := by
  have hn : n % 128 < 128 := Nat.mod_lt _ (by decide)
  rw [show 2048 - (16 * (n % 128) + t) = 16 * (127 - n % 128) + (16 - t) by omega, run_add, run_chunks]
  congr 1
  · congr 1
    by_cases h : n % 128 + 1 < 128
    · rw [if_pos h, ← Finset.sum_filter]
      have : Finset.filter (fun j => (n + 1) % 128 + j < 128) (Finset.range 128) = Finset.range (127 - n % 128) := by
        ext j; simp only [Finset.mem_filter, Finset.mem_range]; omega
      rw [this]
      refine Finset.sum_congr rfl fun j hj => ?_
      have hj := Finset.mem_range.1 hj
      rw [zB, ← Finset.sum_range_reflect]
      congr 1
      refine Finset.sum_congr rfl fun s hs => ?_
      have hs := Finset.mem_range.1 hs
      congr 2 <;> omega
    · rw [if_neg h, show 127 - n % 128 = 0 by omega]; simp
  · rw [← Finset.sum_filter]
    have : Finset.filter (fun s => t ≤ s) (Finset.range 16) = (Finset.range (16 - t)).image (fun s => 15 - s) := by
      ext s; simp only [Finset.mem_filter, Finset.mem_range, Finset.mem_image]
      constructor
      · intro h; exact ⟨15 - s, by omega, by omega⟩
      · rintro ⟨x, hx, rfl⟩; omega
    rw [this, Finset.sum_image (by
      intro x hx y hy h
      simp only [Finset.coe_range, Set.mem_Iio] at hx hy
      simp only at h
      omega)]
    refine Finset.sum_congr rfl fun s hs => ?_
    have hs := Finset.mem_range.1 hs
    congr 2 <;> omega

/-- What the states of both directions give, by position and channel of a group. -/
def conv (G : Grp) (i : ℕ) (o : Fin 16) : ℝ :=
  ∑ p, (G.C 0 o p * run (G.A 0 p) (fun k => G.bu 0 p (2048 * (i / 2048) + k)) (i % 2048 + 1)).re
    + ∑ p, (G.C 1 o p * run (G.A 1 p) (fun k => G.bu 1 p (2048 * (i / 2048) + (2047 - k))) (2048 - i % 2048)).re

/-- The layer's value before its activation, by position and channel of a group.  A skip weight may be infinite. -/
def y (G : Grp) (i : ℕ) (o : Fin 16) : EReal := ((conv G i o : ℝ) : EReal) + G.ds o * ((G.u i o : ℝ) : EReal)

/-- The layer's arrays, as real numbers by their places. -/
structure Par where
  u : Fin 8 → Fin 2048 → Fin 2048 → ℝ
  re : Fin 2 → Fin 128 → Fin 64 → ℝ
  im : Fin 2 → Fin 128 → Fin 64 → ℝ
  ld : Fin 2 → Fin 128 → ℝ
  br : Fin 2 → Fin 128 → Fin 64 → Fin 16 → ℝ
  bi : Fin 2 → Fin 128 → Fin 64 → Fin 16 → ℝ
  cr : Fin 2 → Fin 128 → Fin 16 → Fin 64 → ℝ
  ci : Fin 2 → Fin 128 → Fin 16 → Fin 64 → ℝ
  ds : Fin 2048 → EReal
  lmax : ℝ
  neg : lmax < 0

/-- One group's part of the arrays. -/
def Par.grp (P : Par) (g : Fin 128) : Grp where
  re e p := P.re e g p
  im e p := P.im e g p
  ld e := P.ld e g
  br e p c := P.br e g p c
  bi e p c := P.bi e g p c
  cr e o p := P.cr e g o p
  ci e o p := P.ci e g o p
  ds c := P.ds ⟨g.val * 16 + c.val, by omega⟩
  u i c := P.u ⟨i / 2048 % 8, Nat.mod_lt _ (by decide)⟩ ⟨i % 2048, Nat.mod_lt _ (by decide)⟩ ⟨g.val * 16 + c.val, by omega⟩
  lmax := P.lmax

end Cert.Model
-- ==== Proof.RefRead.lean ====
module

public import proofs.«01_k».proof.Proof.RefTrip
public import proofs.«01_k».proof.Proof.Model
public import Idealize.ShloMosaic.Lib.Pipeline.ValueKit
public import Idealize.ShloMosaic.Lib.Pointwise

@[expose] public section

set_option maxRecDepth 16384

noncomputable section

namespace Cert.ReferenceIdeal.Read

open Idealize.ShloMosaic Idealize.ShloMosaic.TcCoe Idealize.SL.Sem
open Cert.ReferenceIdeal Cert.ReferenceIdeal.Gen Cert.ReferenceIdeal.Step

open Cert.Model

/-- The arguments hold the layer's arrays. -/
structure Hold (P : Par) (a0 : Vec Ideal S8x2048x2048 .f32) (a1 a2 : Vec Ideal S1x2x128x64 .f32) (a3 : Vec Ideal S1x2x128 .f32)
    (a4 a5 : Vec Ideal S1x2x128x64x16 .f32) (a6 a7 : Vec Ideal S1x2x128x16x64 .f32) (a8 : Vec Ideal S1x2048 .f32) : Prop where
  lmax : Ideal.ofBits .f32 3100751639#32 = ((P.lmax : ℝ) : EReal)
  u : ∀ b l c, a0 (ix3 b l c) = ((P.u b l c : ℝ) : EReal)
  re : ∀ e g p, a1 (ix4 (0 : Fin 1) e g p) = ((P.re e g p : ℝ) : EReal)
  im : ∀ e g p, a2 (ix4 (0 : Fin 1) e g p) = ((P.im e g p : ℝ) : EReal)
  ld : ∀ e g, a3 (ix3 (0 : Fin 1) e g) = ((P.ld e g : ℝ) : EReal)
  br : ∀ e g p c, a4 (ix5 (0 : Fin 1) e g p c) = ((P.br e g p c : ℝ) : EReal)
  bi : ∀ e g p c, a5 (ix5 (0 : Fin 1) e g p c) = ((P.bi e g p c : ℝ) : EReal)
  cr : ∀ e g o p, a6 (ix5 (0 : Fin 1) e g o p) = ((P.cr e g o p : ℝ) : EReal)
  ci : ∀ e g o p, a7 (ix5 (0 : Fin 1) e g o p) = ((P.ci e g o p : ℝ) : EReal)
  ds : ∀ c, a8 (ix2 (0 : Fin 1) c) = P.ds c

/-- A sum of reals. -/
theorem sum_coe {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

variable {P : Par} {a0 : Vec Ideal S8x2048x2048 .f32} {a1 a2 : Vec Ideal S1x2x128x64 .f32} {a3 : Vec Ideal S1x2x128 .f32}
  {a4 a5 : Vec Ideal S1x2x128x64x16 .f32} {a6 a7 : Vec Ideal S1x2x128x16x64 .f32} {a8 : Vec Ideal S1x2048 .f32}
  (h : Hold P a0 a1 a2 a3 a4 a5 a6 a7 a8)
include h

/-- The clamped real part of an eigenvalue. -/
theorem v3 (e : Fin 2) (g : Fin 128) (p : Fin 64) :
    A_main_v3 a0 a1 a2 a3 a4 a5 (ix3 e g p) = ((((P.grp g).lam e p).re : ℝ) : EReal) := by
  pointwise [A_main_v3, A_main_v1, K_main_v2, K_main_cst]
  rw [h.re, h.lmax]
  exact (EReal.coe_strictMono.monotone.map_min).symm

/-- The imaginary part of an eigenvalue. -/
theorem v4 (e : Fin 2) (g : Fin 128) (p : Fin 64) :
    A_main_v4 a0 a1 a2 a3 a4 a5 (ix3 e g p) = ((((P.grp g).lam e p).im : ℝ) : EReal) := by
  pointwise [A_main_v4]
  exact h.im e g p

/-- The decay's real part. -/
theorem v14 (e : Fin 2) (g : Fin 128) (p : Fin 64) :
    A_main_v14 a0 a1 a2 a3 a4 a5 (ix3 e g p) = ((((P.grp g).A e p).re : ℝ) : EReal) := by
  pointwise [A_main_v14, A_main_v10, A_main_v9, A_main_v8, A_main_v7, A_main_v6, A_main_v5, A_main_v13, A_main_v12, A_main_v11]
  rw [v3 h, v4 h, h.ld, Ideal.exp_coe, ← EReal.coe_mul, ← EReal.coe_mul, Ideal.exp_coe, Ideal.cos_coe, ← EReal.coe_mul, Grp.A, Complex.exp_re]
  rfl

/-- The decay's imaginary part. -/
theorem v18 (e : Fin 2) (g : Fin 128) (p : Fin 64) :
    A_main_v18 a0 a1 a2 a3 a4 a5 (ix3 e g p) = ((((P.grp g).A e p).im : ℝ) : EReal) := by
  pointwise [A_main_v18, A_main_v10, A_main_v9, A_main_v8, A_main_v7, A_main_v6, A_main_v5, A_main_v17, A_main_v16, A_main_v15]
  rw [v3 h, v4 h, h.ld, Ideal.exp_coe, ← EReal.coe_mul, ← EReal.coe_mul, Ideal.exp_coe, Ideal.sin_coe, ← EReal.coe_mul, Grp.A, Complex.exp_im]
  rfl

omit h in
/-- An eigenvalue's real part is below zero. -/
theorem lam_neg (g : Fin 128) (e : Fin 2) (p : Fin 64) : ((P.grp g).lam e p).re < 0 :=
  lt_of_le_of_lt (min_le_right _ _) P.neg

/-- The quotient's real part. -/
theorem v27 (e : Fin 2) (g : Fin 128) (p : Fin 64) :
    A_main_v27 a0 a1 a2 a3 a4 a5 (ix3 e g p) = ((((((P.grp g).A e p - 1) / (P.grp g).lam e p).re : ℝ)) : EReal) := by
  pointwise [A_main_v27, A_main_v26, A_main_v24, A_main_v25, A_main_v23, A_main_v21, A_main_v19, A_main_v20, K_main_v22, K_main_cst_0]
  have hn := lam_neg (P := P) g e p
  rw [v3 h, v4 h, v14 h, v18 h, ← EReal.coe_one]
  simp only [← EReal.coe_sub, ← EReal.coe_mul, ← EReal.coe_add]
  rw [Ideal.div_coe (by nlinarith [mul_self_nonneg ((P.grp g).lam e p).im, mul_pos_of_neg_of_neg hn hn])]
  rw [← EReal.coe_mul]
  refine congrArg (fun x : ℝ => (x : EReal)) ?_
  rw [Complex.div_re, Complex.normSq_apply, Complex.sub_re, Complex.sub_im, Complex.one_re, Complex.one_im]
  ring

/-- The quotient's imaginary part. -/
theorem v33 (e : Fin 2) (g : Fin 128) (p : Fin 64) :
    A_main_v33 a0 a1 a2 a3 a4 a5 (ix3 e g p) = ((((((P.grp g).A e p - 1) / (P.grp g).lam e p).im : ℝ)) : EReal) := by
  pointwise [A_main_v33, A_main_v32, A_main_v28, A_main_v31, A_main_v30, A_main_v21, A_main_v19, A_main_v20, K_main_v29, K_main_cst_1]
  have hn := lam_neg (P := P) g e p
  rw [v3 h, v4 h, v14 h, v18 h, ← EReal.coe_one]
  simp only [← EReal.coe_sub, ← EReal.coe_mul, ← EReal.coe_add]
  rw [Ideal.div_coe (by nlinarith [mul_self_nonneg ((P.grp g).lam e p).im, mul_pos_of_neg_of_neg hn hn])]
  rw [← EReal.coe_mul]
  refine congrArg (fun x : ℝ => (x : EReal)) ?_
  rw [Complex.div_im, Complex.normSq_apply, Complex.sub_re, Complex.sub_im, Complex.one_re, Complex.one_im]
  ring

/-- The input map's real part. -/
theorem v42 (e : Fin 2) (g : Fin 128) (p : Fin 64) (c : Fin 16) :
    A_main_v42 a0 a1 a2 a3 a4 a5 (ix4 e g p c) = ((((P.grp g).B e p c).re : ℝ) : EReal) := by
  pointwise [A_main_v42, A_main_v37, A_main_v36, A_main_v35, A_main_v34, A_main_v41, A_main_v40, A_main_v39, A_main_v38]
  rw [v27 h, v33 h, h.br, h.bi, ← EReal.coe_mul, ← EReal.coe_mul, ← EReal.coe_sub, Grp.B, Complex.mul_re]
  rfl

/-- The input map's imaginary part. -/
theorem v51 (e : Fin 2) (g : Fin 128) (p : Fin 64) (c : Fin 16) :
    A_main_v51 a0 a1 a2 a3 a4 a5 (ix4 e g p c) = ((((P.grp g).B e p c).im : ℝ) : EReal) := by
  pointwise [A_main_v51, A_main_v46, A_main_v45, A_main_v44, A_main_v43, A_main_v50, A_main_v49, A_main_v48, A_main_v47]
  rw [v27 h, v33 h, h.br, h.bi, ← EReal.coe_mul, ← EReal.coe_mul, ← EReal.coe_add, Grp.B, Complex.mul_im]
  rfl

/-- The input of a group at a position. -/
theorem u_at (b : Fin 8) (l : Fin 2048) (g : Fin 128) (c : Fin 16) (hc : g.val * 16 + c.val < 2048) (i : ℕ) (hi : i = 2048 * b.val + l.val) :
    a0 (ix3 b l ⟨g.val * 16 + c.val, hc⟩) = (((P.grp g).u i c : ℝ) : EReal) := by
  rw [h.u]
  have e1 : (⟨i / 2048 % 8, Nat.mod_lt _ (by decide)⟩ : Fin 8) = b := Fin.ext (by show i / 2048 % 8 = b.val; omega)
  have e2 : (⟨i % 2048, Nat.mod_lt _ (by decide)⟩ : Fin 2048) = l := Fin.ext (by show i % 2048 = l.val; omega)
  show _ = ((P.u ⟨i / 2048 % 8, _⟩ ⟨i % 2048, _⟩ _ : ℝ) : EReal)
  rw [e1, e2]

/-- A state's input, its real part: the sum over the channels. -/
theorem bu_re (e : Fin 2) (b : Fin 8) (l : Fin 2048) (g : Fin 128) (p : Fin 64) (i : ℕ) (hi : i = 2048 * b.val + l.val)
    (hc : ∀ c : Fin 16, g.val * 16 + c.val < 2048) :
    ∑ c : Fin 16, A_main_v42 a0 a1 a2 a3 a4 a5 (ix4 e g p c) * a0 (ix3 b l ⟨g.val * 16 + c.val, hc c⟩)
      = ((((P.grp g).bu e p i).re : ℝ) : EReal) := by
  rw [Grp.bu, Complex.re_sum, ← sum_coe]
  refine Finset.sum_congr rfl fun c _ => ?_
  rw [v42 h, u_at h b l g c _ i hi, ← EReal.coe_mul, Complex.re_mul_ofReal]

/-- A state's input, its imaginary part. -/
theorem bu_im (e : Fin 2) (b : Fin 8) (l : Fin 2048) (g : Fin 128) (p : Fin 64) (i : ℕ) (hi : i = 2048 * b.val + l.val)
    (hc : ∀ c : Fin 16, g.val * 16 + c.val < 2048) :
    ∑ c : Fin 16, A_main_v51 a0 a1 a2 a3 a4 a5 (ix4 e g p c) * a0 (ix3 b l ⟨g.val * 16 + c.val, hc c⟩)
      = ((((P.grp g).bu e p i).im : ℝ) : EReal) := by
  rw [Grp.bu, Complex.im_sum, ← sum_coe]
  refine Finset.sum_congr rfl fun c _ => ?_
  rw [v51 h, u_at h b l g c _ i hi, ← EReal.coe_mul, Complex.im_mul_ofReal]

/-- The forward inputs, their real parts. -/
theorem v55 (l : Fin 2048) (b : Fin 8) (g : Fin 128) (p : Fin 64) : A_main_v55 a0 a1 a2 a3 a4 a5 (ix4 l b g p)
    = ((((P.grp g).bu 0 p (2048 * b.val + l.val)).re : ℝ) : EReal) := by
  pointwise [A_main_v55, A_main_v54, A_main_v53, A_main_v52, A_main_v0]
  exact bu_re h 0 b l g p _ rfl _

/-- The forward inputs, their imaginary parts. -/
theorem v59 (l : Fin 2048) (b : Fin 8) (g : Fin 128) (p : Fin 64) : A_main_v59 a0 a1 a2 a3 a4 a5 (ix4 l b g p)
    = ((((P.grp g).bu 0 p (2048 * b.val + l.val)).im : ℝ) : EReal) := by
  pointwise [A_main_v59, A_main_v58, A_main_v57, A_main_v56, A_main_v0]
  exact bu_im h 0 b l g p _ rfl _

/-- The backward inputs in the order of the loop, their real parts. -/
theorem v69 (l : Fin 2048) (b : Fin 8) (g : Fin 128) (p : Fin 64) : A_main_v69 a0 a1 a2 a3 a4 a5 (ix4 l b g p)
    = ((((P.grp g).bu 1 p (2048 * b.val + (2047 - l.val))).re : ℝ) : EReal) := by
  pointwise [A_main_v69, A_main_v63, A_main_v62, A_main_v61, A_main_v60, A_main_v0]
  exact bu_re h 1 b l.rev g p _ (by rw [Fin.val_rev]; omega) (fun c => by omega)

/-- The backward inputs in the order of the loop, their imaginary parts. -/
theorem v70 (l : Fin 2048) (b : Fin 8) (g : Fin 128) (p : Fin 64) : A_main_v70 a0 a1 a2 a3 a4 a5 (ix4 l b g p)
    = ((((P.grp g).bu 1 p (2048 * b.val + (2047 - l.val))).im : ℝ) : EReal) := by
  pointwise [A_main_v70, A_main_v67, A_main_v66, A_main_v65, A_main_v64, A_main_v0]
  exact bu_im h 1 b l.rev g p _ (by rw [Fin.val_rev]; omega) (fun c => by omega)

omit h in
/-- Where a step's row starts. -/
def st4 (j : ℕ) : Fin 4 → ℤ := fun k => (((![constantI S_ 32 (BitVec.ofNat 32 j), constantI S_ 32 0#32, constantI S_ 32 0#32,
  constantI S_ 32 0#32] : Fin 4 → (⟨S_, .i32⟩ : BufTy).Contents (Elt Ideal))) k (Shape.Idx.first h_S_)).toInt

omit h in
/-- A step's number as an integer. -/
theorem toInt_step (j : ℕ) (hj : j < 2048) : (BitVec.ofNat 32 j).toInt = j := by
  have e : (BitVec.ofNat 32 j).toNat = j := by rw [BitVec.toNat_ofNat]; omega
  rw [BitVec.toInt_eq_toNat_of_lt (by rw [e]; omega), e]

omit h in
/-- The row's start along the four axes. -/
theorem start (j : ℕ) (hj : j < 2048) :
    Host.clampedStart S2048x8x128x64 S1x8x128x64 rfl (st4 j) 0 = j
    ∧ Host.clampedStart S2048x8x128x64 S1x8x128x64 rfl (st4 j) 1 = 0
    ∧ Host.clampedStart S2048x8x128x64 S1x8x128x64 rfl (st4 j) 2 = 0
    ∧ Host.clampedStart S2048x8x128x64 S1x8x128x64 rfl (st4 j) 3 = 0 := by
  have h0 : st4 j 0 = j := toInt_step j hj
  have h1 : st4 j 1 = 0 := rfl
  have h2 : st4 j 2 = 0 := rfl
  have h3 : st4 j 3 = 0 := rfl
  unfold Host.clampedStart
  simp only [h0, h1, h2, h3]
  refine ⟨?_, ?_, ?_, ?_⟩
  · show _ = j
    simp
    omega
  all_goals simp

omit h in
/-- A step's row of an array. -/
theorem row_at (x : Vec Ideal S2048x8x128x64 .f32) (j : ℕ) (hj : j < 2048) (b : Fin 8) (g : Fin 128) (p : Fin 64) :
    (shapeCast S8x128x64 (Host.dynamicSlice S1x8x128x64 x (st4 j) sliceFits_S2048x8x128x64_S1x8x128x64 : Vec Ideal S1x8x128x64 .f32)
      shapeCasts_S1x8x128x64_S8x128x64 : Vec Ideal S8x128x64 .f32) (ix3 b g p) = x (ix4 ⟨j, hj⟩ b g p) := by
  pointwise
  obtain ⟨h0, h1, h2, h3⟩ := start j hj
  simp only [h0, h1, h2, h3, zero_add]

omit h in
/-- An array with a step's row written. -/
theorem put_at (x : Vec Ideal S2048x8x128x64 .f32) (v : Vec Ideal S8x128x64 .f32) (j : ℕ) (hj : j < 2048) (l : Fin 2048) (b : Fin 8)
    (g : Fin 128) (p : Fin 64) :
    (Host.dynamicUpdateSlice x (broadcastInDim S1x8x128x64 ![1, 2, 3] bcast_S8x128x64_S1x8x128x64_1_2_3 v) (st4 j)
      updateFits_S2048x8x128x64_S1x8x128x64 : Vec Ideal S2048x8x128x64 .f32) (ix4 l b g p)
      = if l.val = j then v (ix3 b g p) else x (ix4 l b g p) := by
  pointwise
  obtain ⟨h0, h1, h2, h3⟩ := start j hj
  simp only [h0, h1, h2, h3, Nat.zero_le, and_true, Nat.sub_zero]
  by_cases hl : l.val = j
  · rw [if_pos hl, dif_pos (by omega)]
  · rw [if_neg hl, dif_neg (by omega)]

end Cert.ReferenceIdeal.Read
-- ==== Proof.Fin.lean ====
module

public import proofs.«01_k».proof.Proof.RefRead
public import proofs.«01_k».proof.Proof.Gen.Pre_finite_ssm
public import Idealize.ShloMosaic.Lib.ReduceAll

/-! # What the precondition gives: every argument of the S5 call but the skip weights is an array of reals -/

@[expose] public section

set_option maxRecDepth 16384

noncomputable section

namespace Cert.Fin

open Idealize.ShloMosaic
open Cert.Model

/-- The word of positive infinity. -/
theorem top_word : Ideal.ofBits .f32 0x7F800000#32 = (⊤ : EReal) := by
  simp [Ideal.ofBits, Ideal.ieee]

/-- A value whose magnitude lies below infinity is a real. -/
theorem real_of_lt (x : EReal) (h : Ideal.cmp .olt (max x (-x)) (Ideal.ofBits .f32 0x7F800000#32) = 1#1) : x = ((x.toReal : ℝ) : EReal) := by
  rw [top_word] at h
  induction x using EReal.rec with
  | bot => simp [Ideal.cmp] at h
  | top => simp [Ideal.cmp] at h
  | coe r => rfl

/-- A shape without axes has one index. -/
instance : Subsingleton (Cert.Pre_finite_ssm.S_).Idx := ⟨fun a b => funext fun i => i.elim0⟩

/-- One conjunct of the precondition: all of an array's entries are finite, so each is a real. -/
theorem all_real {s : Shape} {axes : List (Fin s.rank)} (x : FVec Ideal s .f32) (hb : (Cert.Pre_finite_ssm.S_).BroadcastsInDim s ![])
    (v : IVec Cert.Pre_finite_ssm.S_ 1) (hr : s.ReducesTo axes Cert.Pre_finite_ssm.S_) (hu : 0 < (Cert.Pre_finite_ssm.S_).numel)
    (j : (Cert.Pre_finite_ssm.S_).Idx)
    (h : Host.reduce IntOp.andi (cmpf .olt (Host.absf x) (broadcastInDim s ![] hb (constant Cert.Pre_finite_ssm.S_ .f32 0x7F800000#32))) v hr hu j = 1#1)
    (i : s.Idx) : x i = (((x i : EReal).toReal : ℝ) : EReal) :=
  real_of_lt (x i) (Host.reduce_andi_all _ _ hr hu j h i)

/-- The word of the eigenvalue's bound is a negative real. -/
theorem bound : ∃ l : ℝ, l < 0 ∧ Ideal.ofBits .f32 3100751639#32 = ((l : ℝ) : EReal) := by
  refine ⟨-(13743895 / 2 ^ 37), by norm_num, ?_⟩
  simp [Ideal.ofBits, Ideal.ieee]
  rw [← EReal.coe_mul]
  norm_num

/-- The arrays of reals the arguments hold. -/
def par (a0 : Vec Ideal ReferenceIdeal.S8x2048x2048 .f32) (a1 a2 : Vec Ideal ReferenceIdeal.S1x2x128x64 .f32)
    (a3 : Vec Ideal ReferenceIdeal.S1x2x128 .f32) (a4 a5 : Vec Ideal ReferenceIdeal.S1x2x128x64x16 .f32)
    (a6 a7 : Vec Ideal ReferenceIdeal.S1x2x128x16x64 .f32) (a8 : Vec Ideal ReferenceIdeal.S1x2048 .f32) : Par where
  u b l c := (a0 (ix3 b l c) : EReal).toReal
  re e g p := (a1 (ix4 (0 : Fin 1) e g p) : EReal).toReal
  im e g p := (a2 (ix4 (0 : Fin 1) e g p) : EReal).toReal
  ld e g := (a3 (ix3 (0 : Fin 1) e g) : EReal).toReal
  br e g p c := (a4 (ix5 (0 : Fin 1) e g p c) : EReal).toReal
  bi e g p c := (a5 (ix5 (0 : Fin 1) e g p c) : EReal).toReal
  cr e g o p := (a6 (ix5 (0 : Fin 1) e g o p) : EReal).toReal
  ci e g o p := (a7 (ix5 (0 : Fin 1) e g o p) : EReal).toReal
  ds c := a8 (ix2 (0 : Fin 1) c)
  lmax := bound.choose
  neg := bound.choose_spec.1

/-- Under the precondition the arguments hold arrays of reals. -/
theorem hold (a0 : Vec Ideal ReferenceIdeal.S8x2048x2048 .f32) (a1 a2 : Vec Ideal ReferenceIdeal.S1x2x128x64 .f32)
    (a3 : Vec Ideal ReferenceIdeal.S1x2x128 .f32) (a4 a5 : Vec Ideal ReferenceIdeal.S1x2x128x64x16 .f32)
    (a6 a7 : Vec Ideal ReferenceIdeal.S1x2x128x16x64 .f32) (a8 : Vec Ideal ReferenceIdeal.S1x2048 .f32)
    (h : Cert.Pre_finite_ssm.fn (F := Ideal) a0 a1 a2 a3 a4 a5 a6 a7 a8 = fun _ => 1#1) :
    ReferenceIdeal.Read.Hold (par a0 a1 a2 a3 a4 a5 a6 a7 a8) a0 a1 a2 a3 a4 a5 a6 a7 a8 := by
  have h0 := congrFun h default
  obtain ⟨h2, r7⟩ := IntOp.andi_eq_one.1 h0
  obtain ⟨h3, r6⟩ := IntOp.andi_eq_one.1 h2
  obtain ⟨h4, r5⟩ := IntOp.andi_eq_one.1 h3
  obtain ⟨h5, r4⟩ := IntOp.andi_eq_one.1 h4
  obtain ⟨h6, r3⟩ := IntOp.andi_eq_one.1 h5
  obtain ⟨h7, r2⟩ := IntOp.andi_eq_one.1 h6
  obtain ⟨r0, r1⟩ := IntOp.andi_eq_one.1 h7
  exact ⟨bound.choose_spec.2, fun b l c => all_real a0 _ _ _ _ _ r0 _, fun e g p => all_real a1 _ _ _ _ _ r1 _,
    fun e g p => all_real a2 _ _ _ _ _ r2 _, fun e g => all_real a3 _ _ _ _ _ r3 _, fun e g p c => all_real a4 _ _ _ _ _ r4 _,
    fun e g p c => all_real a5 _ _ _ _ _ r5 _, fun e g o p => all_real a6 _ _ _ _ _ r6 _, fun e g o p => all_real a7 _ _ _ _ _ r7 _,
    fun c => rfl⟩

end Cert.Fin

end
-- ==== Proof.Ops.lean ====
module

public import proofs.«01_k».proof.Defs
public import proofs.«01_k».proof.Proof.Gen.KernelIdeal.Frame
public import proofs.«01_k».proof.Proof.Model
public import Idealize.ShloMosaic.Lib.Pipeline.ValueKit
public import Idealize.ShloMosaic.Lib.Pointwise

/-! # The per-group operators the first call builds, as powers of the discretised system -/

@[expose] public section

set_option maxRecDepth 16384

noncomputable section

namespace Cert.KernelIdeal.Ops

open Idealize.ShloMosaic Idealize.ShloMosaic.TcCoe Idealize.SL.Sem
open Cert.KernelIdeal.Gen Cert.Model

/-- The direction of a row of the tables. -/
def dir (k : Fin 256) : Fin 2 := ⟨k.val / 128, by omega⟩

/-- The state of a row. -/
def st (k : Fin 256) : Fin 64 := ⟨k.val % 64, by omega⟩

/-- The channel of a row. -/
def ch (k : Fin 256) : Fin 16 := ⟨k.val % 16, by omega⟩

/-- The part of a complex number a row holds. -/
def part (k : Fin 256) (z : ℂ) : ℝ := if k.val / 64 % 2 = 0 then z.re else z.im

/-- The row of the other part. -/
def sw (k : Fin 256) : Fin 256 := if h : k.val / 64 % 2 = 0 then ⟨k.val + 64, by omega⟩ else ⟨k.val - 64, by omega⟩

/-- The exponent of a row's power at a column: the column's place in its chunk, counted from the chunk's end in the
    forward direction. -/
def ex (k r : Fin 256) : ℕ := if k.val < 128 then 15 - r.val / 16 else r.val / 16

/-- The blocks the first call reads hold the group's parameters. -/
structure Blocks (G : Grp) (x0 : Vec Ideal S1x256x4 .f32) (x1 : Vec Ideal S1x8x256 .f32) (x2 : Vec Ideal S1x256x128 .f32)
    (x3 : Vec Ideal S1x16x256 .f32) (x4 : Vec Ideal S128x256 .f32) : Prop where
  lmax : Ideal.ofBits .f32 3100751639#32 = ((G.lmax : ℝ) : EReal)
  neg : G.lmax < 0
  a0 : ∀ k : Fin 256, x0 (ix3 (0 : Fin 1) k (0 : Fin 4)) = ((G.re (dir k) (st k) : ℝ) : EReal)
  a1 : ∀ k : Fin 256, x0 (ix3 (0 : Fin 1) k (1 : Fin 4)) = ((G.im (dir k) (st k) : ℝ) : EReal)
  a2 : ∀ k : Fin 256, x0 (ix3 (0 : Fin 1) k (2 : Fin 4)) = ((G.ld (dir k) : ℝ) : EReal)
  a3 : ∀ k : Fin 256, x0 (ix3 (0 : Fin 1) k (3 : Fin 4)) = G.ds (ch k)
  b0 : ∀ k : Fin 256, x1 (ix3 (0 : Fin 1) (0 : Fin 8) k) = ((G.re (dir k) (st k) : ℝ) : EReal)
  b1 : ∀ k : Fin 256, x1 (ix3 (0 : Fin 1) (1 : Fin 8) k) = ((G.im (dir k) (st k) : ℝ) : EReal)
  b2 : ∀ k : Fin 256, x1 (ix3 (0 : Fin 1) (2 : Fin 8) k) = ((G.ld (dir k) : ℝ) : EReal)
  bm : ∀ (k : Fin 256) (c : Fin 128), x2 (ix3 (0 : Fin 1) k c)
    = (((if h : c.val < 16 then part k ⟨G.br (dir k) (st k) ⟨c.val, h⟩, G.bi (dir k) (st k) ⟨c.val, h⟩⟩ else 0 : ℝ)) : EReal)
  cm : ∀ (o : Fin 16) (k : Fin 256), x3 (ix3 (0 : Fin 1) o k) = ((part k (G.C (dir k) o (st k)) : ℝ) : EReal)
  tl : ∀ (c : Fin 128) (r : Fin 256), c.val < 16 → x4 (ix2 c r) = (((if c.val = r.val % 16 then 1 else 0 : ℝ)) : EReal)

/-- The smaller of two reals. -/
theorem min_coe (a b : ℝ) : min (a : EReal) (b : EReal) = ((min a b : ℝ) : EReal) :=
  (EReal.coe_strictMono.monotone.map_min).symm

/-- A pick among the four quarters in the order of the other part's row. -/
theorem sw4 (f : Fin 256 → EReal) (k : Fin 256) (h1 : ∀ h : k.val < 64, 64 + k.val < 256)
    (h2 : ∀ h : k.val - 64 < 64, k.val - 64 < 256) (h3 : ∀ h : k.val - 64 - 64 < 64, 192 + (k.val - 64 - 64) < 256)
    (h4 : 128 + (k.val - 64 - 64 - 64) < 256) :
    (if h : k.val < 64 then f ⟨64 + k.val, h1 h⟩ else if h : k.val - 64 < 64 then f ⟨k.val - 64, h2 h⟩
      else if h : k.val - 64 - 64 < 64 then f ⟨192 + (k.val - 64 - 64), h3 h⟩ else f ⟨128 + (k.val - 64 - 64 - 64), h4⟩) = f (sw k) := by
  have hk := k.isLt
  have e : ∀ (a : ℕ) (ha : a < 256), a = (sw k).val → f ⟨a, ha⟩ = f (sw k) := fun a ha h => congrArg f (Fin.ext h)
  have hs : (sw k).val = if k.val / 64 % 2 = 0 then k.val + 64 else k.val - 64 := by unfold sw; split_ifs <;> rfl
  split_ifs <;> refine e _ _ ?_ <;> rw [hs] <;> split_ifs <;> omega

/-- Which part a row holds, as the kernel's mask. -/
theorem odd_apply (k : Fin 256) : k0_pay6 (ix2 k (0 : Fin 1)) = if k.val / 64 % 2 = 0 then 0#1 else 1#1 := by
  pointwise [k0_pay6]
  revert k
  decide +kernel

/-- Which direction a row has, as the kernel's mask. -/
theorem fwd_apply (k : Fin 256) : k0_pay4 (ix2 k (0 : Fin 1)) = if k.val < 128 then 1#1 else 0#1 := by
  pointwise [k0_pay4]
  revert k
  decide +kernel

/-- A column's place in its chunk. -/
theorem place_apply (r : Fin 256) : k0_pay3 (F := Ideal) (ix2 (0 : Fin 1) r) = (((r.val / 16 : ℕ) : ℝ) : EReal) := by
  pointwise [k0_pay3]
  show ((((IntOp.shrsi ArithUnit.vector (BitVec.ofNat 32 r.val) 4#32).toInt : ℝ)) : EReal) = _
  have : ∀ r : Fin 256, (IntOp.shrsi ArithUnit.vector (BitVec.ofNat 32 r.val) 4#32).toInt = ((r.val / 16 : ℕ) : ℤ) := by decide +kernel
  rw [this]
  norm_cast

/-- A row's place in its chunk. -/
theorem row_apply (r : Fin 256) : k0_pay2 (F := Ideal) (ix2 r (0 : Fin 1)) = (((r.val / 16 : ℕ) : ℝ) : EReal) := by
  pointwise [k0_pay2]
  show ((((IntOp.shrsi ArithUnit.vector (BitVec.ofNat 32 r.val) 4#32).toInt : ℝ)) : EReal) = _
  have : ∀ r : Fin 256, (IntOp.shrsi ArithUnit.vector (BitVec.ofNat 32 r.val) 4#32).toInt = ((r.val / 16 : ℕ) : ℤ) := by decide +kernel
  rw [this]
  norm_cast

/-- Which part a column holds, as the kernel's mask. -/
theorem oddc_apply (k : Fin 256) : k0_pay7 (ix2 (0 : Fin 1) k) = if k.val / 64 % 2 = 0 then 0#1 else 1#1 := by
  pointwise [k0_pay7]
  revert k
  decide +kernel

/-- Which direction a column has, as the kernel's mask. -/
theorem fwdc_apply (k : Fin 256) : k0_pay5 (ix2 (0 : Fin 1) k) = if k.val < 128 then 1#1 else 0#1 := by
  pointwise [k0_pay5]
  revert k
  decide +kernel

/-- A choice by a mask that is zero where `P` holds. -/
theorem sel0 {α : Type} (P : Prop) [Decidable P] (a b : α) :
    Scalar.select (if P then 0#1 else 1#1) a b = if P then b else a := by
  split_ifs <;> rfl

/-- A choice by a mask that is one where `P` holds. -/
theorem sel1 {α : Type} (P : Prop) [Decidable P] (a b : α) :
    Scalar.select (if P then 1#1 else 0#1) a b = if P then a else b := by
  split_ifs <;> rfl

/-- The literal minus one. -/
theorem lit_neg_one : Ideal.ofBits .f32 3212836864#32 = ((-1 : ℝ) : EReal) := by
  simp [Ideal.ofBits, Ideal.ieee, -EReal.coe_mul]; norm_num

/-- The literal fifteen. -/
theorem lit15 : Ideal.ofBits .f32 1097859072#32 = ((15 : ℝ) : EReal) := by
  simp [Ideal.ofBits, Ideal.ieee, -EReal.coe_mul]; norm_num

/-- The literal sixteen. -/
theorem lit16 : Ideal.ofBits .f32 1098907648#32 = ((16 : ℝ) : EReal) := by
  simp [Ideal.ofBits, Ideal.ieee, -EReal.coe_mul]; norm_num

/-- The other part's row of a real part's row lies 64 on. -/
theorem sw_even {k : Fin 256} (h : k.val / 64 % 2 = 0) : (sw k).val = k.val + 64 := by unfold sw; rw [dif_pos h]

/-- The other part's row of an imaginary part's row lies 64 back. -/
theorem sw_odd {k : Fin 256} (h : ¬ k.val / 64 % 2 = 0) : (sw k).val = k.val - 64 := by unfold sw; rw [dif_neg h]

/-- The other part's row has the same direction. -/
theorem dir_sw (k : Fin 256) : dir (sw k) = dir k := by
  refine Fin.ext ?_
  have hk := k.isLt
  by_cases h : k.val / 64 % 2 = 0
  · have := sw_even h; simp only [dir]; omega
  · have := sw_odd h; simp only [dir]; omega

/-- The other part's row has the same state. -/
theorem st_sw (k : Fin 256) : st (sw k) = st k := by
  refine Fin.ext ?_
  have hk := k.isLt
  by_cases h : k.val / 64 % 2 = 0
  · have := sw_even h; simp only [st]; omega
  · have := sw_odd h; simp only [st]; omega

/-- The other part. -/
theorem part_sw (k : Fin 256) (z : ℂ) : part (sw k) z = if k.val / 64 % 2 = 0 then z.im else z.re := by
  have hk := k.isLt
  by_cases h : k.val / 64 % 2 = 0
  · have := sw_even h
    rw [if_pos h, part, if_neg (by omega)]
  · have := sw_odd h
    rw [if_neg h, part, if_pos (by omega)]

/-- The sign of the other part's product. -/
def sg (k : Fin 256) : ℝ := if k.val / 64 % 2 = 0 then -1 else 1

/-- A row's part of a product. -/
theorem part_mul (k : Fin 256) (z w : ℂ) : z.re * part k w + sg k * z.im * part (sw k) w = part k (z * w) := by
  rw [part_sw]
  unfold part sg
  split_ifs
  · rw [Complex.mul_re]; ring
  · rw [Complex.mul_im]; ring

variable {G : Grp} {x0 : Vec Ideal S1x256x4 .f32} {x1 : Vec Ideal S1x8x256 .f32} {x2 : Vec Ideal S1x256x128 .f32}
  {x3 : Vec Ideal S1x16x256 .f32} {x4 : Vec Ideal S128x256 .f32} (hB : Blocks G x0 x1 x2 x3 x4)

include hB

/-- The exponent's columns. -/
theorem cols (k : Fin 256) :
    k0_pay75 x0 x1 x2 x3 x4 (ix2 k (0 : Fin 1)) = (((G.lam (dir k) (st k)).re : ℝ) : EReal)
      ∧ k0_pay76 x0 x1 x2 x3 x4 (ix2 k (0 : Fin 1)) = (((G.lam (dir k) (st k)).im : ℝ) : EReal)
      ∧ k0_pay77 x0 x1 x2 x3 x4 (ix2 k (0 : Fin 1)) = (((G.ldt (dir k) (st k)).re : ℝ) : EReal)
      ∧ k0_pay78 x0 x1 x2 x3 x4 (ix2 k (0 : Fin 1)) = (((G.ldt (dir k) (st k)).im : ℝ) : EReal)
      ∧ k0_pay79 x0 x1 x2 x3 x4 (ix2 k (0 : Fin 1)) = ((Real.exp (G.ldt (dir k) (st k)).re : ℝ) : EReal)
      ∧ k0_pay80 x0 x1 x2 x3 x4 (ix2 k (0 : Fin 1)) = ((Real.cos (G.ldt (dir k) (st k)).im : ℝ) : EReal) := by
  unfold k0_pay75 k0_pay76 k0_pay77 k0_pay78 k0_pay79 k0_pay80
  pointwise [k0_pay9, k0_pay10, k0_pay11, k0_pay12, k0_pay13, k0_pay14, k0_pay15, k0_pay8]
  simp only [hB.a0, hB.a1, hB.a2, hB.lmax, min_coe, Ideal.exp_coe, Ideal.cos_coe, Ideal.sin_coe, ← EReal.coe_mul]
  simp [Grp.lam, Grp.ldt]

/-- The input maps' rows. -/
theorem bb (k : Fin 256) (c : Fin 128) : k0_pay17 k0_pay6 (k0_pay75 x0 x1 x2 x3 x4) (k0_pay76 x0 x1 x2 x3 x4) (k0_pay78 x0 x1 x2 x3 x4)
      (k0_pay79 x0 x1 x2 x3 x4) (k0_pay80 x0 x1 x2 x3 x4) x2 (ix2 k c)
    = (((if h : c.val < 16 then part k (G.B (dir k) (st k) ⟨c.val, h⟩) else 0 : ℝ)) : EReal) := by
  obtain ⟨h75, h76, -, h78, h79, h80⟩ := cols hB k
  pointwise [k0_pay17, k0_pay16, k0_pay74]
  have hk := k.isLt
  have hs := sw4 (fun k' => x2 (ix3 (0 : Fin 1) k' c)) k (by omega) (by omega) (by omega) (by omega)
  rw [odd_apply, h75, h76, h78, h79, h80, hs, hB.bm, hB.bm, sel0, dir_sw, st_sw, lit_neg_one, Ideal.sin_coe]
  have hden : (G.lam (dir k) (st k)).re * (G.lam (dir k) (st k)).re + (G.lam (dir k) (st k)).im * (G.lam (dir k) (st k)).im ≠ 0 := by
    have h1 : (G.lam (dir k) (st k)).re < 0 := lt_of_le_of_lt (min_le_right _ _) hB.neg
    have := mul_pos_of_neg_of_neg h1 h1
    have := mul_self_nonneg (G.lam (dir k) (st k)).im
    linarith
  have hsg : (if k.val / 64 % 2 = 0 then ((-1 : ℝ) : EReal) else 1) = ((sg k : ℝ) : EReal) := by
    unfold sg; split_ifs <;> simp
  have e1 := G.A_pow_re (dir k) (st k) 1
  have e2 := G.A_pow_im (dir k) (st k) 1
  simp only [pow_one, Nat.cast_one, one_mul] at e1 e2
  rw [hsg, ← EReal.coe_one]
  simp only [← EReal.coe_mul, ← EReal.coe_add, ← EReal.coe_sub, ← e1, ← e2, Ideal.div_coe hden]
  congr 1
  by_cases hc : c.val < 16
  · simp only [dif_pos hc]
    rw [Grp.B, ← part_mul, Complex.div_re, Complex.div_im, Complex.normSq_apply]
    simp only [Complex.sub_re, Complex.sub_im, Complex.one_re, Complex.one_im]
    ring
  · simp only [dif_neg hc]
    ring

/-- A product with the table that repeats the first sixteen columns. -/
theorem tile (f : Fin 128 → EReal) (g : Fin 16 → ℝ) (hf : ∀ c : Fin 128, f c = (((if h : c.val < 16 then g ⟨c.val, h⟩ else 0 : ℝ)) : EReal))
    (r : Fin 256) : ∑ x : Fin 128, f x * x4 (ix2 x r) = ((g (ch r) : ℝ) : EReal) := by
  rw [Finset.sum_eq_single (⟨r.val % 16, by omega⟩ : Fin 128)]
  · have h : r.val % 16 < 16 := by omega
    rw [hf, hB.tl _ _ h, ← EReal.coe_mul]
    simp [h, ch]
  · intro b _ hb
    by_cases hc : b.val < 16
    · rw [hf, hB.tl _ _ hc, ← EReal.coe_mul, if_neg (fun h => hb (Fin.ext h))]
      simp
    · rw [hf, dif_neg hc]
      simp
  · simp

/-- The first call's state input table. -/
theorem bct (k r : Fin 256) : out0_6 x0 x1 x2 x3 x4 (ix3 (0 : Fin 1) k r)
    = ((part k (G.A (dir k) (st k) ^ ex k r * G.B (dir k) (st k) (ch r)) : ℝ) : EReal) := by
  obtain ⟨-, -, h77, h78, -, -⟩ := cols hB k
  unfold out0_6
  frame_out
  pointwise [k0_pay22, k0_pay18, k0_pay19, k0_pay20, k0_pay21, k0_pay71, k0_pay72, k0_pay16, k0_pay74]
  have ht := fun k => tile hB _ (fun c => part k (G.B (dir k) (st k) c)) (bb hB k) r
  have hk := k.isLt
  have hs := sw4 (fun k' => ∑ x : Fin 128, k0_pay17 k0_pay6 (k0_pay75 x0 x1 x2 x3 x4) (k0_pay76 x0 x1 x2 x3 x4) (k0_pay78 x0 x1 x2 x3 x4)
      (k0_pay79 x0 x1 x2 x3 x4) (k0_pay80 x0 x1 x2 x3 x4) x2 (ix2 k' x) * x4 (ix2 x r)) k (by omega) (by omega) (by omega) (by omega)
  rw [hs, ht, ht, dir_sw, st_sw, h77, h78, fwd_apply, odd_apply, place_apply, lit15, lit_neg_one, sel0, sel1]
  have hsg : (if k.val / 64 % 2 = 0 then ((-1 : ℝ) : EReal) else 1) = ((sg k : ℝ) : EReal) := by
    unfold sg; split_ifs <;> simp
  have hex : (if k.val < 128 then ((15 : ℝ) : EReal) - (((r.val / 16 : ℕ) : ℝ) : EReal) else (((r.val / 16 : ℕ) : ℝ) : EReal))
      = ((ex k r : ℝ) : EReal) := by
    have hr : r.val / 16 ≤ 15 := by omega
    unfold ex
    split_ifs
    · rw [Nat.cast_sub hr, ← EReal.coe_sub]; norm_num
    · rfl
  rw [hsg, hex, ← part_mul, G.A_pow_re, G.A_pow_im]
  simp only [← EReal.coe_mul, Ideal.exp_coe, Ideal.cos_coe, Ideal.sin_coe, ← EReal.coe_add]

omit hB in
/-- The output maps repeated. -/
theorem rep28 (v : Vec Ideal S1x16x256 .f32) (r k : Fin 256) : k0_pay28 v (ix2 r k) = v (ix3 (0 : Fin 1) (ch r) k) := by
  unfold k0_pay28
  refine (concatenate_replicate_apply (t := S256x256) (s₁ := S16x256) (0 : Fin 2) 16 _ _ rfl (ix2 r k) (ix2 (ch r) k) rfl ?_).trans ?_
  · intro b hb
    fin_cases b
    · exact absurd rfl hb
    · rfl
  · pointwise [k0_pay27]

omit hB in
/-- The output maps' parts swapped, repeated. -/
theorem rep29 (v : Vec Ideal S1x16x256 .f32) (r k : Fin 256) : k0_pay29 v (ix2 r k) = v (ix3 (0 : Fin 1) (ch r) (sw k)) := by
  have hk := k.isLt
  have hs := sw4 (fun k' => v (ix3 (0 : Fin 1) (ch r) k')) k (by omega) (by omega) (by omega) (by omega)
  unfold k0_pay29
  refine (concatenate_replicate_apply (t := S256x256) (s₁ := S16x256) (0 : Fin 2) 16 _ _ rfl (ix2 r k) (ix2 (ch r) k) rfl ?_).trans ?_
  · intro b hb
    fin_cases b
    · exact absurd rfl hb
    · rfl
  · pointwise [k0_pay27]
    exact hs

/-- The part of a complex number an output row holds: the real part, or the imaginary part negated. -/
def cpart (k : Fin 256) (z : ℂ) : ℝ := if k.val / 64 % 2 = 0 then z.re else -z.im

/-- The exponent of an output row's power. -/
def ec (r k : Fin 256) : ℕ := if k.val < 128 then r.val / 16 + 1 else 16 - r.val / 16

/-- The exponent of a lag's power. -/
def en (r k : Fin 256) : ℕ := if k.val < 128 then r.val / 16 else 15 - r.val / 16

omit hB in
/-- An output row's part of a map times a power. -/
theorem cval (G : Grp) (k : Fin 256) (o : Fin 16) (E : ℕ) :
    (if k.val / 64 % 2 = 0 then (1 : EReal) else ((-1 : ℝ) : EReal)) * ((part k (G.C (dir k) o (st k)) : ℝ) : EReal)
        * (Ideal.exp (((E : ℝ) : EReal) * (((G.ldt (dir k) (st k)).re : ℝ) : EReal))
          * Ideal.cos (((E : ℝ) : EReal) * (((G.ldt (dir k) (st k)).im : ℝ) : EReal)))
      - ((part (sw k) (G.C (dir k) o (st k)) : ℝ) : EReal)
        * (Ideal.exp (((E : ℝ) : EReal) * (((G.ldt (dir k) (st k)).re : ℝ) : EReal))
          * Ideal.sin (((E : ℝ) : EReal) * (((G.ldt (dir k) (st k)).im : ℝ) : EReal)))
      = ((cpart k (G.C (dir k) o (st k) * G.A (dir k) (st k) ^ E) : ℝ) : EReal) := by
  have hsg : (if k.val / 64 % 2 = 0 then (1 : EReal) else ((-1 : ℝ) : EReal)) = ((-sg k : ℝ) : EReal) := by
    unfold sg; split_ifs <;> simp
  rw [hsg]
  simp only [← EReal.coe_mul, Ideal.exp_coe, Ideal.cos_coe, Ideal.sin_coe, ← EReal.coe_sub, ← G.A_pow_re, ← G.A_pow_im]
  congr 1
  rw [part_sw]
  unfold part cpart sg
  split_ifs
  · rw [Complex.mul_re]; ring
  · rw [Complex.mul_im]; ring

/-- The exponent's rows. -/
theorem rows (k : Fin 256) : k0_pay25 x1 (ix2 (0 : Fin 1) k) = (((G.ldt (dir k) (st k)).re : ℝ) : EReal)
    ∧ k0_pay26 x1 (ix2 (0 : Fin 1) k) = (((G.ldt (dir k) (st k)).im : ℝ) : EReal) := by
  pointwise [k0_pay25, k0_pay26, k0_pay24, k0_pay23]
  simp only [hB.b0, hB.b1, hB.b2, hB.lmax, min_coe, Ideal.exp_coe, ← EReal.coe_mul]
  exact ⟨rfl, rfl⟩

omit hB in
theorem ld4 : View.ld x1 r0_4 = x1 := View.ld_unit_lit _ _ (by decide)

omit hB in
theorem ld5 : View.ld x3 r0_5 = x3 := View.ld_unit_lit _ _ (by decide)

/-- The first call's output table. -/
theorem cct (r k : Fin 256) : out0_7 x0 x1 x2 x3 x4 (ix3 (0 : Fin 1) r k)
    = ((cpart k (G.C (dir k) (ch r) (st k) * G.A (dir k) (st k) ^ ec r k) : ℝ) : EReal) := by
  unfold out0_7
  frame_out
  pointwise [k0_pay32, k0_pay31, k0_pay30, k0_pay82, k0_pay83,k0_pay84,k0_pay85,k0_pay86,k0_pay73,k0_pay70]
  rw [ld4, ld5, rep28, rep29, (rows hB k).1, (rows hB k).2, oddc_apply, fwdc_apply, row_apply, sel0, sel1, lit_neg_one, lit16, hB.cm, hB.cm, dir_sw, st_sw]
  have hex : (if k.val < 128 then (((r.val / 16 : ℕ) : ℝ) : EReal) + 1 else ((16 : ℝ) : EReal) - (((r.val / 16 : ℕ) : ℝ) : EReal))
      = ((ec r k : ℝ) : EReal) := by
    have hr : r.val / 16 ≤ 16 := by omega
    unfold ec
    split_ifs
    · push_cast; rfl
    · rw [Nat.cast_sub hr, ← EReal.coe_sub]; norm_num
  rw [hex]
  exact cval G k (ch r) _

/-- The output maps times the lags' powers. -/
theorem ee (r k : Fin 256) : k0_pay87 x0 x1 x2 x3 x4 (ix2 r k)
    = ((cpart k (G.C (dir k) (ch r) (st k) * G.A (dir k) (st k) ^ en r k) : ℝ) : EReal) := by
  unfold k0_pay87
  pointwise [k0_pay33, k0_pay82, k0_pay83,k0_pay84,k0_pay85,k0_pay86,k0_pay73,k0_pay70, k0_pay30]
  rw [ld4, ld5, rep28, rep29, (rows hB k).1, (rows hB k).2, oddc_apply, fwdc_apply, row_apply, sel0, sel1, lit_neg_one, lit15, hB.cm, hB.cm, dir_sw, st_sw]
  have hex : (if k.val < 128 then (((r.val / 16 : ℕ) : ℝ) : EReal) else ((15 : ℝ) : EReal) - (((r.val / 16 : ℕ) : ℝ) : EReal))
      = ((en r k : ℝ) : EReal) := by
    have hr : r.val / 16 ≤ 15 := by omega
    unfold en
    split_ifs
    · rfl
    · rw [Nat.cast_sub hr, ← EReal.coe_sub]; norm_num
  rw [hex]
  exact cval G k (ch r) _

omit hB in
theorem ld2 : View.ld x2 r0_2 = x2 := View.ld_unit_lit _ _ (by decide)

omit hB in
/-- A sum of reals, read among the extended reals. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

omit hB in
/-- The two parts' products of one direction's rows, summed: the real part of the complex sum. -/
theorem pairs (κ : Fin 128 → Fin 256) (h1 : ∀ k, (st (κ k)).val = k.val % 64) (h2 : ∀ k, (κ k).val / 64 % 2 = k.val / 64)
    (z w : Fin 64 → ℂ) : ∑ k : Fin 128, cpart (κ k) (z (st (κ k))) * part (κ k) (w (st (κ k))) = ∑ p, (z p * w p).re := by
  rw [Fin.sum_univ_add (a := 64) (b := 64), ← Finset.sum_add_distrib]
  refine Finset.sum_congr rfl fun p _ => ?_
  have a1 : st (κ (Fin.castAdd 64 p)) = p := Fin.ext (by rw [h1]; simp)
  have a2 : st (κ (Fin.natAdd 64 p)) = p := Fin.ext (by rw [h1]; simp)
  have b1 : (κ (Fin.castAdd 64 p)).val / 64 % 2 = 0 := by rw [h2]; simp
  have b2 : (κ (Fin.natAdd 64 p)).val / 64 % 2 = 1 := by rw [h2]; have := p.isLt; rw [Fin.val_natAdd]; omega
  rw [a1, a2, cpart, cpart, part, part, if_pos b1, if_pos b1, if_neg (by omega), if_neg (by omega), Complex.mul_re]
  ring

omit hB in
/-- One direction's responses, in the first sixteen columns. -/
theorem resp (κ : Fin 128 → Fin 256) (e : Fin 2) (m : ℕ) (h0 : ∀ k, dir (κ k) = e) (h1 : ∀ k, (st (κ k)).val = k.val % 64)
    (h2 : ∀ k, (κ k).val / 64 % 2 = k.val / 64) (o : Fin 16) (c : Fin 128) (E : Fin 128 → ℕ) (hE : ∀ k, E k = m) :
    ∑ k : Fin 128, ((cpart (κ k) (G.C (dir (κ k)) o (st (κ k)) * G.A (dir (κ k)) (st (κ k)) ^ E k) : ℝ) : EReal)
        * (((if h : c.val < 16 then part (κ k) (G.B (dir (κ k)) (st (κ k)) ⟨c.val, h⟩) else 0 : ℝ)) : EReal)
      = (((if h : c.val < 16 then G.K e m o ⟨c.val, h⟩ else 0 : ℝ)) : EReal) := by
  simp only [← EReal.coe_mul, coe_sum, h0, hE]
  congr 1
  by_cases hc : c.val < 16
  · simp only [dif_pos hc]
    exact pairs κ h1 h2 (fun p => G.C e o p * G.A e p ^ m) (fun p => G.B e p ⟨c.val, hc⟩)
  · simp [dif_neg hc]

/-- The forward responses at each lag, repeated along the columns. -/
theorem ktf (r j : Fin 256) : k0_pay89 x0 x1 x2 x3 x4 (ix2 r j) = ((G.K 0 (r.val / 16) (ch r) (ch j) : ℝ) : EReal) := by
  have he : ∀ (k : Fin 256), k0_pay33 k0_pay2 k0_pay5 (k0_pay82 x0 x1 x2 x3 x4) (k0_pay83 x0 x1 x2 x3 x4) (k0_pay84 x0 x1 x2 x3 x4) (k0_pay85 x0 x1 x2 x3 x4) (k0_pay86 x0 x1 x2 x3 x4) (ix2 r k) = _ := ee hB r
  unfold k0_pay89
  pointwise [k0_pay35, k0_pay88, k0_pay34, k0_pay70, k0_pay73, k0_pay81, k0_pay74]
  rw [ld2]
  simp only [he, bb hB]
  refine tile hB _ (fun c => G.K 0 (r.val / 16) (ch r) c) (fun c => ?_) j
  refine resp (fun k => ⟨k.val, by omega⟩) 0 (r.val / 16) (fun k => Fin.ext ?_) (fun k => rfl) (fun k => ?_) (ch r) c _ (fun k => ?_)
  · have := k.isLt; simp only [dir, Fin.val_zero]; omega
  · have := k.isLt; simp only []; omega
  · exact if_pos k.isLt

/-- The backward responses at each lag counted down, repeated along the columns. -/
theorem ktb (r j : Fin 256) : k0_pay90 x0 x1 x2 x3 x4 (ix2 r j) = ((G.K 1 (15 - r.val / 16) (ch r) (ch j) : ℝ) : EReal) := by
  unfold k0_pay90
  pointwise [k0_pay36, k0_pay81, k0_pay74]
  rw [ld2]
  simp only [ee hB, bb hB]
  refine tile hB _ (fun c => G.K 1 (15 - r.val / 16) (ch r) c) (fun c => ?_) j
  refine resp (fun k => ⟨128 + k.val, by omega⟩) 1 (15 - r.val / 16) (fun k => Fin.ext ?_) (fun k => ?_) (fun k => ?_) (ch r) c _ (fun k => ?_)
  · have := k.isLt; simp only [dir, Fin.val_one]; omega
  · have := k.isLt; simp only [st]; omega
  · have := k.isLt; simp only []; omega
  · exact if_neg (by simp)

/-- The scan's multipliers: each state's power of the chunk's decay, one column for each doubling. -/
theorem prm (p : Fin 64) (j : Fin 128) (hj : j.val < 32) : out0_8 x0 x1 x2 x3 x4 (ix3 (0 : Fin 1) (⟨p.val, by omega⟩ : Fin 256) j)
    = (((if j.val / 8 % 2 = 0 then ((G.A ⟨j.val / 16, by omega⟩ p ^ 16) ^ 2 ^ (j.val % 8)).re
        else ((G.A ⟨j.val / 16, by omega⟩ p ^ 16) ^ 2 ^ (j.val % 8)).im : ℝ)) : EReal) := by
  have c1 := cols hB (⟨p.val, by omega⟩ : Fin 256)
  have c2 := cols hB (⟨128 + p.val, by omega⟩ : Fin 256)
  obtain ⟨-, -, f77, f78, -, -⟩ := c1
  obtain ⟨-, -, g77, g78, -, -⟩ := c2
  have s1 : st (⟨p.val, by omega⟩ : Fin 256) = p := Fin.ext (by simp only [st]; omega)
  have s2 : st (⟨128 + p.val, by omega⟩ : Fin 256) = p := Fin.ext (by simp only [st]; omega)
  have d1 : dir (⟨p.val, by omega⟩ : Fin 256) = 0 := Fin.ext (by simp only [dir, Fin.val_zero]; omega)
  have d2 : dir (⟨128 + p.val, by omega⟩ : Fin 256) = 1 := Fin.ext (by simp only [dir, Fin.val_one]; omega)
  rw [s1, d1] at f77 f78
  rw [s2, d2] at g77 g78
  unfold out0_8
  frame_out
  pointwise [k0_pay1, k0_pay8, k0_pay64, k0_pay66, k0_pay67, k0_pay68,k0_pay69, k0_pay65]
  rw [f77, f78, g77, g78]
  obtain ⟨j, hjj⟩ := j
  have hj' : j < 32 := hj
  have k1 : ∀ j : Fin 32, IntOp.cmpi CmpIPredicate.eq (BitVec.ofNat 32 j.val) 32#32 = 0#1
      ∧ IntOp.cmpi CmpIPredicate.eq (IntOp.andi (IntOp.shrsi ArithUnit.vector (BitVec.ofNat 32 j.val) 3#32) 1#32) 0#32
          = (if j.val / 8 % 2 = 0 then 1#1 else 0#1)
      ∧ IntOp.cmpi CmpIPredicate.slt (BitVec.ofNat 32 j.val) 16#32 = (if j.val < 16 then 1#1 else 0#1)
      ∧ (IntOp.muli (16#32) (IntOp.shli ArithUnit.vector (1#32) (IntOp.andi (BitVec.ofNat 32 j.val) 7#32))).toInt
          = ((16 * 2 ^ (j.val % 8) : ℕ) : ℤ) := by decide +kernel
  obtain ⟨m1, m2, m3, m4⟩ := k1 ⟨j, hj⟩
  simp only [] at m1 m2 m3 m4
  have m5 : FloatOps.sitofp (F := Ideal) FTy.f32 (IntOp.muli (16#32) (IntOp.shli ArithUnit.vector (1#32) (IntOp.andi (BitVec.ofNat 32 j) 7#32)))
      = (((16 * 2 ^ (j % 8) : ℕ) : ℝ) : EReal) := by
    show ((((IntOp.muli (16#32) (IntOp.shli ArithUnit.vector (1#32) (IntOp.andi (BitVec.ofNat 32 j) 7#32))).toInt : ℝ)) : EReal) = _
    rw [m4]; norm_cast
  simp only [m1, m2, m3, m5, sel1]
  rw [show ∀ a b : EReal, Scalar.select (0#1) a b = b from fun _ _ => rfl]
  simp only [← pow_mul, G.A_pow_re, G.A_pow_im]
  by_cases h16 : j < 16
  · have : (⟨j / 16, by omega⟩ : Fin 2) = 0 := Fin.ext (by simp only [Fin.val_zero]; omega)
    simp only [if_pos h16, this, ← EReal.coe_mul, Ideal.exp_coe, Ideal.cos_coe, Ideal.sin_coe]
    split_ifs <;> rfl
  · have : (⟨j / 16, by omega⟩ : Fin 2) = 1 := Fin.ext (by simp only [Fin.val_one]; omega)
    simp only [if_neg h16, this, ← EReal.coe_mul, Ideal.exp_coe, Ideal.cos_coe, Ideal.sin_coe]
    split_ifs <;> rfl

/-- The skip weights' column. -/
theorem prmD (r : Fin 256) : out0_8 x0 x1 x2 x3 x4 (ix3 (0 : Fin 1) r (32 : Fin 128)) = G.ds (ch r) := by
  unfold out0_8
  frame_out
  pointwise [k0_pay1, k0_pay8]
  exact hB.a3 r

end Cert.KernelIdeal.Ops
-- ==== Proof.Host.lean ====
module

public import proofs.«01_k».proof.Proof.Ops
public import proofs.«01_k».proof.Proof.RefRead
public import proofs.«01_k».proof.Proof.Gen.KernelIdeal.Frame
public import Idealize.ShloMosaic.Lib.Pipeline.ValueKit
public import Idealize.ShloMosaic.Lib.StableHlo.ReadAt
public import Idealize.ShloMosaic.Lib.Pointwise

/-! # What the host operations before the two calls leave in the arrays they read -/

@[expose] public section

set_option maxRecDepth 16384

noncomputable section

namespace Cert.KernelIdeal.Lay

open Idealize.ShloMosaic Idealize.ShloMosaic.TcCoe Idealize.SL.Sem
open Cert.KernelIdeal Cert.KernelIdeal.Gen Cert.Model
open Cert.KernelIdeal.Ops (dir st ch part)

/-- A row's direction and state, from its place in the stack of four quarters. -/
theorem pick {α : Type} (f : Fin 2 → Fin 64 → α) (k : Fin 256) (e : Fin 2) (p : Fin 64) (h : k.val / 128 = e.val ∧ k.val % 64 = p.val) :
    f e p = f (dir k) (st k) :=
  congrArg₂ f (Fin.ext h.1.symm) (Fin.ext h.2.symm)

/-- The same of a row that holds real parts. -/
theorem pick_re (z : Fin 2 → Fin 64 → ℂ) (k : Fin 256) (e : Fin 2) (p : Fin 64) (h : k.val / 128 = e.val ∧ k.val % 64 = p.val)
    (hk : k.val / 64 % 2 = 0) : (((z e p).re : ℝ) : EReal) = ((part k (z (dir k) (st k)) : ℝ) : EReal) := by
  rw [part, if_pos hk, pick z k e p h]

/-- The same of a row that holds imaginary parts. -/
theorem pick_im (z : Fin 2 → Fin 64 → ℂ) (k : Fin 256) (e : Fin 2) (p : Fin 64) (h : k.val / 128 = e.val ∧ k.val % 64 = p.val)
    (hk : ¬ k.val / 64 % 2 = 0) : (((z e p).im : ℝ) : EReal) = ((part k (z (dir k) (st k)) : ℝ) : EReal) := by
  rw [part, if_neg hk, pick z k e p h]

/-- A choice among four quarters. -/
theorem four {α : Type} {k : ℕ} {x : α} {f1 : k < 64 → α} {f2 : ¬ k < 64 → k - 64 < 64 → α}
    {f3 : ¬ k < 64 → ¬ k - 64 < 64 → k - 64 - 64 < 64 → α} {f4 : ¬ k < 64 → ¬ k - 64 < 64 → ¬ k - 64 - 64 < 64 → α}
    (h1 : ∀ a, f1 a = x) (h2 : ∀ a b, f2 a b = x) (h3 : ∀ a b c, f3 a b c = x) (h4 : ∀ a b c, f4 a b c = x) :
    dite (k < 64) f1 (fun a => dite (k - 64 < 64) (f2 a) fun b => dite (k - 64 - 64 < 64) (f3 a b) (f4 a b)) = x := by
  by_cases a : k < 64
  · rw [dif_pos a, h1]
  by_cases b : k - 64 < 64
  · rw [dif_neg a, dif_pos b, h2]
  by_cases c : k - 64 - 64 < 64
  · rw [dif_neg a, dif_neg b, dif_pos c, h3]
  · rw [dif_neg a, dif_neg b, dif_neg c, h4]

variable (V : Valuation τ sig (Elt Ideal))

/-- The contents once the host operations before the first call are done. -/
abbrev E : Valuation τ sig (Elt Ideal) := StableHlo.after hostOps0_2 (StableHlo.after hostOps0_1 (StableHlo.after hostOps0 V))

variable {V} {P : Par} (h : Cert.ReferenceIdeal.Read.Hold P (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))
  (V (Proc.devRef .tc main_arg7)) (V (Proc.devRef .tc main_arg8)))
include h

/-- The columns of the first call's parameters: the decays' real parts. -/
theorem col_re (g : Fin 128) (k : Fin 256) : (E V (Proc.devRef .tc main_v47) : Vec Ideal S128x256x4 .f32) (ix3 g k (0 : Fin 4))
    = (((P.re (dir k) g (st k)) : ℝ) : EReal) := by
  repeat after_reads_at
  refine four (fun a => ?_) (fun a b => ?_) (fun a b d => ?_) (fun a b d => ?_) <;>
    (refine (h.re _ _ _).trans (pick (fun e p => ((P.re e g p : ℝ) : EReal)) k _ _ ⟨?_, ?_⟩) <;> (try simp only [Fin.val_zero, Fin.val_one]) <;> omega)

/-- The columns of the first call's parameters: the decays' imaginary parts. -/
theorem col_im (g : Fin 128) (k : Fin 256) : (E V (Proc.devRef .tc main_v47) : Vec Ideal S128x256x4 .f32) (ix3 g k (1 : Fin 4))
    = (((P.im (dir k) g (st k)) : ℝ) : EReal) := by
  repeat after_reads_at
  refine four (fun a => ?_) (fun a b => ?_) (fun a b d => ?_) (fun a b d => ?_) <;>
    (refine (h.im _ _ _).trans (pick (fun e p => ((P.im e g p : ℝ) : EReal)) k _ _ ⟨?_, ?_⟩) <;> (try simp only [Fin.val_zero, Fin.val_one]) <;> omega)

/-- The columns of the first call's parameters: the logarithms of the steps. -/
theorem col_ld (g : Fin 128) (k : Fin 256) : (E V (Proc.devRef .tc main_v47) : Vec Ideal S128x256x4 .f32) (ix3 g k (2 : Fin 4))
    = (((P.ld (dir k) g) : ℝ) : EReal) := by
  repeat after_reads_at
  refine four (fun a => ?_) (fun a b => ?_) (fun a b d => ?_) (fun a b d => ?_) <;>
    (refine (h.ld _ _).trans (pick (fun e p => ((P.ld e g : ℝ) : EReal)) k _ ⟨k.val % 64, by omega⟩ ⟨?_, ?_⟩) <;> (try simp only [Fin.val_zero, Fin.val_one]) <;> omega)

/-- The rows of the first call's parameters: the decays' real parts. -/
theorem row_re (g : Fin 128) (k : Fin 256) : (E V (Proc.devRef .tc main_v49) : Vec Ideal S128x8x256 .f32) (ix3 g (0 : Fin 8) k)
    = (((P.re (dir k) g (st k)) : ℝ) : EReal) := by
  repeat after_reads_at
  refine four (fun a => ?_) (fun a b => ?_) (fun a b d => ?_) (fun a b d => ?_) <;>
    (refine (h.re _ _ _).trans (pick (fun e p => ((P.re e g p : ℝ) : EReal)) k _ _ ⟨?_, ?_⟩) <;> (try simp only [Fin.val_zero, Fin.val_one]) <;> omega)

/-- The rows of the first call's parameters: the decays' imaginary parts. -/
theorem row_im (g : Fin 128) (k : Fin 256) : (E V (Proc.devRef .tc main_v49) : Vec Ideal S128x8x256 .f32) (ix3 g (1 : Fin 8) k)
    = (((P.im (dir k) g (st k)) : ℝ) : EReal) := by
  repeat after_reads_at
  refine four (fun a => ?_) (fun a b => ?_) (fun a b d => ?_) (fun a b d => ?_) <;>
    (refine (h.im _ _ _).trans (pick (fun e p => ((P.im e g p : ℝ) : EReal)) k _ _ ⟨?_, ?_⟩) <;> (try simp only [Fin.val_zero, Fin.val_one]) <;> omega)

/-- The rows of the first call's parameters: the logarithms of the steps. -/
theorem row_ld (g : Fin 128) (k : Fin 256) : (E V (Proc.devRef .tc main_v49) : Vec Ideal S128x8x256 .f32) (ix3 g (2 : Fin 8) k)
    = (((P.ld (dir k) g) : ℝ) : EReal) := by
  repeat after_reads_at
  refine four (fun a => ?_) (fun a b => ?_) (fun a b d => ?_) (fun a b d => ?_) <;>
    (refine (h.ld _ _).trans (pick (fun e p => ((P.ld e g : ℝ) : EReal)) k _ ⟨k.val % 64, by omega⟩ ⟨?_, ?_⟩) <;> (try simp only [Fin.val_zero, Fin.val_one]) <;> omega)

/-- The last column of the first call's parameters: the skip's weights. -/
theorem col_ds (g : Fin 128) (k : Fin 256) : (E V (Proc.devRef .tc main_v47) : Vec Ideal S128x256x4 .f32) (ix3 g k (3 : Fin 4))
    = (P.grp g).ds (ch k) := by
  repeat after_reads_at
  exact h.ds _

/-- The stacked input matrices. -/
theorem bmat (g : Fin 128) (k : Fin 256) (c : Fin 128) : (E V (Proc.devRef .tc main_v59) : Vec Ideal S128x256x128 .f32) (ix3 g k c)
    = (((if hc : c.val < 16 then part k ⟨P.br (dir k) g (st k) ⟨c.val, hc⟩, P.bi (dir k) g (st k) ⟨c.val, hc⟩⟩ else 0 : ℝ)) : EReal) := by
  repeat after_reads_at
  by_cases hc : c.val < 16
  · rw [dif_pos hc, dif_pos hc]
    refine four (fun a => ?_) (fun a b => ?_) (fun a b d => ?_) (fun a b d => ?_)
    · refine (h.br _ _ _ _).trans (pick_re (fun e p => ⟨P.br e g p ⟨c.val, hc⟩, P.bi e g p ⟨c.val, hc⟩⟩) k _ _ ⟨?_, ?_⟩ ?_) <;> (try simp only [Fin.val_zero, Fin.val_one]) <;> omega
    · refine (h.bi _ _ _ _).trans (pick_im (fun e p => ⟨P.br e g p ⟨c.val, hc⟩, P.bi e g p ⟨c.val, hc⟩⟩) k _ _ ⟨?_, ?_⟩ ?_) <;> (try simp only [Fin.val_zero, Fin.val_one]) <;> omega
    · refine (h.br _ _ _ _).trans (pick_re (fun e p => ⟨P.br e g p ⟨c.val, hc⟩, P.bi e g p ⟨c.val, hc⟩⟩) k _ _ ⟨?_, ?_⟩ ?_) <;> (try simp only [Fin.val_zero, Fin.val_one]) <;> omega
    · refine (h.bi _ _ _ _).trans (pick_im (fun e p => ⟨P.br e g p ⟨c.val, hc⟩, P.bi e g p ⟨c.val, hc⟩⟩) k _ _ ⟨?_, ?_⟩ ?_) <;> (try simp only [Fin.val_zero, Fin.val_one]) <;> omega
  · rw [dif_neg hc, dif_neg hc]
    show (((0#32 : BitVec 32).toInt : ℝ) : EReal) = _
    simp

/-- The stacked output matrices. -/
theorem cmat (g : Fin 128) (o : Fin 16) (k : Fin 256) : (E V (Proc.devRef .tc main_v68) : Vec Ideal S128x16x256 .f32) (ix3 g o k)
    = ((part k ((P.grp g).C (dir k) o (st k)) : ℝ) : EReal) := by
  repeat after_reads_at
  refine four (fun a => ?_) (fun a b => ?_) (fun a b d => ?_) (fun a b d => ?_)
  · refine (h.cr _ _ _ _).trans (pick_re (fun e p => (P.grp g).C e o p) k _ _ ⟨?_, ?_⟩ ?_) <;> (try simp only [Fin.val_zero, Fin.val_one]) <;> omega
  · refine (h.ci _ _ _ _).trans (pick_im (fun e p => (P.grp g).C e o p) k _ _ ⟨?_, ?_⟩ ?_) <;> (try simp only [Fin.val_zero, Fin.val_one]) <;> omega
  · refine (h.cr _ _ _ _).trans (pick_re (fun e p => (P.grp g).C e o p) k _ _ ⟨?_, ?_⟩ ?_) <;> (try simp only [Fin.val_zero, Fin.val_one]) <;> omega
  · refine (h.ci _ _ _ _).trans (pick_im (fun e p => (P.grp g).C e o p) k _ _ ⟨?_, ?_⟩ ?_) <;> (try simp only [Fin.val_zero, Fin.val_one]) <;> omega

omit h in
/-- The tile constant's place in its list of words. -/
theorem tile (c : Fin 128) (r : Fin 256) : (E V (Proc.devRef .tc main_cst) : Vec Ideal S128x256 .f32) (ix2 c r)
    = Ideal.ofBits .f32 (lit0 ⟨c.val * 256 + r.val, by have := c.isLt; have := r.isLt; show _ < 32768; omega⟩) := by
  repeat after_reads_at
  refine congrArg (fun i => Ideal.ofBits .f32 (lit0 i)) (Fin.ext ?_)
  exact Shape.rowMajor_val_two (d := ![128, 256]) (ix2 c r)

/-- The inputs in the second call's layout. -/
theorem uin (g : Fin 128) (r : Fin 256) (n : Fin 1024) : (StableHlo.after hostOps1 V (Proc.devRef .tc main_v72) : Vec Ideal S128x256x1024 .f32) (ix3 g r n)
    = (((P.grp g).u (16 * n.val + r.val / 16) (ch r) : ℝ) : EReal) := by
  repeat after_reads_at
  refine (h.u _ _ _).trans ?_
  refine congrArg (fun x : ℝ => (x : EReal)) ?_
  have hn := n.isLt
  have hr := r.isLt
  have e1 : n.val / 128 = (16 * n.val + r.val / 16) / 2048 % 8 := by omega
  have e2 : n.val % 128 * 16 + r.val / 16 = (16 * n.val + r.val / 16) % 2048 := by omega
  exact congrArg₂ (fun b l => P.u b l _) (Fin.ext e1) (Fin.ext e2)

end Cert.KernelIdeal.Lay
-- ==== Proof.OpsT.lean ====
module

public import proofs.«01_k».proof.Proof.Ops

/-! # The chunk's own table -/

@[expose] public section

set_option maxRecDepth 16384

noncomputable section

namespace Cert.KernelIdeal.Ops

open Idealize.ShloMosaic Idealize.ShloMosaic.TcCoe Idealize.SL.Sem
open Cert.KernelIdeal.Gen Cert.Model

/-- The float words of the places in a chunk. -/
def wd (t : ℕ) : BitVec 32 :=
  ([0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32] :
    List (BitVec 32)).getD t 0#32

/-- A choice of one place's columns, above or below its rows. -/
def pick (p : CmpFPredicate) (v4 : FVec Ideal S256x1 .f32) (v7 : FVec Ideal S1x256 .f32) (t : ℕ) (f : FVec Ideal S256x256 .f32) :
    FVec Ideal S256x256 .f32 :=
  select (andi (broadcastTo S256x256 (cmpf .oeq v7 (broadcast S1x256 (Scalar.ofBits .f32 (wd t)))) broadcasts_S1x256_S256x256)
    (broadcastTo S256x256 (cmpf p v4 (broadcast S256x1 (Scalar.ofBits .f32 (wd t)))) broadcasts_S256x1_S256x256)) f
    (broadcast S256x256 (Scalar.ofBits .f32 0x00000000#32))

/-- The rows rotated. -/
def rot (d : BitVec 32) (f : FVec Ideal S256x256 .f32) : FVec Ideal S256x256 .f32 := dynamicRotate 0 d none f rotates_S256x256_d0

/-- One place's forward columns added. -/
def fw (v4 : FVec Ideal S256x1 .f32) (v7 : FVec Ideal S1x256 .f32) (t : ℕ) (f a : FVec Ideal S256x256 .f32) : FVec Ideal S256x256 .f32 :=
  addf a (pick .oge v4 v7 t f)

/-- One place's backward columns added. -/
def bw (v4 : FVec Ideal S256x1 .f32) (v7 : FVec Ideal S1x256 .f32) (t : ℕ) (f a : FVec Ideal S256x256 .f32) : FVec Ideal S256x256 .f32 :=
  addf a (pick .ole v4 v7 t f)

/-- A place's forward and backward columns added. -/
def both (v4 : FVec Ideal S256x1 .f32) (v7 : FVec Ideal S1x256 .f32) (f b : FVec Ideal S256x256 .f32) (t : ℕ) (a : FVec Ideal S256x256 .f32) :
    FVec Ideal S256x256 .f32 :=
  bw v4 v7 t (rot (BitVec.ofNat 32 (16 * (t + 1))) b) (fw v4 v7 t (rot (BitVec.ofNat 32 (16 * t)) f) a)

/-- The words are the places. -/
theorem wd_val (t : ℕ) (ht : t < 16) : Ideal.ofBits .f32 (wd t) = ((t : ℝ) : EReal) := by
  interval_cases t <;> simp [wd, Ideal.ofBits, Ideal.ieee, -EReal.coe_mul] <;> norm_num

/-- The forward choice read at an index. -/
theorem pickF_apply (t : ℕ) (ht : t < 16) (f : FVec Ideal S256x256 .f32) (r j : Fin 256) :
    pick .oge k0_pay2 k0_pay3 t f (ix2 r j) = if j.val / 16 = t ∧ t ≤ r.val / 16 then f (ix2 r j) else 0 := by
  unfold pick
  pointwise
  rw [place_apply, row_apply, wd_val t ht]
  simp only [EReal.coe_eq_coe_iff, Nat.cast_inj, Ideal.cmp, EReal.coe_le_coe_iff, Nat.cast_le]
  by_cases h1 : j.val / 16 = t <;> by_cases h2 : t ≤ r.val / 16 <;> simp [h1, h2, IntOp.andi, Scalar.select]

/-- The backward choice read at an index. -/
theorem pickB_apply (t : ℕ) (ht : t < 16) (f : FVec Ideal S256x256 .f32) (r j : Fin 256) :
    pick .ole k0_pay2 k0_pay3 t f (ix2 r j) = if j.val / 16 = t ∧ r.val / 16 ≤ t then f (ix2 r j) else 0 := by
  unfold pick
  pointwise
  rw [place_apply, row_apply, wd_val t ht]
  simp only [EReal.coe_eq_coe_iff, Nat.cast_inj, Ideal.cmp, EReal.coe_le_coe_iff, Nat.cast_le]
  by_cases h1 : j.val / 16 = t <;> by_cases h2 : r.val / 16 ≤ t <;> simp [h1, h2, IntOp.andi, Scalar.select]

/-- A rotation of the rows. -/
theorem rot_apply (d : ℕ) (hd : d < 256) (f : FVec Ideal S256x256 .f32) (r j : Fin 256) :
    rot (BitVec.ofNat 32 d) f (ix2 r j) = f (ix2 ⟨(r.val + 256 - d) % 256, by omega⟩ j) := by
  unfold rot
  pointwise
  refine congrArg (fun z => f (ix2 z j)) (Fin.ext ?_)
  have : (BitVec.ofNat 32 d).toNat = d := by rw [BitVec.toNat_ofNat]; omega
  have e : (BitVec.ofNat 32 d).toNat % 256 = d := by omega
  show (r.val + 256 - (BitVec.ofNat 32 d).toNat % 256) % 256 = (r.val + 256 - d) % 256
  rw [e]

section
variable (v4 : FVec Ideal S256x1 .f32) (v7 : FVec Ideal S1x256 .f32) (f b a : FVec Ideal S256x256 .f32)

/-- The lag table's accumulation, lags 1 to 3. -/
theorem p42 : k0_pay42 v4 v7 f b (rot 32#32 b) a (k0_pay40 v7) (k0_pay41 v4) = both v4 v7 f b 3 (both v4 v7 f b 2 (bw v4 v7 1 (rot 32#32 b) a)) := rfl

/-- The lag table's accumulation, lags 4 and 5. -/
theorem p43 : k0_pay43 v4 v7 f b a (Scalar.ofBits .f32 0x40800000#32) = both v4 v7 f b 5 (both v4 v7 f b 4 a) := rfl

/-- The lag table's accumulation, lags 6 and 7. -/
theorem p47 : k0_pay47 v4 v7 f b a (k0_pay44 v7) (k0_pay45 f) (k0_pay46 b) = both v4 v7 f b 7 (both v4 v7 f b 6 a) := rfl

/-- The lag table's accumulation, lags 8 to 10. -/
theorem p54 : k0_pay54 v4 v7 f b a (k0_pay48 v7) (k0_pay49 f) (k0_pay50 b) (k0_pay51 v4 v7)
    = fw v4 v7 10 (rot 160#32 f) (both v4 v7 f b 9 (both v4 v7 f b 8 a)) := rfl

/-- The lag table's accumulation, lags 10 to 12. -/
theorem p58 : k0_pay58 v4 v7 f b (k0_pay52 v7) (k0_pay53 b) a k0_pay55
    = fw v4 v7 12 (rot 192#32 f) (both v4 v7 f b 11 (bw v4 v7 10 (rot 176#32 b) a)) := rfl

/-- The lag table's accumulation, lags 12 to 14. -/
theorem p61 : k0_pay61 v4 v7 f b (k0_pay57 b) a (k0_pay59 v4 v7) k0_pay60
    = both v4 v7 f b 14 (both v4 v7 f b 13 (bw v4 v7 12 (rot 208#32 b) a)) := rfl

/-- The lag table's accumulation, lag 15, and the cast it is stored through. -/
theorem p63 : k0_pay63 v4 f b a (k0_pay62 v7) 240#32
    = shapeCast S1x256x256 (truncf .bf16 (bw v4 v7 15 b (fw v4 v7 15 (rot 240#32 f) a)) bitsLt_bf16_f32) shapeCasts_S256x256_S1x256x256 := rfl

end

/-- The lag table's accumulation, lags 0 and 1. -/
theorem p39 (v4 : FVec Ideal S256x1 .f32) (v7 : FVec Ideal S1x256 .f32) (v24 : Vec Ideal S128x256 .f32) (v76 : FVec Ideal S256x128 .f32)
    (v189 : FVec Ideal S256x256 .f32) (v190 : FVec Ideal S256x128 .f32) :
    k0_pay39 v4 v7 v24 v76 v189 v190 = fw v4 v7 1 (rot 16#32 (k0_pay35 v24 v76 v190)) (bw v4 v7 0 (rot 16#32 (k0_pay36 v24 v76 v189))
      (fw v4 v7 0 (k0_pay35 v24 v76 v190) (broadcast S256x256 (Scalar.ofBits .f32 0x00000000#32)))) := rfl

/-- The chunk's own table, place by place. -/
def fold (v4 : FVec Ideal S256x1 .f32) (v7 : FVec Ideal S1x256 .f32) (f b : FVec Ideal S256x256 .f32) : FVec Ideal S256x256 .f32 :=
  bw v4 v7 15 b (fw v4 v7 15 (rot 240#32 f) (both v4 v7 f b 14 (both v4 v7 f b 13 (both v4 v7 f b 12 (both v4 v7 f b 11 (both v4 v7 f b 10
    (both v4 v7 f b 9 (both v4 v7 f b 8 (both v4 v7 f b 7 (both v4 v7 f b 6 (both v4 v7 f b 5 (both v4 v7 f b 4 (both v4 v7 f b 3
    (both v4 v7 f b 2 (both v4 v7 f b 1 (bw v4 v7 0 (rot 16#32 b)
      (fw v4 v7 0 f (broadcast S256x256 (Scalar.ofBits .f32 0x00000000#32)))))))))))))))))))

/-- The kernel's parts of the sum put together. -/
theorem chain (v4 : FVec Ideal S256x1 .f32) (v7 : FVec Ideal S1x256 .f32) (f b : FVec Ideal S256x256 .f32) :
    k0_pay63 v4 f b (k0_pay61 v4 v7 f b (k0_pay57 b) (k0_pay58 v4 v7 f b (k0_pay52 v7) (k0_pay53 b) (k0_pay54 v4 v7 f b (k0_pay47 v4 v7 f b
      (k0_pay43 v4 v7 f b (k0_pay42 v4 v7 f b (rot 32#32 b) (fw v4 v7 1 (rot 16#32 f) (bw v4 v7 0 (rot 16#32 b)
        (fw v4 v7 0 f (broadcast S256x256 (Scalar.ofBits .f32 0x00000000#32))))) (k0_pay40 v7) (k0_pay41 v4)) (Scalar.ofBits .f32 0x40800000#32))
      (k0_pay44 v7) (k0_pay45 f) (k0_pay46 b)) (k0_pay48 v7) (k0_pay49 f) (k0_pay50 b) (k0_pay51 v4 v7)) k0_pay55) (k0_pay59 v4 v7) k0_pay60)
      (k0_pay62 v7) 240#32
    = shapeCast S1x256x256 (truncf .bf16 (fold v4 v7 f b) bitsLt_bf16_f32) shapeCasts_S256x256_S1x256x256 := by
  rw [p42, p43, p47, p54, p58, p61, p63]
  rfl

/-- The first call's own-chunk table is that sum. -/
theorem out_fold (x0 : Vec Ideal S1x256x4 .f32) (x1 : Vec Ideal S1x8x256 .f32) (x2 : Vec Ideal S1x256x128 .f32)
    (x3 : Vec Ideal S1x16x256 .f32) (x4 : Vec Ideal S128x256 .f32) (r j : Fin 256) : out0_5 x0 x1 x2 x3 x4 (ix3 (0 : Fin 1) r j)
    = fold k0_pay2 k0_pay3 (k0_pay89 x0 x1 x2 x3 x4) (k0_pay90 x0 x1 x2 x3 x4) (ix2 r j) := by
  have h := chain k0_pay2 k0_pay3 (k0_pay89 x0 x1 x2 x3 x4) (k0_pay90 x0 x1 x2 x3 x4)
  have h39 := p39 k0_pay2 k0_pay3 (View.ld x4 r0_0) (k0_pay81 x0 x1 x2 x3 x4) (k0_pay87 x0 x1 x2 x3 x4) (k0_pay88 x0 x1 x2 x3 x4)
  have hc : ∀ v : FVec Ideal S256x256 .f32, shapeCast S1x256x256 (truncf .bf16 v bitsLt_bf16_f32) shapeCasts_S256x256_S1x256x256
      (ix3 (0 : Fin 1) r j) = v (ix2 r j) := fun v => by pointwise
  refine Eq.trans ?_ (hc _)
  rw [← h]
  unfold k0_pay89 k0_pay90
  rw [← h39]
  unfold out0_5 k0_pay89 k0_pay90 k0_pay70 k0_pay71
  rw [show View.ld x4 r0_0 = x4 from View.ld_unit_lit _ _ (by decide)]
  frame_out
  rfl

/-- The chunk's own table: the responses at the lags forward and backward. -/
def mtv (G : Grp) (r j : Fin 256) : ℝ :=
  (if j.val / 16 ≤ r.val / 16 then G.K 0 (r.val / 16 - j.val / 16) (ch r) (ch j) else 0)
    + (if r.val / 16 ≤ j.val / 16 then G.K 1 (j.val / 16 - r.val / 16) (ch r) (ch j) else 0)

/-- One place more of the table. -/
theorem grow {G : Grp} {t : ℕ} (ht : t < 16) {f b a : FVec Ideal S256x256 .f32} {r j : Fin 256}
    (hf : t ≤ r.val / 16 → f (ix2 r j) = ((G.K 0 (r.val / 16 - t) (ch r) (ch j) : ℝ) : EReal))
    (hb : r.val / 16 ≤ t → b (ix2 r j) = ((G.K 1 (t - r.val / 16) (ch r) (ch j) : ℝ) : EReal))
    (ha : a (ix2 r j) = (((if j.val / 16 < t then mtv G r j else 0 : ℝ)) : EReal)) :
    bw k0_pay2 k0_pay3 t b (fw k0_pay2 k0_pay3 t f a) (ix2 r j) = (((if j.val / 16 < t + 1 then mtv G r j else 0 : ℝ)) : EReal) := by
  show (a (ix2 r j) + pick .oge k0_pay2 k0_pay3 t f (ix2 r j)) + pick .ole k0_pay2 k0_pay3 t b (ix2 r j) = _
  rw [pickF_apply t ht, pickB_apply t ht, ha]
  rcases lt_trichotomy (j.val / 16) t with h | h | h
  · have n1 : ¬ (j.val / 16 = t ∧ t ≤ r.val / 16) := by omega
    have n2 : ¬ (j.val / 16 = t ∧ r.val / 16 ≤ t) := by omega
    rw [if_neg n1, if_neg n2, if_pos h, if_pos (by omega : j.val / 16 < t + 1), add_zero, add_zero]
  · subst h
    simp only [mtv, lt_irrefl, if_false, Nat.lt_succ_self, if_true, true_and, EReal.coe_zero, zero_add]
    by_cases h1 : j.val / 16 ≤ r.val / 16 <;> by_cases h2 : r.val / 16 ≤ j.val / 16
    · rw [if_pos h1, if_pos h2, if_pos h1, if_pos h2, hf h1, hb h2, EReal.coe_add]
    · rw [if_pos h1, if_neg h2, if_pos h1, if_neg h2, hf h1, add_zero, add_zero]
    · rw [if_neg h1, if_pos h2, if_neg h1, if_pos h2, hb h2, zero_add, zero_add]
    · omega
  · have n1 : ¬ (j.val / 16 = t ∧ t ≤ r.val / 16) := by omega
    have n2 : ¬ (j.val / 16 = t ∧ r.val / 16 ≤ t) := by omega
    rw [if_neg n1, if_neg n2, if_neg (by omega : ¬ j.val / 16 < t), if_neg (by omega : ¬ j.val / 16 < t + 1), add_zero, add_zero]

/-- The chunk's own table. -/
theorem mt {G : Grp} {x0 : Vec Ideal S1x256x4 .f32} {x1 : Vec Ideal S1x8x256 .f32} {x2 : Vec Ideal S1x256x128 .f32}
    {x3 : Vec Ideal S1x16x256 .f32} {x4 : Vec Ideal S128x256 .f32} (hB : Blocks G x0 x1 x2 x3 x4) (r j : Fin 256) :
    out0_5 x0 x1 x2 x3 x4 (ix3 (0 : Fin 1) r j) = ((mtv G r j : ℝ) : EReal) := by
  rw [out_fold, fold]
  have kf := ktf hB
  have kb := ktb hB
  generalize k0_pay89 x0 x1 x2 x3 x4 = f at kf
  generalize k0_pay90 x0 x1 x2 x3 x4 = b at kb
  have hr := r.isLt
  have hj := j.isLt
  have gf : ∀ t, t < 16 → t ≤ r.val / 16 → rot (BitVec.ofNat 32 (16 * t)) f (ix2 r j) = ((G.K 0 (r.val / 16 - t) (ch r) (ch j) : ℝ) : EReal) := by
    intro t ht h
    rw [rot_apply _ (by omega), kf]
    have e1 : (r.val + 256 - 16 * t) % 256 / 16 = r.val / 16 - t := by omega
    have e2 : ch (⟨(r.val + 256 - 16 * t) % 256, by omega⟩ : Fin 256) = ch r := Fin.ext (by simp only [ch]; omega)
    rw [e1, e2]
  have gb : ∀ t, t < 15 → r.val / 16 ≤ t → rot (BitVec.ofNat 32 (16 * (t + 1))) b (ix2 r j) = ((G.K 1 (t - r.val / 16) (ch r) (ch j) : ℝ) : EReal) := by
    intro t ht h
    rw [rot_apply _ (by omega), kb]
    have e1 : 15 - (r.val + 256 - 16 * (t + 1)) % 256 / 16 = t - r.val / 16 := by omega
    have e2 : ch (⟨(r.val + 256 - 16 * (t + 1)) % 256, by omega⟩ : Fin 256) = ch r := Fin.ext (by simp only [ch]; omega)
    rw [e1, e2]
  have g : ∀ t a, t < 15 → a (ix2 r j) = (((if j.val / 16 < t then mtv G r j else 0 : ℝ)) : EReal) →
      both k0_pay2 k0_pay3 f b t a (ix2 r j) = (((if j.val / 16 < t + 1 then mtv G r j else 0 : ℝ)) : EReal) :=
    fun t a ht ha => grow (by omega) (gf t (by omega)) (gb t ht) ha
  have g0 : bw k0_pay2 k0_pay3 0 (rot 16#32 b) (fw k0_pay2 k0_pay3 0 f (broadcast S256x256 (Scalar.ofBits .f32 0x00000000#32))) (ix2 r j)
      = (((if j.val / 16 < 0 + 1 then mtv G r j else 0 : ℝ)) : EReal) := by
    refine grow (by omega) (fun _ => ?_) (gb 0 (by omega)) ?_
    · rw [kf]; rfl
    · pointwise
      simp
  have := grow (G := G) (t := 15) (by omega) (gf 15 (by omega)) (b := b) (fun _ => kb r j) (g 14 _ (by omega) (g 13 _ (by omega) (g 12 _ (by omega)
    (g 11 _ (by omega) (g 10 _ (by omega) (g 9 _ (by omega) (g 8 _ (by omega) (g 7 _ (by omega) (g 6 _ (by omega) (g 5 _ (by omega)
    (g 4 _ (by omega) (g 3 _ (by omega) (g 2 _ (by omega) (g 1 _ (by omega) g0))))))))))))))
  rw [if_pos (by omega)] at this
  exact this

end Cert.KernelIdeal.Ops
-- ==== Proof.Scan.lean ====
module

public import proofs.«01_k».proof.Defs
public import proofs.«01_k».proof.Proof.Gen.KernelIdeal.Frame
public import Idealize.ShloMosaic.Lib.Pipeline.ValueKit
public import Idealize.ShloMosaic.Lib.Pointwise
public import Mathlib.Analysis.Complex.Basic

/-! # The scan over the chunks: the kernel's doubling steps as sums of powers -/

@[expose] public section

set_option maxRecDepth 16384

noncomputable section

namespace Cert.KernelIdeal.Scan

open Idealize.ShloMosaic Idealize.ShloMosaic.TcCoe Idealize.SL.Sem
open Cert.KernelIdeal.Gen

/-- The mask of the forward steps: a chunk with at least `d` chunks of its sequence before it. -/
def maskGe (d : BitVec 32) : IVec S1x1024 1 := cmpi .sge k1_pay9 (broadcast S1x1024 d)

/-- The mask of the backward steps: a chunk whose place in its sequence lies below `d`. -/
def maskLt (d : BitVec 32) : IVec S1x1024 1 := cmpi .slt k1_pay9 (broadcast S1x1024 d)

/-- A vector turned along its lanes, zero outside the mask. -/
def sh (k : IVec S1x1024 1) (r : BitVec 32) (x : FVec Ideal S64x1024 .f32) : FVec Ideal S64x1024 .f32 :=
  select (broadcastTo S64x1024 (shapeCast S1x1024 k shapeCasts_S1x1024_S1x1024) broadcasts_S1x1024_S64x1024)
    (dynamicRotate 1 r none x rotates_S64x1024_d1) (broadcast S64x1024 (Scalar.ofBits .f32 0x00000000#32))

/-- The real half of a step. -/
def stRe (a b : FVec Ideal S64x1 .f32) (x sx sy : FVec Ideal S64x1024 .f32) : FVec Ideal S64x1024 .f32 :=
  subf (addf x (mulf (broadcastTo S64x1024 a broadcasts_S64x1_S64x1024) sx))
    (mulf (broadcastTo S64x1024 b broadcasts_S64x1_S64x1024) sy)

/-- The imaginary half of a step. -/
def stIm (a b : FVec Ideal S64x1 .f32) (y sx sy : FVec Ideal S64x1024 .f32) : FVec Ideal S64x1024 .f32 :=
  addf (addf y (mulf (broadcastTo S64x1024 a broadcasts_S64x1_S64x1024) sy))
    (mulf (broadcastTo S64x1024 b broadcasts_S64x1_S64x1024) sx)

/-- Two vectors hold the real and imaginary parts of `z`, by state and chunk. -/
def RepC (x y : FVec Ideal S64x1024 .f32) (z : Fin 64 → ℕ → ℂ) : Prop :=
  ∀ (p : Fin 64) (n : Fin 1024), x (ix2 p n) = (((z p n).re : ℝ) : EReal) ∧ y (ix2 p n) = (((z p n).im : ℝ) : EReal)

/-- Two columns hold the real and imaginary parts of `w`, by state. -/
def RepA (a b : FVec Ideal S64x1 .f32) (w : Fin 64 → ℂ) : Prop :=
  ∀ p : Fin 64, a (ix2 p (0 : Fin 1)) = (((w p).re : ℝ) : EReal) ∧ b (ix2 p (0 : Fin 1)) = (((w p).im : ℝ) : EReal)

/-- A chunk's place in its sequence of 128. -/
theorem pos_apply : ∀ n : Fin 1024, k1_pay9 (ix2 (0 : Fin 1) n) = BitVec.ofNat 32 (n.val % 128) := by
  decide +kernel

/-- The forward mask, chunk by chunk. -/
theorem maskGe_apply (d : ℕ) (hd : d ≤ 128) (n : Fin 1024) :
    maskGe (BitVec.ofNat 32 d) (ix2 (0 : Fin 1) n) = if d ≤ n.val % 128 then 1#1 else 0#1 := by
  simp only [maskGe, cmpi, pos_apply, broadcast]
  exact (by decide +kernel : ∀ (d : Fin 129) (q : Fin 128), IntOp.cmpi CmpIPredicate.sge (BitVec.ofNat 32 q.val)
    (BitVec.ofNat 32 d.val) = if d.val ≤ q.val then 1#1 else 0#1) ⟨d, by omega⟩ ⟨n.val % 128, Nat.mod_lt _ (by decide)⟩

/-- The backward mask, chunk by chunk. -/
theorem maskLt_apply (d : ℕ) (hd : d ≤ 128) (n : Fin 1024) :
    maskLt (BitVec.ofNat 32 d) (ix2 (0 : Fin 1) n) = if n.val % 128 < d then 1#1 else 0#1 := by
  simp only [maskLt, cmpi, pos_apply, broadcast]
  exact (by decide +kernel : ∀ (d : Fin 129) (q : Fin 128), IntOp.cmpi CmpIPredicate.slt (BitVec.ofNat 32 q.val)
    (BitVec.ofNat 32 d.val) = if q.val < d.val then 1#1 else 0#1) ⟨d, by omega⟩ ⟨n.val % 128, Nat.mod_lt _ (by decide)⟩

/-- A turned and masked vector at a state and a chunk. -/
theorem sh_apply (k : IVec S1x1024 1) (r : BitVec 32) (x : FVec Ideal S64x1024 .f32) (p : Fin 64) (n : Fin 1024) :
    sh k r x (ix2 p n) = if k (ix2 (0 : Fin 1) n) = 1#1 then
      x (ix2 p ⟨(n.val + 1024 - r.toNat % 1024) % 1024, Nat.mod_lt _ (by decide)⟩) else 0 := by
  unfold sh
  pointwise
  rfl

/-- The forward shift by `d` chunks. -/
theorem shF (d : ℕ) (hd : d ≤ 128) {x y : FVec Ideal S64x1024 .f32} {z : Fin 64 → ℕ → ℂ} (h : RepC x y z) :
    RepC (sh (maskGe (BitVec.ofNat 32 d)) (BitVec.ofNat 32 d) x) (sh (maskGe (BitVec.ofNat 32 d)) (BitVec.ofNat 32 d) y)
      (fun p n => if d ≤ n % 128 then z p (n - d) else 0) := by
  intro p n
  have hr : (BitVec.ofNat 32 d).toNat % 1024 = d := by simp only [BitVec.toNat_ofNat]; omega
  simp only [sh_apply, maskGe_apply d hd, hr]
  have hn : n.val < 1024 := n.isLt
  by_cases hc : d ≤ n.val % 128
  · have e : (n.val + 1024 - d) % 1024 = n.val - d := by omega
    simp only [hc, if_true, e]
    exact h p ⟨n.val - d, by omega⟩
  · simp [hc]

/-- The backward shift by `d` chunks. -/
theorem shB (d : ℕ) (hd : d ≤ 128) (h0 : 0 < d) {x y : FVec Ideal S64x1024 .f32} {z : Fin 64 → ℕ → ℂ} (h : RepC x y z) :
    RepC (sh (maskLt (BitVec.ofNat 32 (128 - d))) (BitVec.ofNat 32 (1024 - d)) x)
      (sh (maskLt (BitVec.ofNat 32 (128 - d))) (BitVec.ofNat 32 (1024 - d)) y)
      (fun p n => if n % 128 + d < 128 then z p (n + d) else 0) := by
  intro p n
  have hr : (BitVec.ofNat 32 (1024 - d)).toNat % 1024 = 1024 - d := by simp only [BitVec.toNat_ofNat]; omega
  simp only [sh_apply, maskLt_apply (128 - d) (by omega), hr]
  have hn : n.val < 1024 := n.isLt
  by_cases hc : n.val % 128 + d < 128
  · have e : (n.val + 1024 - (1024 - d)) % 1024 = n.val + d := by omega
    have hc' : n.val % 128 < 128 - d := by omega
    simp only [hc, hc', if_true, e]
    exact h p ⟨n.val + d, by omega⟩
  · have hc' : ¬ n.val % 128 < 128 - d := by omega
    simp [hc, hc']

/-- A step: the state plus its shifted self times the decay. -/
theorem step {a b : FVec Ideal S64x1 .f32} {x y sx sy : FVec Ideal S64x1024 .f32} {w : Fin 64 → ℂ} {z s : Fin 64 → ℕ → ℂ}
    (h : RepC x y z) (hs : RepC sx sy s) (ha : RepA a b w) :
    RepC (stRe a b x sx sy) (stIm a b y sx sy) (fun p n => z p n + w p * s p n) := by
  intro p n
  unfold stRe stIm
  pointwise
  simp only [(h p n).1, (h p n).2, (hs p n).1, (hs p n).2, (ha p).1, (ha p).2]
  norm_cast
  simp only [Complex.add_re, Complex.mul_re, Complex.add_im, Complex.mul_im]
  exact ⟨by ring, by ring⟩

/-- The forward sum of `2^k` chunks' parts. -/
def accF (W : Fin 64 → ℂ) (Z : Fin 64 → ℕ → ℂ) (k : ℕ) (p : Fin 64) (n : ℕ) : ℂ :=
  ∑ j ∈ Finset.range (2 ^ k), if j ≤ n % 128 then W p ^ j * Z p (n - j) else 0

/-- The backward sum of `2^k` chunks' parts. -/
def accB (W : Fin 64 → ℂ) (Z : Fin 64 → ℕ → ℂ) (k : ℕ) (p : Fin 64) (n : ℕ) : ℂ :=
  ∑ j ∈ Finset.range (2 ^ k), if n % 128 + j < 128 then W p ^ j * Z p (n + j) else 0

/-- One chunk's forward sum is its own part. -/
theorem accF_zero (W : Fin 64 → ℂ) (Z : Fin 64 → ℕ → ℂ) (p : Fin 64) (n : ℕ) : accF W Z 0 p n = Z p n := by simp [accF]

/-- One chunk's backward sum is its own part. -/
theorem accB_zero (W : Fin 64 → ℂ) (Z : Fin 64 → ℕ → ℂ) (p : Fin 64) (n : ℕ) : accB W Z 0 p n = Z p n := by
  have := Nat.mod_lt n (by decide : 128 > 0)
  simp [accB, this]

/-- Doubling the forward sum. -/
theorem accF_succ (W : Fin 64 → ℂ) (Z : Fin 64 → ℕ → ℂ) (k : ℕ) (p : Fin 64) (n : ℕ) :
    accF W Z (k + 1) p n = accF W Z k p n + W p ^ 2 ^ k * (if 2 ^ k ≤ n % 128 then accF W Z k p (n - 2 ^ k) else 0) := by
  unfold accF
  rw [pow_succ, mul_two, Finset.sum_range_add]
  generalize 2 ^ k = d
  congr 1
  by_cases hc : d ≤ n % 128
  · rw [if_pos hc, Finset.mul_sum]
    refine Finset.sum_congr rfl fun j _ => ?_
    have e : (n - d) % 128 = n % 128 - d := by omega
    rw [e]
    by_cases hj : d + j ≤ n % 128
    · rw [if_pos hj, if_pos (by omega), pow_add, Nat.sub_sub, mul_assoc]
    · rw [if_neg hj, if_neg (by omega), mul_zero]
  · rw [if_neg hc, mul_zero]
    exact Finset.sum_eq_zero fun j _ => if_neg (by omega)

/-- Doubling the backward sum. -/
theorem accB_succ (W : Fin 64 → ℂ) (Z : Fin 64 → ℕ → ℂ) (k : ℕ) (p : Fin 64) (n : ℕ) :
    accB W Z (k + 1) p n = accB W Z k p n + W p ^ 2 ^ k * (if n % 128 + 2 ^ k < 128 then accB W Z k p (n + 2 ^ k) else 0) := by
  unfold accB
  rw [pow_succ, mul_two, Finset.sum_range_add]
  generalize 2 ^ k = d
  congr 1
  by_cases hc : n % 128 + d < 128
  · rw [if_pos hc, Finset.mul_sum]
    refine Finset.sum_congr rfl fun j _ => ?_
    have e : (n + d) % 128 = n % 128 + d := by omega
    rw [e]
    by_cases hj : n % 128 + (d + j) < 128
    · rw [if_pos hj, if_pos (by omega), pow_add, ← add_assoc n, mul_assoc]
    · rw [if_neg hj, if_neg (by omega), mul_zero]
  · rw [if_neg hc, mul_zero]
    exact Finset.sum_eq_zero fun j _ => if_neg (by omega)

/-- A forward doubling step. -/
theorem stepF (k d : ℕ) (hk : d = 2 ^ k) (hd : d ≤ 128) {a b : FVec Ideal S64x1 .f32} {x y : FVec Ideal S64x1024 .f32} {W : Fin 64 → ℂ}
    {Z : Fin 64 → ℕ → ℂ} (ha : RepA a b fun p => W p ^ 2 ^ k) (h : RepC x y (accF W Z k)) :
    RepC (stRe a b x (sh (maskGe (BitVec.ofNat 32 d)) (BitVec.ofNat 32 d) x) (sh (maskGe (BitVec.ofNat 32 d)) (BitVec.ofNat 32 d) y))
      (stIm a b y (sh (maskGe (BitVec.ofNat 32 d)) (BitVec.ofNat 32 d) x) (sh (maskGe (BitVec.ofNat 32 d)) (BitVec.ofNat 32 d) y))
      (accF W Z (k + 1)) := by
  intro p n
  rw [accF_succ, ← hk]
  have := step h (shF d hd h) ha p n
  simpa only [← hk] using this

/-- A backward doubling step. -/
theorem stepB (k d m r : ℕ) (hk : d = 2 ^ k) (hd : d ≤ 128) (hm : m = 128 - d) (hr : r = 1024 - d) {a b : FVec Ideal S64x1 .f32}
    {x y : FVec Ideal S64x1024 .f32} {W : Fin 64 → ℂ} {Z : Fin 64 → ℕ → ℂ} (ha : RepA a b fun p => W p ^ 2 ^ k) (h : RepC x y (accB W Z k)) :
    RepC (stRe a b x (sh (maskLt (BitVec.ofNat 32 m)) (BitVec.ofNat 32 r) x) (sh (maskLt (BitVec.ofNat 32 m)) (BitVec.ofNat 32 r) y))
      (stIm a b y (sh (maskLt (BitVec.ofNat 32 m)) (BitVec.ofNat 32 r) x) (sh (maskLt (BitVec.ofNat 32 m)) (BitVec.ofNat 32 r) y))
      (accB W Z (k + 1)) := by
  intro p n
  subst hm hr
  rw [accB_succ, ← hk]
  have := step h (shB d hd (by rw [hk]; positivity) h) ha p n
  simpa only [← hk] using this

/-- A column of the parameters at a state. -/
theorem col_apply (o : ℕ) (h : S256x128.Slices ![0, o] S64x1) (ho : o < 128) (x4 : Vec Ideal S1x256x128 .f32) (p : Fin 64) :
    extractStridedSlice S64x1 ![0, o] (k1_pay10 (View.ld x4 r1_2)) h (ix2 p (0 : Fin 1))
      = x4 (ix3 (0 : Fin 1) ⟨p.val, by omega⟩ ⟨o, ho⟩) := by
  pointwise [k1_pay10]

section Steps
variable (x0 : Vec Ideal S1x256x1024 .f32) (x1 x2 x3 : Vec Ideal S1x256x256 .bf16) (x4 : Vec Ideal S1x256x128 .f32)

/-- The decays of the steps, the forward ones in columns 0 and 8, the backward ones in columns 16 and 24. -/
def RepW (x4 : Vec Ideal S1x256x128 .f32) (o : ℕ) (W : Fin 64 → ℂ) : Prop :=
  ∀ (k : ℕ) (hk : k < 8) (ho : o + 8 < 120) (p : Fin 64),
    x4 (ix3 (0 : Fin 1) ⟨p.val, by omega⟩ ⟨o + k, by omega⟩) = (((W p ^ 2 ^ k).re : ℝ) : EReal) ∧
    x4 (ix3 (0 : Fin 1) ⟨p.val, by omega⟩ ⟨o + 8 + k, by omega⟩) = (((W p ^ 2 ^ k).im : ℝ) : EReal)

/-- The columns of step `k`. -/
theorem col (o k a b : ℕ) (hk : k < 7) (ho : o + 8 < 120) (ha : a = o + k) (hb : b = o + 8 + k) {W : Fin 64 → ℂ} (h : RepW x4 o W)
    (h1 : S256x128.Slices ![0, a] S64x1) (h2 : S256x128.Slices ![0, b] S64x1) :
    RepA (extractStridedSlice S64x1 ![0, a] (k1_pay10 (View.ld x4 r1_2)) h1)
      (extractStridedSlice S64x1 ![0, b] (k1_pay10 (View.ld x4 r1_2)) h2) fun p => W p ^ 2 ^ k := by
  subst ha hb
  intro p
  rw [col_apply _ _ (by omega), col_apply _ _ (by omega)]
  exact h k (by omega) ho p

variable (Wf Wb : Fin 64 → ℂ) (Zf Zb : Fin 64 → ℕ → ℂ)

/-- The forward state after all seven steps. -/
theorem fwd (hW : RepW x4 0 Wf) (hZ : RepC (k1_pay117 x0 x1 x2 x3 x4) (k1_pay118 x0 x1 x2 x3 x4) Zf) :
    RepC (k1_pay181 x0 x1 x2 x3 x4) (k1_pay182 x0 x1 x2 x3 x4) (accF Wf Zf 7) := by
  have s0 : RepC (k1_pay117 x0 x1 x2 x3 x4) (k1_pay118 x0 x1 x2 x3 x4) (accF Wf Zf 0) := fun p n => by
    rw [accF_zero]; exact hZ p n
  have s1 : RepC (k1_pay129 x0 x1 x2 x3 x4) (k1_pay130 x0 x1 x2 x3 x4) (accF Wf Zf 1) :=
    stepF 0 1 (by decide) (by decide) (col x4 0 0 0 8 (by decide) (by decide) rfl rfl hW (by decide) (by decide)) s0
  have s2 : RepC (k1_pay34 (k1_pay129 x0 x1 x2 x3 x4) (k1_pay130 x0 x1 x2 x3 x4) (k1_pay133 x0 x1 x2 x3 x4) (k1_pay134 x0 x1 x2 x3 x4) (k1_pay137 x0 x1 x2 x3 x4) (k1_pay138 x0 x1 x2 x3 x4) (Scalar.ofBits .f32 0x00000000#32) (k1_pay139 x0 x1 x2 x3 x4)) (k1_pay140 x0 x1 x2 x3 x4) (accF Wf Zf 2) :=
    stepF 1 2 (by decide) (by decide) (col x4 0 1 1 9 (by decide) (by decide) rfl rfl hW (by decide) (by decide)) s1
  have s3 : RepC (k1_pay149 x0 x1 x2 x3 x4) (k1_pay150 x0 x1 x2 x3 x4) (accF Wf Zf 3) :=
    stepF 2 4 (by decide) (by decide) (col x4 0 2 2 10 (by decide) (by decide) rfl rfl hW (by decide) (by decide)) s2
  have s4 : RepC (k1_pay158 x0 x1 x2 x3 x4) (k1_pay159 x0 x1 x2 x3 x4) (accF Wf Zf 4) :=
    stepF 3 8 (by decide) (by decide) (col x4 0 3 3 11 (by decide) (by decide) rfl rfl hW (by decide) (by decide)) s3
  have s5 : RepC (k1_pay167 x0 x1 x2 x3 x4) (k1_pay168 x0 x1 x2 x3 x4) (accF Wf Zf 5) :=
    stepF 4 16 (by decide) (by decide) (col x4 0 4 4 12 (by decide) (by decide) rfl rfl hW (by decide) (by decide)) s4
  have s6 : RepC (k1_pay175 x0 x1 x2 x3 x4) (k1_pay176 x0 x1 x2 x3 x4) (accF Wf Zf 6) :=
    stepF 5 32 (by decide) (by decide) (col x4 0 5 5 13 (by decide) (by decide) rfl rfl hW (by decide) (by decide)) s5
  exact stepF 6 64 (by decide) (by decide) (col x4 0 6 6 14 (by decide) (by decide) rfl rfl hW (by decide) (by decide)) s6

/-- The backward state after all seven steps. -/
theorem bwd (hW : RepW x4 16 Wb) (hZ : RepC (k1_pay119 x0 x1 x2 x3 x4) (k1_pay120 x0 x1 x2 x3 x4) Zb) :
    RepC (k1_pay183 x0 x1 x2 x3 x4) (k1_pay184 x0 x1 x2 x3 x4) (accB Wb Zb 7) := by
  have s0 : RepC (k1_pay119 x0 x1 x2 x3 x4) (k1_pay120 x0 x1 x2 x3 x4) (accB Wb Zb 0) := fun p n => by
    rw [accB_zero]; exact hZ p n
  have s1 : RepC (k1_pay131 x0 x1 x2 x3 x4) (k1_pay132 x0 x1 x2 x3 x4) (accB Wb Zb 1) :=
    stepB 0 1 127 1023 (by decide) (by decide) rfl rfl (col x4 16 0 16 24 (by decide) (by decide) rfl rfl hW (by decide) (by decide)) s0
  have s2 : RepC (k1_pay141 x0 x1 x2 x3 x4) (k1_pay142 x0 x1 x2 x3 x4) (accB Wb Zb 2) :=
    stepB 1 2 126 1022 (by decide) (by decide) rfl rfl (col x4 16 1 17 25 (by decide) (by decide) rfl rfl hW (by decide) (by decide)) s1
  have s3 : RepC (k1_pay151 x0 x1 x2 x3 x4) (k1_pay152 x0 x1 x2 x3 x4) (accB Wb Zb 3) :=
    stepB 2 4 124 1020 (by decide) (by decide) rfl rfl (col x4 16 2 18 26 (by decide) (by decide) rfl rfl hW (by decide) (by decide)) s2
  have s4 : RepC (k1_pay160 x0 x1 x2 x3 x4) (k1_pay161 x0 x1 x2 x3 x4) (accB Wb Zb 4) :=
    stepB 3 8 120 1016 (by decide) (by decide) rfl rfl (col x4 16 3 19 27 (by decide) (by decide) rfl rfl hW (by decide) (by decide)) s3
  have s5 : RepC (k1_pay169 x0 x1 x2 x3 x4) (k1_pay170 x0 x1 x2 x3 x4) (accB Wb Zb 5) :=
    stepB 4 16 112 1008 (by decide) (by decide) rfl rfl (col x4 16 4 20 28 (by decide) (by decide) rfl rfl hW (by decide) (by decide)) s4
  have s6 : RepC (k1_pay177 x0 x1 x2 x3 x4) (k1_pay178 x0 x1 x2 x3 x4) (accB Wb Zb 6) :=
    stepB 5 32 96 992 (by decide) (by decide) rfl rfl (col x4 16 5 21 29 (by decide) (by decide) rfl rfl hW (by decide) (by decide)) s5
  exact stepB 6 64 64 960 (by decide) (by decide) rfl rfl (col x4 16 6 22 30 (by decide) (by decide) rfl rfl hW (by decide) (by decide)) s6

end Steps

end Cert.KernelIdeal.Scan
-- ==== Proof.Comb.lean ====
module

public import proofs.«01_k».proof.Proof.Scan
public import proofs.«01_k».proof.Proof.OpsT

/-! # The kernel's chunked form of the layer and the recurrence, over the complex numbers -/

@[expose] public section

set_option maxRecDepth 16384

noncomputable section

namespace Cert.KernelIdeal.Comb

open Idealize.ShloMosaic Idealize.ShloMosaic.TcCoe Idealize.SL.Sem
open Cert.Model Cert.KernelIdeal.Ops Cert.KernelIdeal.Scan

/-- A sum over a block's rows, by place and channel. -/
theorem sum256 {M : Type} [AddCommMonoid M] (f : ℕ → Fin 16 → M) :
    ∑ j : Fin 256, f (j.val / 16) (ch j) = ∑ s ∈ Finset.range 16, ∑ c : Fin 16, f s c := by
  rw [← Fin.sum_univ_eq_sum_range (fun s => ∑ c : Fin 16, f s c), ← Fintype.sum_prod_type']
  refine Fintype.sum_equiv (finProdFinEquiv (m := 16) (n := 16)).symm _ _ fun j => ?_
  refine congrArg₂ f ?_ ?_
  · rfl
  · exact Fin.ext rfl

/-- A part of a sum. -/
theorem part_sum {ι : Type} (s : Finset ι) (k : Fin 256) (f : ι → ℂ) : part k (∑ i ∈ s, f i) = ∑ i ∈ s, part k (f i) := by
  unfold part
  split_ifs
  · exact Complex.re_sum s f
  · exact Complex.im_sum s f

/-- A part of a real multiple. -/
theorem part_real (k : Fin 256) (z : ℂ) (x : ℝ) : part k (z * (x : ℂ)) = part k z * x := by
  unfold part
  split_ifs
  · simp
  · simp

/-- The chunks' parts of a state: what the kernel's second table gives. -/
def Z (G : Grp) (e : Fin 2) (p : Fin 64) (n : ℕ) : ℂ :=
  if e = 0 then zF (G.A e p) (G.bu e p) n else zB (G.A e p) (G.bu e p) n

/-- A row of the second table against a chunk of the input: the chunk's part of the state. -/
theorem bct_sum (G : Grp) (k : Fin 256) (n : ℕ) :
    ∑ r : Fin 256, part k (G.A (dir k) (st k) ^ ex k r * G.B (dir k) (st k) (ch r)) * G.u (16 * n + r.val / 16) (ch r)
      = part k (Z G (dir k) (st k) n) := by
  have hk := k.isLt
  by_cases h : k.val < 128
  · have hd : dir k = 0 := Fin.ext (by simp only [dir]; show k.val / 128 = 0; omega)
    rw [hd, Z, if_pos rfl, zF, part_sum]
    simp only [ex, h, if_true]
    rw [sum256 (fun s c => part k (G.A 0 (st k) ^ (15 - s) * G.B 0 (st k) c) * G.u (16 * n + s) c)]
    refine Finset.sum_congr rfl fun s _ => ?_
    rw [Grp.bu, Finset.mul_sum, part_sum]
    exact Finset.sum_congr rfl fun c _ => by rw [← mul_assoc, part_real]
  · have hd : dir k = 1 := Fin.ext (by simp only [dir]; show k.val / 128 = 1; omega)
    rw [hd, Z, if_neg (by decide), zB, part_sum]
    simp only [ex, h, if_false]
    rw [sum256 (fun s c => part k (G.A 1 (st k) ^ s * G.B 1 (st k) c) * G.u (16 * n + s) c)]
    refine Finset.sum_congr rfl fun s _ => ?_
    rw [Grp.bu, Finset.mul_sum, part_sum]
    exact Finset.sum_congr rfl fun c _ => by rw [← mul_assoc, part_real]

/-- The output of a lag, through the states and through the responses. -/
theorem k_bu (G : Grp) (e : Fin 2) (o : Fin 16) (m i : ℕ) :
    ∑ p, (G.C e o p * (G.A e p ^ m * G.bu e p i)).re = ∑ c, G.K e m o c * G.u i c := by
  simp only [Grp.bu, Grp.K, Finset.mul_sum, Finset.sum_mul, Complex.re_sum]
  rw [Finset.sum_comm]
  refine Finset.sum_congr rfl fun c _ => Finset.sum_congr rfl fun p _ => ?_
  rw [← mul_assoc, ← mul_assoc, Complex.re_mul_ofReal]

/-- What the chunks outside carry into a chunk. -/
def S (G : Grp) (e : Fin 2) (p : Fin 64) (n : ℕ) : ℂ :=
  if e = 0 then (if 1 ≤ n % 128 then accF (fun p => G.A 0 p ^ 16) (Z G 0) 7 p (n - 1) else 0)
  else (if n % 128 + 1 < 128 then accB (fun p => G.A 1 p ^ 16) (Z G 1) 7 p (n + 1) else 0)

/-- The forward outputs: the carried state and the chunk's own responses. -/
theorem fwd_out (G : Grp) (n t : ℕ) (ht : t < 16) (o : Fin 16) :
    ∑ p, (G.C 0 o p * run (G.A 0 p) (fun k => G.bu 0 p (2048 * (n / 128) + k)) (16 * (n % 128) + t + 1)).re
      = ∑ p, (G.C 0 o p * G.A 0 p ^ (t + 1) * S G 0 p n).re
        + ∑ s ∈ Finset.range 16, ∑ c, (if s ≤ t then G.K 0 (t - s) o c else 0) * G.u (16 * n + s) c := by
  have hs : ∀ p, S G 0 p n = if 1 ≤ n % 128 then ∑ j ∈ Finset.range 128, (if j ≤ (n - 1) % 128 then
      (G.A 0 p ^ 16) ^ j * zF (G.A 0 p) (G.bu 0 p) (n - 1 - j) else 0) else 0 := fun p => rfl
  have he : ∑ s ∈ Finset.range 16, ∑ c, (if s ≤ t then G.K 0 (t - s) o c else 0) * G.u (16 * n + s) c
      = ∑ s ∈ Finset.range (t + 1), ∑ c, G.K 0 (t - s) o c * G.u (16 * n + s) c := by
    rw [← Finset.sum_subset (Finset.range_mono (by omega : t + 1 ≤ 16))]
    · refine Finset.sum_congr rfl fun s h => ?_
      have := Finset.mem_range.1 h
      simp only [if_pos (by omega : s ≤ t)]
    · intro s _ h
      have h2 : ¬ s < t + 1 := fun h' => h (Finset.mem_range.2 h')
      simp only [if_neg (by omega : ¬ s ≤ t), zero_mul, Finset.sum_const_zero]
  rw [he, ← Finset.sum_congr rfl (fun s _ => k_bu G 0 o (t - s) (16 * n + s)), Finset.sum_comm, ← Finset.sum_add_distrib]
  refine Finset.sum_congr rfl fun p _ => ?_
  rw [run_fwd _ _ _ _ ht, ← hs, mul_add, Complex.add_re, Finset.mul_sum, Complex.re_sum, mul_assoc]

/-- The backward outputs: the carried state and the chunk's own responses. -/
theorem bwd_out (G : Grp) (n t : ℕ) (ht : t < 16) (o : Fin 16) :
    ∑ p, (G.C 1 o p * run (G.A 1 p) (fun k => G.bu 1 p (2048 * (n / 128) + (2047 - k))) (2048 - (16 * (n % 128) + t))).re
      = ∑ p, (G.C 1 o p * G.A 1 p ^ (16 - t) * S G 1 p n).re
        + ∑ s ∈ Finset.range 16, ∑ c, (if t ≤ s then G.K 1 (s - t) o c else 0) * G.u (16 * n + s) c := by
  have hs : ∀ p, S G 1 p n = if n % 128 + 1 < 128 then ∑ j ∈ Finset.range 128, (if (n + 1) % 128 + j < 128 then
      (G.A 1 p ^ 16) ^ j * zB (G.A 1 p) (G.bu 1 p) (n + 1 + j) else 0) else 0 := fun p => rfl
  have he : ∑ s ∈ Finset.range 16, ∑ c, (if t ≤ s then G.K 1 (s - t) o c else 0) * G.u (16 * n + s) c
      = ∑ s ∈ Finset.range 16, ∑ p, (G.C 1 o p * (if t ≤ s then G.A 1 p ^ (s - t) * G.bu 1 p (16 * n + s) else 0)).re := by
    refine Finset.sum_congr rfl fun s _ => ?_
    by_cases h : t ≤ s
    · simp only [if_pos h]
      exact (k_bu G 1 o (s - t) (16 * n + s)).symm
    · simp [if_neg h]
  rw [he, Finset.sum_comm, ← Finset.sum_add_distrib]
  refine Finset.sum_congr rfl fun p _ => ?_
  rw [run_bwd _ _ _ _ ht, ← hs, mul_add, Complex.add_re, Finset.mul_sum, Complex.re_sum, mul_assoc]

/-- The third table against the carried states: both directions' outputs. -/
theorem cct_sum (G : Grp) (r : Fin 256) (n : ℕ) :
    ∑ k : Fin 256, cpart k (G.C (dir k) (ch r) (st k) * G.A (dir k) (st k) ^ ec r k) * part k (S G (dir k) (st k) n)
      = ∑ p, (G.C 0 (ch r) p * G.A 0 p ^ (r.val / 16 + 1) * S G 0 p n).re
        + ∑ p, (G.C 1 (ch r) p * G.A 1 p ^ (16 - r.val / 16) * S G 1 p n).re := by
  rw [Fin.sum_univ_add (a := 128) (b := 128)]
  congr 1
  · refine Eq.trans (Finset.sum_congr rfl fun k _ => ?_) (pairs (fun k => Fin.castAdd 128 k) (fun k => rfl)
      (fun k => by have := k.isLt; show k.val / 64 % 2 = k.val / 64; omega)
      (fun p => G.C 0 (ch r) p * G.A 0 p ^ (r.val / 16 + 1)) (fun p => S G 0 p n))
    have hk := k.isLt
    have hd : dir (Fin.castAdd 128 k) = 0 := Fin.ext (by show k.val / 128 = 0; omega)
    have hv : (Fin.castAdd 128 k).val < 128 := hk
    rw [hd, ec, if_pos hv]
  · refine Eq.trans (Finset.sum_congr rfl fun k _ => ?_) (pairs (fun k => Fin.natAdd 128 k)
      (fun k => by have := k.isLt; show (128 + k.val) % 64 = k.val % 64; omega)
      (fun k => by have := k.isLt; show (128 + k.val) / 64 % 2 = k.val / 64; omega)
      (fun p => G.C 1 (ch r) p * G.A 1 p ^ (16 - r.val / 16)) (fun p => S G 1 p n))
    have hk := k.isLt
    have hd : dir (Fin.natAdd 128 k) = 1 := Fin.ext (by show (128 + k.val) / 128 = 1; omega)
    have hv : ¬ (Fin.natAdd 128 k).val < 128 := by show ¬ (128 + k.val < 128); omega
    rw [hd, ec, if_neg hv]

/-- The kernel's two sums make what the states give. -/
theorem total (G : Grp) (r : Fin 256) (n : ℕ) :
    ∑ j : Fin 256, mtv G r j * G.u (16 * n + j.val / 16) (ch j)
        + ∑ k : Fin 256, cpart k (G.C (dir k) (ch r) (st k) * G.A (dir k) (st k) ^ ec r k) * part k (S G (dir k) (st k) n)
      = conv G (16 * n + r.val / 16) (ch r) := by
  have hr := r.isLt
  have ht : r.val / 16 < 16 := by omega
  rw [cct_sum, conv, show (16 * n + r.val / 16) / 2048 = n / 128 by omega, show (16 * n + r.val / 16) % 2048 = 16 * (n % 128) + r.val / 16 by omega,
    fwd_out G n _ ht, bwd_out G n _ ht]
  unfold mtv
  rw [sum256 (fun s c => ((if s ≤ r.val / 16 then G.K 0 (r.val / 16 - s) (ch r) c else 0)
    + (if r.val / 16 ≤ s then G.K 1 (s - r.val / 16) (ch r) c else 0)) * G.u (16 * n + s) c)]
  simp only [add_mul, Finset.sum_add_distrib]
  ring

end Cert.KernelIdeal.Comb
-- ==== Proof.ScanOut.lean ====
module

public import proofs.«01_k».proof.Proof.Comb

/-! # The second call's output: the layer's value of a group, by row and chunk -/

@[expose] public section

set_option maxRecDepth 16384

noncomputable section

namespace Cert.KernelIdeal.ScanOut

open Idealize.ShloMosaic Idealize.ShloMosaic.TcCoe Idealize.SL.Sem
open Cert.KernelIdeal.Gen Cert.Model Cert.KernelIdeal.Ops Cert.KernelIdeal.Scan Cert.KernelIdeal.Comb

/-- The blocks the second call reads hold the group's tables and inputs. -/
structure Tabs (G : Grp) (x0 : Vec Ideal S1x256x1024 .f32) (x1 : Vec Ideal S1x256x256 .bf16) (x2 : Vec Ideal S1x256x256 .bf16)
    (x3 : Vec Ideal S1x256x256 .bf16) (x4 : Vec Ideal S1x256x128 .f32) : Prop where
  u : ∀ (r : Fin 256) (n : Fin 1024), x0 (ix3 (0 : Fin 1) r n) = ((G.u (16 * n.val + r.val / 16) (ch r) : ℝ) : EReal)
  m : ∀ r j : Fin 256, x1 (ix3 (0 : Fin 1) r j) = ((mtv G r j : ℝ) : EReal)
  b : ∀ k r : Fin 256, x2 (ix3 (0 : Fin 1) k r)
    = ((part k (G.A (dir k) (st k) ^ ex k r * G.B (dir k) (st k) (ch r)) : ℝ) : EReal)
  c : ∀ r k : Fin 256, x3 (ix3 (0 : Fin 1) r k)
    = ((cpart k (G.C (dir k) (ch r) (st k) * G.A (dir k) (st k) ^ ec r k) : ℝ) : EReal)
  p : ∀ (p : Fin 64) (j : Fin 128) (hj : j.val < 32), x4 (ix3 (0 : Fin 1) (⟨p.val, by omega⟩ : Fin 256) j)
    = (((if j.val / 8 % 2 = 0 then ((G.A ⟨j.val / 16, by omega⟩ p ^ 16) ^ 2 ^ (j.val % 8)).re
        else ((G.A ⟨j.val / 16, by omega⟩ p ^ 16) ^ 2 ^ (j.val % 8)).im : ℝ)) : EReal)
  d : ∀ r : Fin 256, x4 (ix3 (0 : Fin 1) r (32 : Fin 128)) = G.ds (ch r)

/-- A sum of real products. -/
theorem coe_dot {ι : Type} [Fintype ι] {f g : ι → EReal} {a b : ι → ℝ} (hf : ∀ i, f i = ((a i : ℝ) : EReal))
    (hg : ∀ i, g i = ((b i : ℝ) : EReal)) : ∑ i, f i * g i = ((∑ i, a i * b i : ℝ) : EReal) := by
  rw [← coe_sum]
  exact Finset.sum_congr rfl fun i _ => by rw [hf, hg, ← EReal.coe_mul]

/-- Four vectors one below the other. -/
def cat (a b c d : FVec Ideal S64x1024 .f32) : FVec Ideal S256x1024 .f32 :=
  concatenate S256x1024 0 [⟨S64x1024, a⟩, ⟨S64x1024, b⟩, ⟨S64x1024, c⟩, ⟨S64x1024, d⟩]
    concatenates_S64x1024_S64x1024_S64x1024_S64x1024_S256x1024_d0

/-- Two directions' states one below the other, read at a row: the part the row holds. -/
theorem cat_apply {a b c d : FVec Ideal S64x1024 .f32} {z w : Fin 64 → ℕ → ℂ} (h1 : RepC a b z) (h2 : RepC c d w) (k : Fin 256)
    (n : Fin 1024) : cat a b c d (ix2 k n)
      = ((part k ((if dir k = 0 then z else w) (st k) n.val) : ℝ) : EReal) := by
  unfold cat
  pointwise
  have hk := k.isLt
  by_cases c1 : k.val < 64
  · have e1 : dir k = 0 := Fin.ext (by show k.val / 128 = 0; omega)
    have e2 : k.val / 64 % 2 = 0 := by omega
    rw [dif_pos c1, if_pos e1, part, if_pos e2, (h1 _ _).1]
    rw [show st k = ⟨k.val, c1⟩ from Fin.ext (by simp only [st]; omega)]
  rw [dif_neg c1]
  by_cases c2 : k.val < 128
  · have e1 : dir k = 0 := Fin.ext (by show k.val / 128 = 0; omega)
    have e2 : ¬ k.val / 64 % 2 = 0 := by omega
    rw [dif_pos (by omega), if_pos e1, part, if_neg e2, (h1 _ _).2]
    rw [show st k = ⟨k.val - 64, by omega⟩ from Fin.ext (by simp only [st]; omega)]
  rw [dif_neg (by omega)]
  have e1 : ¬ dir k = 0 := fun h => by
    have : k.val / 128 = 0 := congrArg Fin.val h
    omega
  by_cases c3 : k.val < 192
  · have e2 : k.val / 64 % 2 = 0 := by omega
    rw [dif_pos (by omega), if_neg e1, part, if_pos e2, (h2 _ _).1]
    rw [show st k = ⟨k.val - 64 - 64, by omega⟩ from Fin.ext (by simp only [st]; omega)]
  · have e2 : ¬ k.val / 64 % 2 = 0 := by omega
    rw [dif_neg (by omega), if_neg e1, part, if_neg e2, (h2 _ _).2]
    rw [show st k = ⟨k.val - 64 - 64 - 64, by omega⟩ from Fin.ext (by simp only [st]; omega)]

variable {G : Grp} {x0 : Vec Ideal S1x256x1024 .f32} {x1 : Vec Ideal S1x256x256 .bf16} {x2 : Vec Ideal S1x256x256 .bf16}
  {x3 : Vec Ideal S1x256x256 .bf16} {x4 : Vec Ideal S1x256x128 .f32} (h : Tabs G x0 x1 x2 x3 x4)
include h

/-- The second table times the input: the chunks' parts of the states. -/
theorem pay4 (k : Fin 256) (n : Fin 1024) : k1_pay4 (View.ld x0 r1_0) (View.ld x2 r1_1) (ix2 k n)
    = ((part k (Z G (dir k) (st k) n.val) : ℝ) : EReal) := by
  rw [show View.ld x0 r1_0 = x0 from View.ld_unit_lit _ _ (by decide), show View.ld x2 r1_1 = x2 from View.ld_unit_lit _ _ (by decide)]
  pointwise [k1_pay4, k1_pay3, k1_pay2]
  rw [coe_dot (h.b k) (fun r => h.u r n), bct_sum]

/-- The forward chunks' parts. -/
theorem repF : RepC (k1_pay117 x0 x1 x2 x3 x4) (k1_pay118 x0 x1 x2 x3 x4) (Z G 0) := by
  intro p n
  have hp := p.isLt
  constructor
  · refine Eq.trans ?_ ((pay4 h (⟨p.val, by omega⟩ : Fin 256) n).trans ?_)
    · unfold k1_pay117 k1_pay5
      pointwise
    · have e1 : dir (⟨p.val, by omega⟩ : Fin 256) = 0 := Fin.ext (by show p.val / 128 = 0; omega)
      have e2 : st (⟨p.val, by omega⟩ : Fin 256) = p := Fin.ext (by show p.val % 64 = p.val; omega)
      rw [e1, e2, part, if_pos (by show p.val / 64 % 2 = 0; omega)]
  · refine Eq.trans ?_ ((pay4 h (⟨64 + p.val, by omega⟩ : Fin 256) n).trans ?_)
    · unfold k1_pay118 k1_pay6
      pointwise
    · have e1 : dir (⟨64 + p.val, by omega⟩ : Fin 256) = 0 := Fin.ext (by show (64 + p.val) / 128 = 0; omega)
      have e2 : st (⟨64 + p.val, by omega⟩ : Fin 256) = p := Fin.ext (by show (64 + p.val) % 64 = p.val; omega)
      rw [e1, e2, part, if_neg (by show ¬ (64 + p.val) / 64 % 2 = 0; omega)]

/-- The backward chunks' parts. -/
theorem repB : RepC (k1_pay119 x0 x1 x2 x3 x4) (k1_pay120 x0 x1 x2 x3 x4) (Z G 1) := by
  intro p n
  have hp := p.isLt
  constructor
  · refine Eq.trans ?_ ((pay4 h (⟨128 + p.val, by omega⟩ : Fin 256) n).trans ?_)
    · unfold k1_pay119 k1_pay7
      pointwise
    · have e1 : dir (⟨128 + p.val, by omega⟩ : Fin 256) = 1 := Fin.ext (by show (128 + p.val) / 128 = 1; omega)
      have e2 : st (⟨128 + p.val, by omega⟩ : Fin 256) = p := Fin.ext (by show (128 + p.val) % 64 = p.val; omega)
      rw [e1, e2, part, if_pos (by show (128 + p.val) / 64 % 2 = 0; omega)]
  · refine Eq.trans ?_ ((pay4 h (⟨192 + p.val, by omega⟩ : Fin 256) n).trans ?_)
    · unfold k1_pay120 k1_pay8
      pointwise
    · have e1 : dir (⟨192 + p.val, by omega⟩ : Fin 256) = 1 := Fin.ext (by show (192 + p.val) / 128 = 1; omega)
      have e2 : st (⟨192 + p.val, by omega⟩ : Fin 256) = p := Fin.ext (by show (192 + p.val) % 64 = p.val; omega)
      rw [e1, e2, part, if_neg (by show ¬ (192 + p.val) / 64 % 2 = 0; omega)]

/-- The decays of the steps. -/
theorem repW (e : Fin 2) : RepW x4 (16 * e.val) fun p => G.A e p ^ 16 := by
  intro k hk ho p
  have he := e.isLt
  constructor
  · rw [h.p p ⟨16 * e.val + k, by omega⟩ (by show 16 * e.val + k < 32; omega), if_pos (by show (16 * e.val + k) / 8 % 2 = 0; omega)]
    have e1 : (⟨(16 * e.val + k) / 16, by omega⟩ : Fin 2) = e := Fin.ext (by show (16 * e.val + k) / 16 = e.val; omega)
    have e2 : (16 * e.val + k) % 8 = k := by omega
    simp only [e1, e2]
  · rw [h.p p ⟨16 * e.val + 8 + k, by omega⟩ (by show 16 * e.val + 8 + k < 32; omega),
      if_neg (by show ¬ (16 * e.val + 8 + k) / 8 % 2 = 0; omega)]
    have e1 : (⟨(16 * e.val + 8 + k) / 16, by omega⟩ : Fin 2) = e := Fin.ext (by show (16 * e.val + 8 + k) / 16 = e.val; omega)
    have e2 : (16 * e.val + 8 + k) % 8 = k := by omega
    simp only [e1, e2]

omit h in
/-- The kernel's value before its activation, its parts named. -/
theorem pay113 (v1 : FVec Ideal S256x1024 .f32) (v2 : FVec Ideal S256x1024 .bf16) (v28 : FVec Ideal S256x128 .f32)
    (a b c d : FVec Ideal S64x1024 .f32) (r : Fin 256) (n : Fin 1024) :
    k1_pay113 v1 v2 k1_pay9 v28 a b c d x1 x3 (ix2 r n)
      = (∑ j : Fin 256, x1 (ix3 (0 : Fin 1) r j) * v2 (ix2 j n))
        + (∑ k : Fin 256, x3 (ix3 (0 : Fin 1) r k) * cat (sh (maskGe 1#32) 1#32 a) (sh (maskGe 1#32) 1#32 b)
            (sh (maskLt 127#32) 1023#32 c) (sh (maskLt 127#32) 1023#32 d) (ix2 k n))
        + v28 (ix2 r (32 : Fin 128)) * v1 (ix2 r n) := by
  have e : k1_pay113 v1 v2 k1_pay9 v28 a b c d x1 x3
      = addf (addf (matmul dot_S256x256_S256x1024_S256x1024_1_0_0_1_n_n none (shapeCast S256x256 x1 shapeCasts_S1x256x256_S256x256 : FVec Ideal S256x256 .bf16) v2
          (constant S256x1024 .f32 0x00000000#32))
        (matmul dot_S256x256_S256x1024_S256x1024_1_0_0_1_n_n none (shapeCast S256x256 x3 shapeCasts_S1x256x256_S256x256 : FVec Ideal S256x256 .bf16)
          (truncf .bf16 (cat (sh (maskGe 1#32) 1#32 a) (sh (maskGe 1#32) 1#32 b)
            (sh (maskLt 127#32) 1023#32 c) (sh (maskLt 127#32) 1023#32 d)) bitsLt_bf16_f32) (constant S256x1024 .f32 0x00000000#32)))
        (mulf (broadcastTo S256x1024 (extractStridedSlice S256x1 ![0, 32] v28 slices_S256x128_o0_32_S256x1) broadcasts_S256x1_S256x1024) v1) := rfl
  rw [e]
  generalize cat (sh (maskGe 1#32) 1#32 a) (sh (maskGe 1#32) 1#32 b) (sh (maskLt 127#32) 1023#32 c) (sh (maskLt 127#32) 1023#32 d) = w
  pointwise

/-- The kernel's value before its activation is the layer's. -/
theorem val113 (r : Fin 256) (n : Fin 1024) :
    k1_pay113 (k1_pay115 x0 x1 x2 x3 x4) (k1_pay116 x0 x1 x2 x3 x4) (k1_pay121 x0 x1 x2 x3 x4) (k1_pay122 x0 x1 x2 x3 x4)
      (k1_pay181 x0 x1 x2 x3 x4) (k1_pay182 x0 x1 x2 x3 x4) (k1_pay183 x0 x1 x2 x3 x4) (k1_pay184 x0 x1 x2 x3 x4)
      (View.ld x1 r1_1) (View.ld x3 r1_1) (ix2 r n)
      = y G (16 * n.val + r.val / 16) (ch r) := by
  have f := shF 1 (by decide) (fwd x0 x1 x2 x3 x4 _ _ (repW h 0) (repF h))
  have g := shB 1 (by decide) (by decide) (bwd x0 x1 x2 x3 x4 _ _ (repW h 1) (repB h))
  have hc := cat_apply f g
  have e1 : ∀ j, k1_pay116 x0 x1 x2 x3 x4 (ix2 j n) = ((G.u (16 * n.val + j.val / 16) (ch j) : ℝ) : EReal) := fun j => by
    unfold k1_pay116
    rw [show View.ld x0 r1_0 = x0 from View.ld_unit_lit _ _ (by decide)]
    pointwise [k1_pay3, k1_pay2]
    exact h.u j n
  have e2 : k1_pay115 x0 x1 x2 x3 x4 (ix2 r n) = ((G.u (16 * n.val + r.val / 16) (ch r) : ℝ) : EReal) := by
    unfold k1_pay115
    rw [show View.ld x0 r1_0 = x0 from View.ld_unit_lit _ _ (by decide)]
    pointwise [k1_pay2]
    exact h.u r n
  have e3 : k1_pay122 x0 x1 x2 x3 x4 (ix2 r (32 : Fin 128)) = G.ds (ch r) := by
    unfold k1_pay122
    rw [show View.ld x4 r1_2 = x4 from View.ld_unit_lit _ _ (by decide)]
    pointwise [k1_pay10]
    exact h.d r
  rw [show View.ld x1 r1_1 = x1 from View.ld_unit_lit _ _ (by decide), show View.ld x3 r1_1 = x3 from View.ld_unit_lit _ _ (by decide),
    show k1_pay121 x0 x1 x2 x3 x4 = k1_pay9 from rfl, pay113, coe_dot (h.m r) e1, coe_dot (h.c r) (fun k => hc k n), e2, e3,
    ← EReal.coe_add, y, ← total]
  have hS : ∀ k : Fin 256, ((if dir k = 0 then fun p m => if 1 ≤ m % 128 then accF (fun p => G.A 0 p ^ 16) (Z G 0) 7 p (m - 1) else 0
      else fun p m => if m % 128 + 1 < 128 then accB (fun p => G.A 1 p ^ 16) (Z G 1) 7 p (m + 1) else 0 : Fin 64 → ℕ → ℂ) (st k) n.val)
      = S G (dir k) (st k) n.val := fun k => by
    unfold S
    by_cases hd : dir k = 0
    · rw [if_pos hd, if_pos hd]
    · rw [if_neg hd, if_neg hd]
  simp only [← hS]

end Cert.KernelIdeal.ScanOut
-- ==== Proof.RefVal.lean ====
module

public import proofs.«01_k».proof.Proof.RefRead

/-! # The reference's loop as the recurrence, and its result -/

@[expose] public section

set_option maxRecDepth 16384

noncomputable section

namespace Cert.ReferenceIdeal.Val

open Idealize.ShloMosaic Idealize.ShloMosaic.TcCoe Idealize.SL.Sem
open Cert.ReferenceIdeal Cert.ReferenceIdeal.Gen Cert.ReferenceIdeal.Step Cert.ReferenceIdeal.Read Cert.Model

section
variable (j : ℕ) (hj : j < 2048) (s : State Ideal) (b : Fin 8) (g : Fin 128) (p : Fin 64)

/-- A step's row. -/
theorem r4 : b4 j s (ix3 b g p) = s.main_v75_0 (ix4 ⟨j, hj⟩ b g p) := row_at s.main_v75_0 j hj b g p

/-- A step's row. -/
theorem r9 : b9 j s (ix3 b g p) = s.main_v75_1 (ix4 ⟨j, hj⟩ b g p) := row_at s.main_v75_1 j hj b g p

/-- A step's row. -/
theorem r14 : b14 j s (ix3 b g p) = s.main_v75_2 (ix4 ⟨j, hj⟩ b g p) := row_at s.main_v75_2 j hj b g p

/-- A step's row. -/
theorem r19 : b19 j s (ix3 b g p) = s.main_v75_3 (ix4 ⟨j, hj⟩ b g p) := row_at s.main_v75_3 j hj b g p

/-- The new state. -/
theorem n31 : b31 j s (ix3 b g p) = s.main_v75_4 (ix3 (0 : Fin 2) g p) * s.main_v75_7 (ix3 b g p)
    - s.main_v75_5 (ix3 (0 : Fin 2) g p) * s.main_v75_8 (ix3 b g p) + s.main_v75_0 (ix4 ⟨j, hj⟩ b g p) := by
  rw [← r4 j hj s b g p]
  pointwise [b31, b30, b29, b28, b27, b26, b25, b24, b23, b22, b21, b20]

/-- The new state. -/
theorem n43 : b43 j s (ix3 b g p) = s.main_v75_4 (ix3 (0 : Fin 2) g p) * s.main_v75_8 (ix3 b g p)
    + s.main_v75_5 (ix3 (0 : Fin 2) g p) * s.main_v75_7 (ix3 b g p) + s.main_v75_1 (ix4 ⟨j, hj⟩ b g p) := by
  rw [← r9 j hj s b g p]
  pointwise [b43, b42, b41, b40, b39, b38, b37, b36, b35, b34, b33, b32]

/-- The new state. -/
theorem n55 : b55 j s (ix3 b g p) = s.main_v75_4 (ix3 (1 : Fin 2) g p) * s.main_v75_9 (ix3 b g p)
    - s.main_v75_5 (ix3 (1 : Fin 2) g p) * s.main_v75_10 (ix3 b g p) + s.main_v75_2 (ix4 ⟨j, hj⟩ b g p) := by
  rw [← r14 j hj s b g p]
  pointwise [b55, b54, b53, b52, b51, b50, b49, b48, b47, b46, b45, b44]

/-- The new state. -/
theorem n67 : b67 j s (ix3 b g p) = s.main_v75_4 (ix3 (1 : Fin 2) g p) * s.main_v75_10 (ix3 b g p)
    + s.main_v75_5 (ix3 (1 : Fin 2) g p) * s.main_v75_9 (ix3 b g p) + s.main_v75_3 (ix4 ⟨j, hj⟩ b g p) := by
  rw [← r19 j hj s b g p]
  pointwise [b67, b66, b65, b64, b63, b62, b61, b60, b59, b58, b57, b56]

end

/-- The forward state after `n` steps. -/
def rF (P : Par) (b : Fin 8) (g : Fin 128) (p : Fin 64) (n : ℕ) : ℂ :=
  run ((P.grp g).A 0 p) (fun k => (P.grp g).bu 0 p (2048 * b.val + k)) n

/-- The backward state after `n` steps. -/
def rB (P : Par) (b : Fin 8) (g : Fin 128) (p : Fin 64) (n : ℕ) : ℂ :=
  run ((P.grp g).A 1 p) (fun k => (P.grp g).bu 1 p (2048 * b.val + (2047 - k))) n

/-- Before step `k` the loop holds the inputs, the decays, the states after `k` steps and the rows written so far. -/
structure Inv (P : Par) (k : ℕ) (s : State Ideal) : Prop where
  i0 : ∀ l b g p, s.main_v75_0 (ix4 l b g p) = ((((P.grp g).bu 0 p (2048 * b.val + l.val)).re : ℝ) : EReal)
  i1 : ∀ l b g p, s.main_v75_1 (ix4 l b g p) = ((((P.grp g).bu 0 p (2048 * b.val + l.val)).im : ℝ) : EReal)
  i2 : ∀ l b g p, s.main_v75_2 (ix4 l b g p) = ((((P.grp g).bu 1 p (2048 * b.val + (2047 - l.val))).re : ℝ) : EReal)
  i3 : ∀ l b g p, s.main_v75_3 (ix4 l b g p) = ((((P.grp g).bu 1 p (2048 * b.val + (2047 - l.val))).im : ℝ) : EReal)
  i4 : ∀ e g p, s.main_v75_4 (ix3 e g p) = ((((P.grp g).A e p).re : ℝ) : EReal)
  i5 : ∀ e g p, s.main_v75_5 (ix3 e g p) = ((((P.grp g).A e p).im : ℝ) : EReal)
  i7 : ∀ b g p, s.main_v75_7 (ix3 b g p) = (((rF P b g p k).re : ℝ) : EReal)
  i8 : ∀ b g p, s.main_v75_8 (ix3 b g p) = (((rF P b g p k).im : ℝ) : EReal)
  i9 : ∀ b g p, s.main_v75_9 (ix3 b g p) = (((rB P b g p k).re : ℝ) : EReal)
  i10 : ∀ b g p, s.main_v75_10 (ix3 b g p) = (((rB P b g p k).im : ℝ) : EReal)
  i11 : ∀ (l : Fin 2048) b g p, l.val < k → s.main_v75_11 (ix4 l b g p) = (((rF P b g p (l.val + 1)).re : ℝ) : EReal)
  i12 : ∀ (l : Fin 2048) b g p, l.val < k → s.main_v75_12 (ix4 l b g p) = (((rF P b g p (l.val + 1)).im : ℝ) : EReal)
  i13 : ∀ (l : Fin 2048) b g p, l.val < k → s.main_v75_13 (ix4 l b g p) = (((rB P b g p (l.val + 1)).re : ℝ) : EReal)
  i14 : ∀ (l : Fin 2048) b g p, l.val < k → s.main_v75_14 (ix4 l b g p) = (((rB P b g p (l.val + 1)).im : ℝ) : EReal)

section
variable {P : Par} {k : ℕ} (hk : k < 2048) {s : State Ideal} (h : Inv P k s) (b : Fin 8) (g : Fin 128) (p : Fin 64)
include hk h

/-- The forward state's real part, one step on. -/
theorem f31 : b31 k s (ix3 b g p) = (((rF P b g p (k + 1)).re : ℝ) : EReal) := by
  rw [n31 k hk, h.i4, h.i5, h.i7, h.i8, h.i0, ← EReal.coe_mul, ← EReal.coe_mul, ← EReal.coe_sub, ← EReal.coe_add]
  refine congrArg (fun x : ℝ => (x : EReal)) ?_
  simp only [rF, run, Complex.add_re, Complex.mul_re]

/-- The forward state's imaginary part, one step on. -/
theorem f43 : b43 k s (ix3 b g p) = (((rF P b g p (k + 1)).im : ℝ) : EReal) := by
  rw [n43 k hk, h.i4, h.i5, h.i7, h.i8, h.i1, ← EReal.coe_mul, ← EReal.coe_mul, ← EReal.coe_add, ← EReal.coe_add]
  refine congrArg (fun x : ℝ => (x : EReal)) ?_
  simp only [rF, run, Complex.add_im, Complex.mul_im]

/-- The backward state's real part, one step on. -/
theorem f55 : b55 k s (ix3 b g p) = (((rB P b g p (k + 1)).re : ℝ) : EReal) := by
  rw [n55 k hk, h.i4, h.i5, h.i9, h.i10, h.i2, ← EReal.coe_mul, ← EReal.coe_mul, ← EReal.coe_sub, ← EReal.coe_add]
  refine congrArg (fun x : ℝ => (x : EReal)) ?_
  simp only [rB, run, Complex.add_re, Complex.mul_re]

/-- The backward state's imaginary part, one step on. -/
theorem f67 : b67 k s (ix3 b g p) = (((rB P b g p (k + 1)).im : ℝ) : EReal) := by
  rw [n67 k hk, h.i4, h.i5, h.i9, h.i10, h.i3, ← EReal.coe_mul, ← EReal.coe_mul, ← EReal.coe_add, ← EReal.coe_add]
  refine congrArg (fun x : ℝ => (x : EReal)) ?_
  simp only [rB, run, Complex.add_im, Complex.mul_im]

omit hk h in
/-- A row written at `k` keeps the rows before it. -/
theorem grow {x x' : Vec Ideal S2048x8x128x64 .f32} {v : Vec Ideal S8x128x64 .f32} {f : Fin 8 → Fin 128 → Fin 64 → ℕ → ℝ}
    (hx : ∀ (l : Fin 2048) b g p, l.val < k → x (ix4 l b g p) = ((f b g p (l.val + 1) : ℝ) : EReal))
    (hv : ∀ b g p, v (ix3 b g p) = ((f b g p (k + 1) : ℝ) : EReal))
    (hx' : ∀ (l : Fin 2048) b g p, x' (ix4 l b g p) = if l.val = k then v (ix3 b g p) else x (ix4 l b g p))
    (l : Fin 2048) (b : Fin 8) (g : Fin 128) (p : Fin 64) (hl : l.val < k + 1) : x' (ix4 l b g p) = ((f b g p (l.val + 1) : ℝ) : EReal) := by
  rw [hx']
  by_cases e : l.val = k
  · rw [if_pos e, hv, e]
  · rw [if_neg e, hx _ _ _ _ (by omega)]

/-- One step of the loop. -/
theorem inv_step : Inv P (k + 1) (step k s) where
  i0 := h.i0
  i1 := h.i1
  i2 := h.i2
  i3 := h.i3
  i4 := h.i4
  i5 := h.i5
  i7 := f31 hk h
  i8 := f43 hk h
  i9 := f55 hk h
  i10 := f67 hk h
  i11 := grow (f := fun b g p n => (rF P b g p n).re) h.i11 (f31 hk h) (put_at s.main_v75_11 (b31 k s) k hk)
  i12 := grow (f := fun b g p n => (rF P b g p n).im) h.i12 (f43 hk h) (put_at s.main_v75_12 (b43 k s) k hk)
  i13 := grow (f := fun b g p n => (rB P b g p n).re) h.i13 (f55 hk h) (put_at s.main_v75_13 (b55 k s) k hk)
  i14 := grow (f := fun b g p n => (rB P b g p n).im) h.i14 (f67 hk h) (put_at s.main_v75_14 (b67 k s) k hk)

end

section
variable {P : Par} {a0 : Vec Ideal S8x2048x2048 .f32} {a1 a2 : Vec Ideal S1x2x128x64 .f32} {a3 : Vec Ideal S1x2x128 .f32}
  {a4 a5 : Vec Ideal S1x2x128x64x16 .f32} {a6 a7 : Vec Ideal S1x2x128x16x64 .f32} {a8 : Vec Ideal S1x2048 .f32}
  (h : Hold P a0 a1 a2 a3 a4 a5 a6 a7 a8)

/-- A zero state. -/
theorem zero_at (b : Fin 8) (g : Fin 128) (p : Fin 64) : K_main_v68 (F := Ideal) (ix3 b g p) = ((0 : ℝ) : EReal) := by
  pointwise [K_main_v68, K_main_cst_2]
  rfl

include h

/-- The loop starts at the zero states. -/
theorem inv_zero : Inv P 0 (init a0 a1 a2 a3 a4 a5) where
  i0 := v55 h
  i1 := v59 h
  i2 := v69 h
  i3 := v70 h
  i4 := v14 h
  i5 := v18 h
  i7 := zero_at
  i8 := zero_at
  i9 := zero_at
  i10 := zero_at
  i11 := fun _ _ _ _ hl => absurd hl (Nat.not_lt_zero _)
  i12 := fun _ _ _ _ hl => absurd hl (Nat.not_lt_zero _)
  i13 := fun _ _ _ _ hl => absurd hl (Nat.not_lt_zero _)
  i14 := fun _ _ _ _ hl => absurd hl (Nat.not_lt_zero _)

omit h in
/-- A product of real and imaginary parts over the states. -/
theorem re_sum (c w : Fin 64 → ℂ) (f g x y : Fin 64 → EReal) (hf : ∀ p, f p = (((c p).re : ℝ) : EReal)) (hg : ∀ p, g p = (((c p).im : ℝ) : EReal))
    (hx : ∀ p, x p = (((w p).re : ℝ) : EReal)) (hy : ∀ p, y p = (((w p).im : ℝ) : EReal)) :
    ∑ p, f p * x p - ∑ p, g p * y p = ((∑ p, (c p * w p).re : ℝ) : EReal) := by
  have e1 : ∑ p, f p * x p = ((∑ p, (c p).re * (w p).re : ℝ) : EReal) := by
    rw [← sum_coe]; exact Finset.sum_congr rfl fun p _ => by rw [hf, hx, ← EReal.coe_mul]
  have e2 : ∑ p, g p * y p = ((∑ p, (c p).im * (w p).im : ℝ) : EReal) := by
    rw [← sum_coe]; exact Finset.sum_congr rfl fun p _ => by rw [hg, hy, ← EReal.coe_mul]
  rw [e1, e2, ← EReal.coe_sub, ← Finset.sum_sub_distrib]
  exact congrArg (fun x : ℝ => (x : EReal)) (Finset.sum_congr rfl fun p _ => (Complex.mul_re _ _).symm)

omit h in
/-- The activation. -/
def gel (z : EReal) : EReal := z * (Ideal.ofBits .f32 1056964608#32 * (1 + Ideal.tanh (Ideal.ofBits .f32 1061962282#32
  * (z + Ideal.ofBits .f32 1027024659#32 * (z * z * z)))))

/-- The reference's result: the activation of the layer's value. -/
theorem result {s : State Ideal} (hs : Inv P 2048 s) (g : Fin 128) (r : Fin 256) (n : Fin 1024) :
    R_main_v120 s a0 a6 a7 a8 (ix3 g r n)
      = gel (y (P.grp g) (16 * n.val + r.val / 16) ⟨r.val % 16, Nat.mod_lt _ (by decide)⟩) := by
  have hn := n.isLt
  have hr := r.isLt
  have hg := g.isLt
  have hl : n.val % 128 * 16 + r.val / 16 < 2048 := by omega
  have hb : n.val / 128 < 8 := by omega
  have ho : r.val % 16 < 16 := Nat.mod_lt _ (by decide)
  have hc : g.val * 16 + r.val % 16 < 2048 := by omega
  have ed : (16 * n.val + r.val / 16) / 2048 = n.val / 128 := by omega
  have em : (16 * n.val + r.val / 16) % 2048 = n.val % 128 * 16 + r.val / 16 := by omega
  have e1 := re_sum (fun p => (P.grp g).C 0 ⟨r.val % 16, ho⟩ p) (fun p => rF P ⟨n.val / 128, hb⟩ g p (n.val % 128 * 16 + r.val / 16 + 1))
    (fun p => a6 (ix5 (0 : Fin 1) (0 : Fin 2) g ⟨r.val % 16, ho⟩ p)) (fun p => a7 (ix5 (0 : Fin 1) (0 : Fin 2) g ⟨r.val % 16, ho⟩ p))
    (fun p => s.main_v75_11 (ix4 ⟨n.val % 128 * 16 + r.val / 16, hl⟩ ⟨n.val / 128, hb⟩ g p))
    (fun p => s.main_v75_12 (ix4 ⟨n.val % 128 * 16 + r.val / 16, hl⟩ ⟨n.val / 128, hb⟩ g p))
    (fun p => h.cr _ _ _ _) (fun p => h.ci _ _ _ _) (fun p => hs.i11 _ _ _ _ hl) (fun p => hs.i12 _ _ _ _ hl)
  have hv : ((⟨n.val % 128 * 16 + r.val / 16, hl⟩ : Fin 2048).rev).val + 1 = 2048 - (n.val % 128 * 16 + r.val / 16) := by
    rw [Fin.val_rev]
    show 2048 - (n.val % 128 * 16 + r.val / 16 + 1) + 1 = _
    omega
  have e2 := re_sum (fun p => (P.grp g).C 1 ⟨r.val % 16, ho⟩ p) (fun p => rB P ⟨n.val / 128, hb⟩ g p (2048 - (n.val % 128 * 16 + r.val / 16)))
    (fun p => a6 (ix5 (0 : Fin 1) (1 : Fin 2) g ⟨r.val % 16, ho⟩ p)) (fun p => a7 (ix5 (0 : Fin 1) (1 : Fin 2) g ⟨r.val % 16, ho⟩ p))
    (fun p => s.main_v75_13 (ix4 (⟨n.val % 128 * 16 + r.val / 16, hl⟩ : Fin 2048).rev ⟨n.val / 128, hb⟩ g p))
    (fun p => s.main_v75_14 (ix4 (⟨n.val % 128 * 16 + r.val / 16, hl⟩ : Fin 2048).rev ⟨n.val / 128, hb⟩ g p))
    (fun p => h.cr _ _ _ _) (fun p => h.ci _ _ _ _) (fun p => by rw [hs.i13 _ _ _ _ (Fin.isLt _), hv])
    (fun p => by rw [hs.i14 _ _ _ _ (Fin.isLt _), hv])
  have e3 : a8 (ix2 (0 : Fin 1) ⟨g.val * 16 + r.val % 16, hc⟩) = (P.grp g).ds ⟨r.val % 16, ho⟩ := h.ds _
  have e4 : a0 (ix3 ⟨n.val / 128, hb⟩ ⟨n.val % 128 * 16 + r.val / 16, hl⟩ ⟨g.val * 16 + r.val % 16, hc⟩)
      = (((P.grp g).u (16 * n.val + r.val / 16) ⟨r.val % 16, ho⟩ : ℝ) : EReal) :=
    u_at h ⟨n.val / 128, hb⟩ ⟨n.val % 128 * 16 + r.val / 16, hl⟩ g ⟨r.val % 16, ho⟩ hc _
      (by show _ = 2048 * (n.val / 128) + (n.val % 128 * 16 + r.val / 16); omega)
  have key := congrArg₂ (· + ·) (congrArg₂ (· + ·) e1 e2) (congrArg₂ (· * ·) e3 e4)
  simp only [← EReal.coe_add] at key
  have ey : ∑ p, ((P.grp g).C 0 ⟨r.val % 16, ho⟩ p * rF P ⟨n.val / 128, hb⟩ g p (n.val % 128 * 16 + r.val / 16 + 1)).re
      + ∑ p, ((P.grp g).C 1 ⟨r.val % 16, ho⟩ p * rB P ⟨n.val / 128, hb⟩ g p (2048 - (n.val % 128 * 16 + r.val / 16))).re
      = conv (P.grp g) (16 * n.val + r.val / 16) ⟨r.val % 16, ho⟩ := by
    rw [conv, ed, em]
    rfl
  rw [ey] at key
  unfold R_main_v120
  pointwise
  exact congrArg gel key

end

end Cert.ReferenceIdeal.Val
-- ==== Proof.Regs.lean ====
module

public import proofs.«01_k».proof.Proof.OpsT
public import proofs.«01_k».proof.Proof.ScanOut
public import proofs.«01_k».proof.Proof.RefVal

/-! # The arrays the two calls leave, block by block -/

@[expose] public section

set_option maxRecDepth 16384

noncomputable section

namespace Cert.KernelIdeal.Regs

open Idealize.ShloMosaic Idealize.ShloMosaic.TcCoe Idealize.SL.Sem
open Idealize.ShloMosaic.Pipeline (Dat)
open Cert.KernelIdeal Cert.KernelIdeal.Gen Cert.Model
open Cert.KernelIdeal.Ops (mtv Blocks dir st ch part cpart ex ec)
open Cert.KernelIdeal.ScanOut (Tabs)
open Cert.ReferenceIdeal.Val (gel)

/-- What the second call stores: the activation of the layer's value. -/
theorem stored {G : Grp} {x0 : Vec Ideal S1x256x1024 .f32} {x1 x2 x3 : Vec Ideal S1x256x256 .bf16} {x4 : Vec Ideal S1x256x128 .f32}
    (h : Tabs G x0 x1 x2 x3 x4) (r : Fin 256) (n : Fin 1024) :
    out1_5 x0 x1 x2 x3 x4 (ix3 (0 : Fin 1) r n) = gel (y G (16 * n.val + r.val / 16) (ch r)) := by
  unfold out1_5
  frame_out
  pointwise [k1_pay1, k1_pay114]
  have e := ScanOut.val113 h r n
  rw [show View.ld x1 r1_1 = x1 from View.ld_unit_lit _ _ (by decide), show View.ld x3 r1_1 = x3 from View.ld_unit_lit _ _ (by decide)] at e
  rw [e]
  rw [gel, ← mul_assoc (y G _ _) (y G _ _)]

variable (V : (c : Dev nD) → (b : Ref sig .tc) → Buf (Elt Ideal) ((c : Thread nD τ).loc b))

/-- The first call's block indices at a grid point. -/
theorem idx0 : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

/-- The second call's block indices at a grid point. -/
theorem idx1 : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![t.val, 0, 0] ∧ win1_5.index t = ![t.val, 0, 0] :=
  (by decide +kernel : ∀ t : Fin grid1.N, _)

/-- A block's entry of the first call's operand 0. -/
theorem in0_0 (c : Dev nD) (t : Fin cfg0.N) (i : Fin 256) (j : Fin 4) : (iblk0 V c 0 t : Vec Ideal S1x256x4 .f32) (ix3 (0 : Fin 1) i j)
    = (V c main_v47 : Vec Ideal S128x256x4 .f32) (ix3 (⟨t.val, t.isLt⟩ : Fin 128) i j) := by
  blk_point [iblk0, idx0 t]

/-- A block's entry of the first call's operand 1. -/
theorem in0_1 (c : Dev nD) (t : Fin cfg0.N) (i : Fin 8) (j : Fin 256) : (iblk0 V c 1 t : Vec Ideal S1x8x256 .f32) (ix3 (0 : Fin 1) i j)
    = (V c main_v49 : Vec Ideal S128x8x256 .f32) (ix3 (⟨t.val, t.isLt⟩ : Fin 128) i j) := by
  blk_point [iblk0, idx0 t]

/-- A block's entry of the first call's operand 2. -/
theorem in0_2 (c : Dev nD) (t : Fin cfg0.N) (i : Fin 256) (j : Fin 128) : (iblk0 V c 2 t : Vec Ideal S1x256x128 .f32) (ix3 (0 : Fin 1) i j)
    = (V c main_v59 : Vec Ideal S128x256x128 .f32) (ix3 (⟨t.val, t.isLt⟩ : Fin 128) i j) := by
  blk_point [iblk0, idx0 t]

/-- A block's entry of the first call's operand 3. -/
theorem in0_3 (c : Dev nD) (t : Fin cfg0.N) (i : Fin 16) (j : Fin 256) : (iblk0 V c 3 t : Vec Ideal S1x16x256 .f32) (ix3 (0 : Fin 1) i j)
    = (V c main_v68 : Vec Ideal S128x16x256 .f32) (ix3 (⟨t.val, t.isLt⟩ : Fin 128) i j) := by
  blk_point [iblk0, idx0 t]

/-- The tile constant's block is the whole of it. -/
theorem in0_4 (c : Dev nD) (t : Fin cfg0.N) (i : Fin 128) (j : Fin 256) : (iblk0 V c 4 t : Vec Ideal S128x256 .f32) (ix2 i j)
    = (V c main_cst : Vec Ideal S128x256 .f32) (ix2 i j) := by
  blk_point [iblk0, idx0 t]

/-- A block's entry of the second call's operand 0. -/
theorem in1_0 (c : Dev nD) (t : Fin cfg1.N) (i : Fin 256) (j : Fin 1024) : (iblk1 V c 0 t : Vec Ideal S1x256x1024 .f32) (ix3 (0 : Fin 1) i j)
    = (V c main_v72 : Vec Ideal S128x256x1024 .f32) (ix3 (⟨t.val, t.isLt⟩ : Fin 128) i j) := by
  blk_point [iblk1, idx1 t]

/-- A block's entry of the second call's operand 1. -/
theorem in1_1 (c : Dev nD) (t : Fin cfg1.N) (i : Fin 256) (j : Fin 256) : (iblk1 V c 1 t : Vec Ideal S1x256x256 .bf16) (ix3 (0 : Fin 1) i j)
    = (V c main_v69_0 : Vec Ideal S128x256x256 .bf16) (ix3 (⟨t.val, t.isLt⟩ : Fin 128) i j) := by
  blk_point [iblk1, idx1 t]

/-- A block's entry of the second call's operand 2. -/
theorem in1_2 (c : Dev nD) (t : Fin cfg1.N) (i : Fin 256) (j : Fin 256) : (iblk1 V c 2 t : Vec Ideal S1x256x256 .bf16) (ix3 (0 : Fin 1) i j)
    = (V c main_v69_1 : Vec Ideal S128x256x256 .bf16) (ix3 (⟨t.val, t.isLt⟩ : Fin 128) i j) := by
  blk_point [iblk1, idx1 t]

/-- A block's entry of the second call's operand 3. -/
theorem in1_3 (c : Dev nD) (t : Fin cfg1.N) (i : Fin 256) (j : Fin 256) : (iblk1 V c 3 t : Vec Ideal S1x256x256 .bf16) (ix3 (0 : Fin 1) i j)
    = (V c main_v69_2 : Vec Ideal S128x256x256 .bf16) (ix3 (⟨t.val, t.isLt⟩ : Fin 128) i j) := by
  blk_point [iblk1, idx1 t]

/-- A block's entry of the second call's operand 4. -/
theorem in1_4 (c : Dev nD) (t : Fin cfg1.N) (i : Fin 256) (j : Fin 128) : (iblk1 V c 4 t : Vec Ideal S1x256x128 .f32) (ix3 (0 : Fin 1) i j)
    = (V c main_v69_3 : Vec Ideal S128x256x128 .f32) (ix3 (⟨t.val, t.isLt⟩ : Fin 128) i j) := by
  blk_point [iblk1, idx1 t]

/-- A place in an array of blocks: its block and the place in that block. -/
theorem place {α : Type} {N b c : ℕ} (f : Fin N → (⟨3, ![1, b, c]⟩ : Shape).Idx → α) (t : Fin N) (y : (⟨3, ![1, b, c]⟩ : Shape).Idx)
    (k u v : ℕ) (hk : k < N) (hu : u < b) (hv : v < c) (h0 : k = t.val) (h1 : u = y 1) (h2 : v = y 2) :
    f t y = f ⟨k, hk⟩ (ix3 (0 : Fin 1) (⟨u, hu⟩ : Fin b) (⟨v, hv⟩ : Fin c)) := by
  have et : (⟨k, hk⟩ : Fin N) = t := Fin.ext h0
  have ey : y = ix3 (0 : Fin 1) (⟨u, hu⟩ : Fin b) (⟨v, hv⟩ : Fin c) := by
    funext a
    match a with
    | ⟨0, _⟩ => exact Fin.ext (Nat.lt_one_iff.1 (y 0).isLt)
    | ⟨1, _⟩ => exact Fin.ext h1.symm
    | ⟨2, _⟩ => exact Fin.ext h2.symm
  exact congrArg₂ f et.symm ey

/-- The first call's grid has a point for each group. -/
theorem N0 : cfg0.N = 128 := by decide

/-- The second call's grid has a point for each group. -/
theorem N1 : cfg1.N = 128 := by decide

/-- An array of the first call after the run, from its blocks. -/
theorem arr0_5 (c : Dev nD) (f : Fin cfg0.N → S1x256x256.Idx → Elt Ideal .bf16) (hf : ∀ t y, (dat0 V c).after 5 t y = f t y) :
    (dat0 V c).arrAt 5 cfg0.N = fun i : S128x256x256.Idx =>
      f ⟨(i 0).val, N0 ▸ (i 0).isLt⟩ (ix3 (0 : Fin 1) (⟨(i 1).val, (i 1).isLt⟩ : Fin 256) (⟨(i 2).val, (i 2).isLt⟩ : Fin 256)) := by
  refine (dat0 V c).arrAt_eq_of_covers 5 _ (by decide +kernel) fun t _ y => ?_
  blk_simp
  rw [hf]
  refine place f t y _ _ _ _ _ _ ?_ ?_ ?_ <;> simp [idx0 t]

/-- An array of the first call after the run, from its blocks. -/
theorem arr0_6 (c : Dev nD) (f : Fin cfg0.N → S1x256x256.Idx → Elt Ideal .bf16) (hf : ∀ t y, (dat0 V c).after 6 t y = f t y) :
    (dat0 V c).arrAt 6 cfg0.N = fun i : S128x256x256.Idx =>
      f ⟨(i 0).val, N0 ▸ (i 0).isLt⟩ (ix3 (0 : Fin 1) (⟨(i 1).val, (i 1).isLt⟩ : Fin 256) (⟨(i 2).val, (i 2).isLt⟩ : Fin 256)) := by
  refine (dat0 V c).arrAt_eq_of_covers 6 _ (by decide +kernel) fun t _ y => ?_
  blk_simp
  rw [hf]
  refine place f t y _ _ _ _ _ _ ?_ ?_ ?_ <;> simp [idx0 t]

/-- An array of the first call after the run, from its blocks. -/
theorem arr0_7 (c : Dev nD) (f : Fin cfg0.N → S1x256x256.Idx → Elt Ideal .bf16) (hf : ∀ t y, (dat0 V c).after 7 t y = f t y) :
    (dat0 V c).arrAt 7 cfg0.N = fun i : S128x256x256.Idx =>
      f ⟨(i 0).val, N0 ▸ (i 0).isLt⟩ (ix3 (0 : Fin 1) (⟨(i 1).val, (i 1).isLt⟩ : Fin 256) (⟨(i 2).val, (i 2).isLt⟩ : Fin 256)) := by
  refine (dat0 V c).arrAt_eq_of_covers 7 _ (by decide +kernel) fun t _ y => ?_
  blk_simp
  rw [hf]
  refine place f t y _ _ _ _ _ _ ?_ ?_ ?_ <;> simp [idx0 t]

/-- An array of the first call after the run, from its blocks. -/
theorem arr0_8 (c : Dev nD) (f : Fin cfg0.N → S1x256x128.Idx → Elt Ideal .f32) (hf : ∀ t y, (dat0 V c).after 8 t y = f t y) :
    (dat0 V c).arrAt 8 cfg0.N = fun i : S128x256x128.Idx =>
      f ⟨(i 0).val, N0 ▸ (i 0).isLt⟩ (ix3 (0 : Fin 1) (⟨(i 1).val, (i 1).isLt⟩ : Fin 256) (⟨(i 2).val, (i 2).isLt⟩ : Fin 128)) := by
  refine (dat0 V c).arrAt_eq_of_covers 8 _ (by decide +kernel) fun t _ y => ?_
  blk_simp
  rw [hf]
  refine place f t y _ _ _ _ _ _ ?_ ?_ ?_ <;> simp [idx0 t]

/-- An array of the second call after the run, from its blocks. -/
theorem arr1_5 (c : Dev nD) (f : Fin cfg1.N → S1x256x1024.Idx → Elt Ideal .bf16) (hf : ∀ t y, (dat1 V c).after 5 t y = f t y) :
    (dat1 V c).arrAt 5 cfg1.N = fun i : S128x256x1024.Idx =>
      f ⟨(i 0).val, N1 ▸ (i 0).isLt⟩ (ix3 (0 : Fin 1) (⟨(i 1).val, (i 1).isLt⟩ : Fin 256) (⟨(i 2).val, (i 2).isLt⟩ : Fin 1024)) := by
  refine (dat1 V c).arrAt_eq_of_covers 5 _ (by decide +kernel) fun t _ y => ?_
  blk_simp
  rw [hf]
  refine place f t y _ _ _ _ _ _ ?_ ?_ ?_ <;> simp [idx1 t]

end Cert.KernelIdeal.Regs
-- ==== Proof.Run.lean ====
module

public import proofs.«01_k».proof.Proof.Host
public import proofs.«01_k».proof.Proof.Regs

/-! # The S5 program's run, and the array it leaves -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Model
open Cert.KernelIdeal.Ops (mtv Blocks dir st ch part cpart ex ec)
open Cert.KernelIdeal.ScanOut (Tabs)
open Cert.KernelIdeal.Regs
open Cert.ReferenceIdeal.Val (gel)
open Cert.ReferenceIdeal.Read (Hold)

variable (m : (ℓ : Loc nD τ sig) → Buf (Elt Ideal) ℓ) (ρ : Dev nD → PrngReg)

/-- The model the run is stated over. -/
abbrev Mod : Type := MT nD τ sig Unit (Elt Ideal) ℕ (UR sig nD τ) ℕ

set_option backward.isDefEq.respectTransparency.types false in
/-- The program runs: the result's array holds what its last segment leaves, the arguments what they held. -/
theorem run : θ_run defs (onTc (τ := τ) (main (F := Ideal))) ⟨m, fun _ => 0, ρ⟩ (fun r => ∀ c : Dev nD,
      r.2.mem ((c.tc : Thread nD τ).loc main_v73) = W6 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mod)
            ⊢ BI.own (emb₁ (initOf (Pipeline.cells cfgs cellOf_inj) (Pipeline.launchToks cfgs cellOf_inj))) from .rfl)
        iexact Hu
      iapply (show (BI.emp : sProp Mod) ⊢ bigSep Finset.univ (fun _ : Dev nD => (BI.emp : sProp Mod)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v73 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

/-- The words of the tile constant's first sixteen rows: a one where the row is the column's channel. -/
def Words : Prop :=
  ∀ (a : Fin 16) (r : Fin 256), lit0 ⟨a.val * 256 + r.val, by have := a.isLt; have := r.isLt; show _ < 32768; omega⟩
    = if a.val = r.val % 16 then 0x3F800000#32 else 0#32

variable {m} {ρ} {c : Dev nD} {P : Par}
  (h : Hold P (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)))
  (hw : Words)
include h hw

/-- The blocks of the first call's operands at a grid point hold that group's parameters. -/
theorem blocks (t : Fin cfg0.N) : Blocks (P.grp ⟨t.val, t.isLt⟩) (iblk0 (V3 m ρ) c 0 t) (iblk0 (V3 m ρ) c 1 t) (iblk0 (V3 m ρ) c 2 t)
    (iblk0 (V3 m ρ) c 3 t) (iblk0 (V3 m ρ) c 4 t) where
  lmax := h.lmax
  neg := P.neg
  a0 k := (in0_0 (V3 m ρ) c t k _).trans (Lay.col_re (V := W0 m ρ c) h _ k)
  a1 k := (in0_0 (V3 m ρ) c t k _).trans (Lay.col_im (V := W0 m ρ c) h _ k)
  a2 k := (in0_0 (V3 m ρ) c t k _).trans (Lay.col_ld (V := W0 m ρ c) h _ k)
  a3 k := (in0_0 (V3 m ρ) c t k _).trans (Lay.col_ds (V := W0 m ρ c) h _ k)
  b0 k := (in0_1 (V3 m ρ) c t _ k).trans (Lay.row_re (V := W0 m ρ c) h _ k)
  b1 k := (in0_1 (V3 m ρ) c t _ k).trans (Lay.row_im (V := W0 m ρ c) h _ k)
  b2 k := (in0_1 (V3 m ρ) c t _ k).trans (Lay.row_ld (V := W0 m ρ c) h _ k)
  bm k j := (in0_2 (V3 m ρ) c t k j).trans (Lay.bmat (V := W0 m ρ c) h _ k j)
  cm o k := (in0_3 (V3 m ρ) c t o k).trans (Lay.cmat (V := W0 m ρ c) h _ o k)
  tl a r ha := by
    rw [in0_4 (V3 m ρ) c t a r]
    refine (Lay.tile (V := W0 m ρ c) a r).trans ?_
    rw [hw ⟨a.val, ha⟩ r]
    split_ifs
    · simp [Ideal.ofBits, Ideal.ieee]
      rw [← EReal.coe_mul]
      norm_num
    · simp [Ideal.ofBits, Ideal.ieee]

/-- The blocks of the second call's operands at a grid point hold that group's tables and inputs. -/
theorem tabs (t : Fin cfg1.N) : Tabs (P.grp ⟨t.val, t.isLt⟩) (iblk1 (V5 m ρ) c 0 t) (iblk1 (V5 m ρ) c 1 t) (iblk1 (V5 m ρ) c 2 t)
    (iblk1 (V5 m ρ) c 3 t) (iblk1 (V5 m ρ) c 4 t) where
  u r n := by
    refine (in1_0 (V5 m ρ) c t r n).trans (Lay.uin (V := W4 m ρ c) ?_ _ r n)
    rw [W4_args m ρ c main_arg0 (by decide), W4_args m ρ c main_arg1 (by decide), W4_args m ρ c main_arg2 (by decide),
      W4_args m ρ c main_arg3 (by decide), W4_args m ρ c main_arg4 (by decide), W4_args m ρ c main_arg5 (by decide),
      W4_args m ρ c main_arg6 (by decide), W4_args m ρ c main_arg7 (by decide), W4_args m ρ c main_arg8 (by decide)]
    exact h
  m r j := by
    rw [in1_1 (V5 m ρ) c t r j]
    refine (congrFun ((W5_of m ρ c main_v69_0 (by decide)).trans ((W4_arr m ρ c 5).trans
      (arr0_5 (V3 m ρ) c _ fun t y => congrFun (after0_5 (V3 m ρ) c t) y))) _).trans ?_
    exact Ops.mt (blocks h hw ⟨t.val, t.isLt⟩) r j
  b k r := by
    rw [in1_2 (V5 m ρ) c t k r]
    refine (congrFun ((W5_of m ρ c main_v69_1 (by decide)).trans ((W4_arr m ρ c 6).trans
      (arr0_6 (V3 m ρ) c _ fun t y => congrFun (after0_6 (V3 m ρ) c t) y))) _).trans ?_
    exact Ops.bct (blocks h hw ⟨t.val, t.isLt⟩) k r
  c r k := by
    rw [in1_3 (V5 m ρ) c t r k]
    refine (congrFun ((W5_of m ρ c main_v69_2 (by decide)).trans ((W4_arr m ρ c 7).trans
      (arr0_7 (V3 m ρ) c _ fun t y => congrFun (after0_7 (V3 m ρ) c t) y))) _).trans ?_
    exact Ops.cct (blocks h hw ⟨t.val, t.isLt⟩) r k
  p p j hj := by
    rw [in1_4 (V5 m ρ) c t _ j]
    refine (congrFun ((W5_of m ρ c main_v69_3 (by decide)).trans ((W4_arr m ρ c 8).trans
      (arr0_8 (V3 m ρ) c _ fun t y => congrFun (after0_8 (V3 m ρ) c t) y))) _).trans ?_
    exact Ops.prm (blocks h hw ⟨t.val, t.isLt⟩) p j hj
  d r := by
    rw [in1_4 (V5 m ρ) c t r _]
    refine (congrFun ((W5_of m ρ c main_v69_3 (by decide)).trans ((W4_arr m ρ c 8).trans
      (arr0_8 (V3 m ρ) c _ fun t y => congrFun (after0_8 (V3 m ρ) c t) y))) _).trans ?_
    exact Ops.prmD (blocks h hw ⟨t.val, t.isLt⟩) r

/-- The result's array, an entry: the activation of the layer's value at that group, channel and position. -/
theorem entry (g : Fin 128) (r : Fin 256) (n : Fin 1024) : (W6 m ρ c (Proc.devRef .tc main_v73) : Vec Ideal S128x256x1024 .bf16) (ix3 g r n)
    = gel (y (P.grp g) (16 * n.val + r.val / 16) (ch r)) := by
  refine (congrFun ((W6_arr m ρ c 5).trans (arr1_5 (V5 m ρ) c _ fun t y => congrFun (after1_5 (V5 m ρ) c t) y)) _).trans ?_
  exact stored (tabs h hw ⟨g.val, g.isLt⟩) r n

end Cert.KernelIdeal.Run

end
-- ==== Proof.Ssm.lean ====
module

public import proofs.«01_k».proof.Defs
public import proofs.«01_k».proof.Proof.Lit
public import proofs.«01_k».proof.Proof.Fin
public import proofs.«01_k».proof.Proof.Run
public import proofs.«01_k».proof.Proof.RefTrip

/-! # The S5 call against its recurrence: the same result from finite arguments -/

@[expose] public section

set_option maxRecDepth 16384

noncomputable section

namespace Cert.Proof

open Idealize.ShloMosaic Idealize.ShloMosaic.TcCoe Idealize.SL.Sem
open Cert.Model

/-- The facts the precondition takes. -/
theorem pre_facts : Cert.Pre_finite_ssm.Facts := Cert.Pre_finite_ssm.Gen.facts

/-- The reference's states, trip by trip. -/
def states (s : Cert.ReferenceIdeal.Step.State Ideal) : ℕ → Cert.ReferenceIdeal.Step.State Ideal
  | 0 => s
  | n + 1 => Cert.ReferenceIdeal.Step.step n (states s n)

open Cert.ReferenceIdeal.Val in
/-- After any number of trips the reference's state holds the recurrences' values. -/
theorem states_inv {P : Par} {s : Cert.ReferenceIdeal.Step.State Ideal} (h : Inv P 0 s) : ∀ k ≤ 2048, Inv P k (states s k)
  | 0, _ => h
  | k + 1, hk => inv_step hk (states_inv h k (by omega))

/-- THE S5 LAYER: from finite arguments the kernel's chunked form and the reference's step-by-step recurrence leave the
    same array. -/
theorem algebraic_Ssm : Cert.algebraic_KernelIdeal_ReferenceIdeal_pre_finite_ssm (hKernelIdeal := Cert.KernelIdeal.Gen.facts)
    (hReferenceIdeal := Cert.ReferenceIdeal.Gen.facts) (hPre_finite_ssm := pre_facts) := by
  intro m g m' g' hpre hm
  refine ⟨fun c => Cert.KernelIdeal.Gen.W6 m g c (Proc.devRef .tc Cert.KernelIdeal.main_v73), Cert.KernelIdeal.Run.run m g, ?_⟩
  refine (θ_run Cert.ReferenceIdeal.defs _ _).mono (fun r hr c => ⟨(hr c).1.trans ?_, (hr c).2⟩)
    (Cert.ReferenceIdeal.Trip.run_iter m' g' (fun c => states (Cert.ReferenceIdeal.Trip.initState m' c)) (fun c => rfl) (fun c n => rfl))
  obtain ⟨e0, e1, e2, e3, e4, e5, e6, e7, e8⟩ := hm c
  have hk := Fin.hold _ _ _ _ _ _ _ _ _ (hpre c)
  have hi := Cert.ReferenceIdeal.Val.inv_zero hk
  have hs := states_inv hi 2048 le_rfl
  unfold Cert.ReferenceIdeal.Trip.initState
  rw [e0, e1, e2, e3, e4, e5, e6, e7, e8]
  funext i
  obtain ⟨a, b, d, rfl⟩ : ∃ (a : Fin 128) (b : Fin 256) (d : Fin 1024), i = ix3 a b d := ⟨i 0, i 1, i 2, by funext q; fin_cases q <;> rfl⟩
  exact (Cert.ReferenceIdeal.Val.result hk hs _ _ _).trans (Cert.KernelIdeal.Run.entry hk Cert.KernelIdeal.Lay.words _ _ _).symm

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.RestKernel.Frame
public import proofs.«01_k».proof.Proof.Gen.RestKernelIdeal.Frame
public import proofs.«01_k».proof.Proof.Gen.RestReferenceIdeal
public import proofs.«01_k».proof.Proof.Gen.RestReferenceIdeal.Run
public import proofs.«01_k».proof.Proof.Gen.RestKernelIdeal.Value
public import proofs.«01_k».proof.Proof.Gen.RestReferenceIdeal.Read
public import proofs.«01_k».proof.Proof.Gen.ProjKernel.Frame
public import proofs.«01_k».proof.Proof.Gen.ProjKernelIdeal.Frame
public import proofs.«01_k».proof.Proof.Gen.ProjReferenceIdeal
public import proofs.«01_k».proof.Proof.Gen.ProjReferenceIdeal.Run
public import proofs.«01_k».proof.Proof.Gen.ProjKernelIdeal.Value
public import proofs.«01_k».proof.Proof.Gen.ProjReferenceIdeal.Read
public import proofs.«01_k».proof.Proof.Gen.GluKernel.Frame
public import proofs.«01_k».proof.Proof.Gen.GluKernelIdeal.Frame
public import proofs.«01_k».proof.Proof.Gen.GluReferenceIdeal
public import proofs.«01_k».proof.Proof.Gen.GluReferenceIdeal.Run
public import proofs.«01_k».proof.Proof.Gen.GluKernelIdeal.Value
public import proofs.«01_k».proof.Proof.Gen.GluReferenceIdeal.Read
public import proofs.«01_k».proof.Proof.Gen.MergeKernel.Frame
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Gen.MergeKernelIdeal.Value
public import proofs.«01_k».proof.Proof.Gen.MergeReferenceIdeal.Read
public import proofs.«01_k».proof.Proof.Gen.OutKernel.Frame
public import proofs.«01_k».proof.Proof.Gen.OutKernelIdeal.Frame
public import proofs.«01_k».proof.Proof.Gen.OutReferenceIdeal
public import proofs.«01_k».proof.Proof.Gen.OutReferenceIdeal.Run
public import proofs.«01_k».proof.Proof.Gen.OutKernelIdeal.Value
public import proofs.«01_k».proof.Proof.Gen.OutReferenceIdeal.Read
public import proofs.«01_k».proof.Proof.Gen.PostKernel.Frame
public import proofs.«01_k».proof.Proof.Gen.PostKernelIdeal.Frame
public import proofs.«01_k».proof.Proof.Gen.PostReferenceIdeal
public import proofs.«01_k».proof.Proof.Gen.PostReferenceIdeal.Run
public import proofs.«01_k».proof.Proof.Gen.PostKernelIdeal.Value
public import proofs.«01_k».proof.Proof.Gen.PostReferenceIdeal.Read
public import proofs.«01_k».proof.Proof.Gen.NormKernel.Frame
public import proofs.«01_k».proof.Proof.Gen.NormKernelIdeal.Frame
public import proofs.«01_k».proof.Proof.Gen.NormReferenceIdeal
public import proofs.«01_k».proof.Proof.Gen.NormReferenceIdeal.Run
public import proofs.«01_k».proof.Proof.Gen.NormKernelIdeal.Value
public import proofs.«01_k».proof.Proof.Gen.NormReferenceIdeal.Read
public import proofs.«01_k».proof.Proof.Gen.SampleKernel.Frame
public import proofs.«01_k».proof.Proof.Gen.SampleKernelIdeal.Frame
public import proofs.«01_k».proof.Proof.Gen.SampleReferenceIdeal
public import proofs.«01_k».proof.Proof.Gen.SampleReferenceIdeal.Run
public import proofs.«01_k».proof.Proof.Gen.SampleKernelIdeal.Value
public import proofs.«01_k».proof.Proof.Gen.SampleReferenceIdeal.Read
public import proofs.«01_k».proof.Proof.Gen.ReferenceIdeal.Step
public import proofs.«01_k».proof.Proof.Rest
public import proofs.«01_k».proof.Proof.Proj
public import proofs.«01_k».proof.Proof.Glu
public import proofs.«01_k».proof.Proof.Merge
public import proofs.«01_k».proof.Proof.Out
public import proofs.«01_k».proof.Proof.Post
public import proofs.«01_k».proof.Proof.Norm
public import proofs.«01_k».proof.Proof.Sample
public import proofs.«01_k».proof.Proof.Ssm
public import Idealize.ShloMosaic.Adequacy
public import Idealize.ShloMosaic.Init

@[expose] public section

set_option maxRecDepth 16384

noncomputable section

open Idealize.ShloMosaic Idealize.SL.Sem

namespace Cert.Proof

/-- The scan's reference runs, keeps its arguments and leaves every semaphore at zero. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The rest of the input projection's reference runs, keeps its arguments and leaves every semaphore at zero. -/
theorem frame_RestReferenceIdeal : Cert.quiescent_RestReferenceIdeal (hRestReferenceIdeal := Cert.RestReferenceIdeal.Gen.facts) := fun m ρ _ =>
  (θ_run Cert.RestReferenceIdeal.defs _ _).mono (fun r h => ⟨fun c => (h c).2, sem_eq_zero_of_no_sems (by decide) r.2⟩)
    (Cert.RestReferenceIdeal.Value.run m ρ)

/-- The projection of the scan input's reference runs, keeps its arguments and leaves every semaphore at zero. -/
theorem frame_ProjReferenceIdeal : Cert.quiescent_ProjReferenceIdeal (hProjReferenceIdeal := Cert.ProjReferenceIdeal.Gen.facts) := fun m ρ _ =>
  (θ_run Cert.ProjReferenceIdeal.defs _ _).mono (fun r h => ⟨fun c => (h c).2, sem_eq_zero_of_no_sems (by decide) r.2⟩)
    (Cert.ProjReferenceIdeal.Value.run m ρ)

/-- The gated unit's reference runs, keeps its arguments and leaves every semaphore at zero. -/
theorem frame_GluReferenceIdeal : Cert.quiescent_GluReferenceIdeal (hGluReferenceIdeal := Cert.GluReferenceIdeal.Gen.facts) := fun m ρ _ =>
  (θ_run Cert.GluReferenceIdeal.defs _ _).mono (fun r h => ⟨fun c => (h c).2, sem_eq_zero_of_no_sems (by decide) r.2⟩)
    (Cert.GluReferenceIdeal.Value.run m ρ)

/-- The gated merge's reference runs, keeps its arguments and leaves every semaphore at zero. -/
theorem frame_MergeReferenceIdeal : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run m ρ)

/-- The output projection's reference runs, keeps its arguments and leaves every semaphore at zero. -/
theorem frame_OutReferenceIdeal : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems (by decide) r.2⟩)
    (Cert.OutReferenceIdeal.Value.run m ρ)

/-- The norm of the output of the prompt's reference runs, keeps its arguments and leaves every semaphore at zero. -/
theorem frame_PostReferenceIdeal : Cert.quiescent_PostReferenceIdeal (hPostReferenceIdeal := Cert.PostReferenceIdeal.Gen.facts) := fun m ρ _ =>
  (θ_run Cert.PostReferenceIdeal.defs _ _).mono (fun r h => ⟨fun c => (h c).2, sem_eq_zero_of_no_sems (by decide) r.2⟩)
    (Cert.PostReferenceIdeal.Value.run m ρ)

/-- The norm of the input's reference runs, keeps its arguments and leaves every semaphore at zero. -/
theorem frame_NormReferenceIdeal : Cert.quiescent_NormReferenceIdeal (hNormReferenceIdeal := Cert.NormReferenceIdeal.Gen.facts) := fun m ρ _ =>
  (θ_run Cert.NormReferenceIdeal.defs _ _).mono (fun r h => ⟨fun c => (h c).2, sem_eq_zero_of_no_sems (by decide) r.2⟩)
    (Cert.NormReferenceIdeal.Value.run m ρ)

/-- The norm of the output of the sample's reference runs, keeps its arguments and leaves every semaphore at zero. -/
theorem frame_SampleReferenceIdeal : Cert.quiescent_SampleReferenceIdeal (hSampleReferenceIdeal := Cert.SampleReferenceIdeal.Gen.facts) := fun m ρ _ =>
  (θ_run Cert.SampleReferenceIdeal.defs _ _).mono (fun r h => ⟨fun c => (h c).2, sem_eq_zero_of_no_sems (by decide) r.2⟩)
    (Cert.SampleReferenceIdeal.Value.run m ρ)

/-- Everything the certificate claims. -/
theorem claim : Cert.Claim :=
  ⟨Cert.Kernel.Gen.facts,
    Cert.KernelIdeal.Gen.facts,
    Cert.ReferenceIdeal.Gen.facts,
    Cert.RestKernel.Gen.facts,
    Cert.RestKernelIdeal.Gen.facts,
    Cert.RestReferenceIdeal.Gen.facts,
    Cert.ProjKernel.Gen.facts,
    Cert.ProjKernelIdeal.Gen.facts,
    Cert.ProjReferenceIdeal.Gen.facts,
    Cert.GluKernel.Gen.facts,
    Cert.GluKernelIdeal.Gen.facts,
    Cert.GluReferenceIdeal.Gen.facts,
    Cert.MergeKernel.Gen.facts,
    Cert.MergeKernelIdeal.Gen.facts,
    Cert.MergeReferenceIdeal.Gen.facts,
    Cert.OutKernel.Gen.facts,
    Cert.OutKernelIdeal.Gen.facts,
    Cert.OutReferenceIdeal.Gen.facts,
    Cert.PostKernel.Gen.facts,
    Cert.PostKernelIdeal.Gen.facts,
    Cert.PostReferenceIdeal.Gen.facts,
    Cert.NormKernel.Gen.facts,
    Cert.NormKernelIdeal.Gen.facts,
    Cert.NormReferenceIdeal.Gen.facts,
    Cert.SampleKernel.Gen.facts,
    Cert.SampleKernelIdeal.Gen.facts,
    Cert.SampleReferenceIdeal.Gen.facts,
    pre_facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    fun m ρ _ => Cert.RestKernel.Gen.frame m ρ,
    fun m ρ _ => Cert.RestKernelIdeal.Gen.frame m ρ,
    frame_RestReferenceIdeal,
    fun m ρ _ => Cert.ProjKernel.Gen.frame m ρ,
    fun m ρ _ => Cert.ProjKernelIdeal.Gen.frame m ρ,
    frame_ProjReferenceIdeal,
    fun m ρ _ => Cert.GluKernel.Gen.frame m ρ,
    fun m ρ _ => Cert.GluKernelIdeal.Gen.frame m ρ,
    frame_GluReferenceIdeal,
    fun m ρ _ => Cert.MergeKernel.Gen.frame m ρ,
    fun m ρ _ => Cert.MergeKernelIdeal.Gen.frame m ρ,
    frame_MergeReferenceIdeal,
    fun m ρ _ => Cert.OutKernel.Gen.frame m ρ,
    fun m ρ _ => Cert.OutKernelIdeal.Gen.frame m ρ,
    frame_OutReferenceIdeal,
    fun m ρ _ => Cert.PostKernel.Gen.frame m ρ,
    fun m ρ _ => Cert.PostKernelIdeal.Gen.frame m ρ,
    frame_PostReferenceIdeal,
    fun m ρ _ => Cert.NormKernel.Gen.frame m ρ,
    fun m ρ _ => Cert.NormKernelIdeal.Gen.frame m ρ,
    frame_NormReferenceIdeal,
    fun m ρ _ => Cert.SampleKernel.Gen.frame m ρ,
    fun m ρ _ => Cert.SampleKernelIdeal.Gen.frame m ρ,
    frame_SampleReferenceIdeal,
    trivial,
    algebraic_Ssm,
    trivial,
    algebraic_Rest,
    trivial,
    algebraic_Proj,
    trivial,
    algebraic_Glu,
    trivial,
    algebraic_Merge,
    trivial,
    algebraic_Out,
    trivial,
    algebraic_Post,
    trivial,
    algebraic_Norm,
    trivial,
    algebraic_Sample⟩

end Cert.Proof
